-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8192x128 : Shape := ⟨3, ![32, 8192, 128]⟩
abbrev S33554432 : Shape := ⟨1, ![33554432]⟩
abbrev S16384 : Shape := ⟨1, ![16384]⟩
abbrev S_ : Shape := ⟨0, ![]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S32x8192x128, .f32⟩
  | .hbm, ⟨1, _⟩ => ⟨S33554432, .f32⟩
  | .hbm, ⟨2, _⟩ => ⟨S33554432, .f32⟩
  | .hbm, ⟨3, _⟩ => ⟨S32x8192x128, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | _, _ => ⟨S32x8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_17 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let v71 : BitVec 32 := Scalar.addi v3 c0_i32_17
  ![v71.toNat]
def k0_off1_at (r : Fin 4) : BitVec 32 :=
  if r.val < 2 then
    if r.val < 1 then
      0#32
    else
      16384#32
  else
    if r.val < 3 then
      1015808#32
    else
      1032192#32
@[reducible] def k0_t1_loop : Scf.Loop 32 :=
  let c0_i32_19 : BitVec 32 := 0#32
  let c16_i32_20 : BitVec 32 := 16#32
  let v77 : BitVec 32 := Scalar.addi c0_i32_19 c16_i32_20
  let c1_i32_21 : BitVec 32 := 1#32
  ⟨c0_i32_19, v77, c1_i32_21⟩
def k0_off2 (i : grid0.Coords) (k0_t1 : Fin k0_t1_loop.trips) (c0_i32_24 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_23 : BitVec 32 := 4#32
  let v84 : BitVec 32 := Scalar.muli arg16 c4_i32_23
  let v85 : BitVec 32 := Scalar.addi v84 c0_i32_24
  let c16384_i32_25 : BitVec 32 := 16384#32
  let v86 : BitVec 32 := Scalar.muli v85 c16384_i32_25
  let v87 : BitVec 32 := Scalar.addi v3 v86
  ![v87.toNat]
def k0_cond1 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_23 : BitVec 32 := 4#32
  let v84 : BitVec 32 := Scalar.muli arg16 c4_i32_23
  let c0_i32_24 : BitVec 32 := 0#32
  let v85 : BitVec 32 := Scalar.addi v84 c0_i32_24
  let c2_i32_26 : BitVec 32 := 2#32
  let v90 : BitVec 1 := Scalar.cmpi .sge v85 c2_i32_26
  let v91 : BitVec 32 := Scalar.extui v90
  let c0_i32_27 : BitVec 32 := 0#32
  let v92 : BitVec 1 := Scalar.cmpi .ne v91 c0_i32_27
  v92

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_23 : BitVec 32 := 4#32
  let v84 : BitVec 32 := Scalar.muli arg16 c4_i32_23
  let c0_i32_24 : BitVec 32 := 0#32
  let v85 : BitVec 32 := Scalar.addi v84 c0_i32_24
  let c2_i32_78 : BitVec 32 := 2#32
  let v156 : BitVec 32 := Scalar.subi v85 c2_i32_78
  let c16384_i32_79 : BitVec 32 := 16384#32
  let v157 : BitVec 32 := Scalar.muli v156 c16384_i32_79
  let v158 : BitVec 32 := Scalar.addi v3 v157
  ![v158.toNat]
def k0_cond2 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_23 : BitVec 32 := 4#32
  let v84 : BitVec 32 := Scalar.muli arg16 c4_i32_23
  let c0_i32_24 : BitVec 32 := 0#32
  let v85 : BitVec 32 := Scalar.addi v84 c0_i32_24
  let c2_i32_28 : BitVec 32 := 2#32
  let v93 : BitVec 32 := Scalar.addi v85 c2_i32_28
  let c64_i32 : BitVec 32 := 64#32
  let v94 : BitVec 1 := Scalar.cmpi .slt v93 c64_i32
  let v95 : BitVec 32 := Scalar.extui v94
  let c0_i32_29 : BitVec 32 := 0#32
  let v96 : BitVec 1 := Scalar.cmpi .ne v95 c0_i32_29
  v96

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_23 : BitVec 32 := 4#32
  let v84 : BitVec 32 := Scalar.muli arg16 c4_i32_23
  let c0_i32_24 : BitVec 32 := 0#32
  let v85 : BitVec 32 := Scalar.addi v84 c0_i32_24
  let c2_i32_78 : BitVec 32 := 2#32
  let v156 : BitVec 32 := Scalar.addi v85 c2_i32_78
  let c16384_i32_79 : BitVec 32 := 16384#32
  let v157 : BitVec 32 := Scalar.muli v156 c16384_i32_79
  let v158 : BitVec 32 := Scalar.addi v3 v157
  ![v158.toNat]
@[reducible] def k0_t2_loop : Scf.Loop 32 :=
  let c0_i32_31 : BitVec 32 := 0#32
  let c8_i32_32 : BitVec 32 := 8#32
  let v97 : BitVec 32 := Scalar.addi c0_i32_31 c8_i32_32
  let c1_i32_33 : BitVec 32 := 1#32
  ⟨c0_i32_31, v97, c1_i32_33⟩

def k0_chk1 (v160 : IVec S16 32) : Prop :=
  (∀ a x, ((![v160] : Fin 1 → IVec S16 32) a x).toNat < S16384.size a)
theorem k0_idx1_inb : ∀ (v160 : IVec S16 32) (k0_hw1 : k0_chk1 v160), ∀ a x, ((![v160] : Fin 1 → IVec S16 32) a x).toNat < S16384.size a := fun v160 k0_hw1 => k0_hw1

def k0_chk2 (v163 : IVec S16 32) : Prop :=
  (∀ a x, ((![v163] : Fin 1 → IVec S16 32) a x).toNat < S16384.size a)
theorem k0_idx2_inb : ∀ (v163 : IVec S16 32) (k0_hw2 : k0_chk2 v163), ∀ a x, ((![v163] : Fin 1 → IVec S16 32) a x).toNat < S16384.size a := fun v163 k0_hw2 => k0_hw2

def k0_chk3 (v172 : IVec S16 32) : Prop :=
  (∀ a x, ((![v172] : Fin 1 → IVec S16 32) a x).toNat < S16384.size a)
theorem k0_idx3_inb : ∀ (v172 : IVec S16 32) (k0_hw3 : k0_chk3 v172), ∀ a x, ((![v172] : Fin 1 → IVec S16 32) a x).toNat < S16384.size a := fun v172 k0_hw3 => k0_hw3

def k0_chk4 (v174 : IVec S16 32) : Prop :=
  (∀ a x, ((![v174] : Fin 1 → IVec S16 32) a x).toNat < S16384.size a)
theorem k0_idx4_inb : ∀ (v174 : IVec S16 32) (k0_hw4 : k0_chk4 v174), ∀ a x, ((![v174] : Fin 1 → IVec S16 32) a x).toNat < S16384.size a := fun v174 k0_hw4 => k0_hw4

def k0_chk5 (v176 : IVec S16 32) : Prop :=
  (∀ a x, ((![v176] : Fin 1 → IVec S16 32) a x).toNat < S16384.size a)
theorem k0_idx5_inb : ∀ (v176 : IVec S16 32) (k0_hw5 : k0_chk5 v176), ∀ a x, ((![v176] : Fin 1 → IVec S16 32) a x).toNat < S16384.size a := fun v176 k0_hw5 => k0_hw5

def k0_chk6 (v178 : IVec S16 32) : Prop :=
  (∀ a x, ((![v178] : Fin 1 → IVec S16 32) a x).toNat < S16384.size a)
theorem k0_idx6_inb : ∀ (v178 : IVec S16 32) (k0_hw6 : k0_chk6 v178), ∀ a x, ((![v178] : Fin 1 → IVec S16 32) a x).toNat < S16384.size a := fun v178 k0_hw6 => k0_hw6

def k0_chk7 (v180 : IVec S16 32) : Prop :=
  (∀ a x, ((![v180] : Fin 1 → IVec S16 32) a x).toNat < S16384.size a)
theorem k0_idx7_inb : ∀ (v180 : IVec S16 32) (k0_hw7 : k0_chk7 v180), ∀ a x, ((![v180] : Fin 1 → IVec S16 32) a x).toNat < S16384.size a := fun v180 k0_hw7 => k0_hw7

def k0_chk8 (v182 : IVec S16 32) : Prop :=
  (∀ a x, ((![v182] : Fin 1 → IVec S16 32) a x).toNat < S16384.size a)
theorem k0_idx8_inb : ∀ (v182 : IVec S16 32) (k0_hw8 : k0_chk8 v182), ∀ a x, ((![v182] : Fin 1 → IVec S16 32) a x).toNat < S16384.size a := fun v182 k0_hw8 => k0_hw8

def k0_chk9 (v184 : IVec S16 32) : Prop :=
  (∀ a x, ((![v184] : Fin 1 → IVec S16 32) a x).toNat < S16384.size a)
theorem k0_idx9_inb : ∀ (v184 : IVec S16 32) (k0_hw9 : k0_chk9 v184), ∀ a x, ((![v184] : Fin 1 → IVec S16 32) a x).toNat < S16384.size a := fun v184 k0_hw9 => k0_hw9

def k0_chk10 (v186 : IVec S16 32) : Prop :=
  (∀ a x, ((![v186] : Fin 1 → IVec S16 32) a x).toNat < S16384.size a)
theorem k0_idx10_inb : ∀ (v186 : IVec S16 32) (k0_hw10 : k0_chk10 v186), ∀ a x, ((![v186] : Fin 1 → IVec S16 32) a x).toNat < S16384.size a := fun v186 k0_hw10 => k0_hw10

def k0_chk11 (v188 : IVec S16 32) : Prop :=
  (∀ a x, ((![v188] : Fin 1 → IVec S16 32) a x).toNat < S16384.size a)
theorem k0_idx11_inb : ∀ (v188 : IVec S16 32) (k0_hw11 : k0_chk11 v188), ∀ a x, ((![v188] : Fin 1 → IVec S16 32) a x).toNat < S16384.size a := fun v188 k0_hw11 => k0_hw11

def k0_chk12 (v190 : IVec S16 32) : Prop :=
  (∀ a x, ((![v190] : Fin 1 → IVec S16 32) a x).toNat < S16384.size a)
theorem k0_idx12_inb : ∀ (v190 : IVec S16 32) (k0_hw12 : k0_chk12 v190), ∀ a x, ((![v190] : Fin 1 → IVec S16 32) a x).toNat < S16384.size a := fun v190 k0_hw12 => k0_hw12

def k0_chk13 (v192 : IVec S16 32) : Prop :=
  (∀ a x, ((![v192] : Fin 1 → IVec S16 32) a x).toNat < S16384.size a)
theorem k0_idx13_inb : ∀ (v192 : IVec S16 32) (k0_hw13 : k0_chk13 v192), ∀ a x, ((![v192] : Fin 1 → IVec S16 32) a x).toNat < S16384.size a := fun v192 k0_hw13 => k0_hw13

def k0_chk14 (v194 : IVec S16 32) : Prop :=
  (∀ a x, ((![v194] : Fin 1 → IVec S16 32) a x).toNat < S16384.size a)
theorem k0_idx14_inb : ∀ (v194 : IVec S16 32) (k0_hw14 : k0_chk14 v194), ∀ a x, ((![v194] : Fin 1 → IVec S16 32) a x).toNat < S16384.size a := fun v194 k0_hw14 => k0_hw14

def k0_chk15 (v196 : IVec S16 32) : Prop :=
  (∀ a x, ((![v196] : Fin 1 → IVec S16 32) a x).toNat < S16384.size a)
theorem k0_idx15_inb : ∀ (v196 : IVec S16 32) (k0_hw15 : k0_chk15 v196), ∀ a x, ((![v196] : Fin 1 → IVec S16 32) a x).toNat < S16384.size a := fun v196 k0_hw15 => k0_hw15

def k0_chk16 (v198 : IVec S16 32) : Prop :=
  (∀ a x, ((![v198] : Fin 1 → IVec S16 32) a x).toNat < S16384.size a)
theorem k0_idx16_inb : ∀ (v198 : IVec S16 32) (k0_hw16 : k0_chk16 v198), ∀ a x, ((![v198] : Fin 1 → IVec S16 32) a x).toNat < S16384.size a := fun v198 k0_hw16 => k0_hw16

def k0_chk17 (v200 : IVec S16 32) : Prop :=
  (∀ a x, ((![v200] : Fin 1 → IVec S16 32) a x).toNat < S16384.size a)
theorem k0_idx17_inb : ∀ (v200 : IVec S16 32) (k0_hw17 : k0_chk17 v200), ∀ a x, ((![v200] : Fin 1 → IVec S16 32) a x).toNat < S16384.size a := fun v200 k0_hw17 => k0_hw17

def k0_chk18 (v202 : IVec S16 32) : Prop :=
  (∀ a x, ((![v202] : Fin 1 → IVec S16 32) a x).toNat < S16384.size a)
theorem k0_idx18_inb : ∀ (v202 : IVec S16 32) (k0_hw18 : k0_chk18 v202), ∀ a x, ((![v202] : Fin 1 → IVec S16 32) a x).toNat < S16384.size a := fun v202 k0_hw18 => k0_hw18

def k0_chk19 (v268 : IVec S16 32) : Prop :=
  (∀ a x, ((![v268] : Fin 1 → IVec S16 32) a x).toNat < S16384.size a)
theorem k0_idx19_inb : ∀ (v268 : IVec S16 32) (k0_hw19 : k0_chk19 v268), ∀ a x, ((![v268] : Fin 1 → IVec S16 32) a x).toNat < S16384.size a := fun v268 k0_hw19 => k0_hw19

def k0_chk20 (v270 : IVec S16 32) : Prop :=
  (∀ a x, ((![v270] : Fin 1 → IVec S16 32) a x).toNat < S16384.size a)
theorem k0_idx20_inb : ∀ (v270 : IVec S16 32) (k0_hw20 : k0_chk20 v270), ∀ a x, ((![v270] : Fin 1 → IVec S16 32) a x).toNat < S16384.size a := fun v270 k0_hw20 => k0_hw20

def k0_chk21 (v272 : IVec S16 32) : Prop :=
  (∀ a x, ((![v272] : Fin 1 → IVec S16 32) a x).toNat < S16384.size a)
theorem k0_idx21_inb : ∀ (v272 : IVec S16 32) (k0_hw21 : k0_chk21 v272), ∀ a x, ((![v272] : Fin 1 → IVec S16 32) a x).toNat < S16384.size a := fun v272 k0_hw21 => k0_hw21

def k0_chk22 (v274 : IVec S16 32) : Prop :=
  (∀ a x, ((![v274] : Fin 1 → IVec S16 32) a x).toNat < S16384.size a)
theorem k0_idx22_inb : ∀ (v274 : IVec S16 32) (k0_hw22 : k0_chk22 v274), ∀ a x, ((![v274] : Fin 1 → IVec S16 32) a x).toNat < S16384.size a := fun v274 k0_hw22 => k0_hw22

def k0_chk23 (v276 : IVec S16 32) : Prop :=
  (∀ a x, ((![v276] : Fin 1 → IVec S16 32) a x).toNat < S16384.size a)
theorem k0_idx23_inb : ∀ (v276 : IVec S16 32) (k0_hw23 : k0_chk23 v276), ∀ a x, ((![v276] : Fin 1 → IVec S16 32) a x).toNat < S16384.size a := fun v276 k0_hw23 => k0_hw23

def k0_chk24 (v278 : IVec S16 32) : Prop :=
  (∀ a x, ((![v278] : Fin 1 → IVec S16 32) a x).toNat < S16384.size a)
theorem k0_idx24_inb : ∀ (v278 : IVec S16 32) (k0_hw24 : k0_chk24 v278), ∀ a x, ((![v278] : Fin 1 → IVec S16 32) a x).toNat < S16384.size a := fun v278 k0_hw24 => k0_hw24

def k0_chk25 (v280 : IVec S16 32) : Prop :=
  (∀ a x, ((![v280] : Fin 1 → IVec S16 32) a x).toNat < S16384.size a)
theorem k0_idx25_inb : ∀ (v280 : IVec S16 32) (k0_hw25 : k0_chk25 v280), ∀ a x, ((![v280] : Fin 1 → IVec S16 32) a x).toNat < S16384.size a := fun v280 k0_hw25 => k0_hw25

def k0_chk26 (v282 : IVec S16 32) : Prop :=
  (∀ a x, ((![v282] : Fin 1 → IVec S16 32) a x).toNat < S16384.size a)
theorem k0_idx26_inb : ∀ (v282 : IVec S16 32) (k0_hw26 : k0_chk26 v282), ∀ a x, ((![v282] : Fin 1 → IVec S16 32) a x).toNat < S16384.size a := fun v282 k0_hw26 => k0_hw26

def k0_chk27 (v284 : IVec S16 32) : Prop :=
  (∀ a x, ((![v284] : Fin 1 → IVec S16 32) a x).toNat < S16384.size a)
theorem k0_idx27_inb : ∀ (v284 : IVec S16 32) (k0_hw27 : k0_chk27 v284), ∀ a x, ((![v284] : Fin 1 → IVec S16 32) a x).toNat < S16384.size a := fun v284 k0_hw27 => k0_hw27

def k0_chk28 (v286 : IVec S16 32) : Prop :=
  (∀ a x, ((![v286] : Fin 1 → IVec S16 32) a x).toNat < S16384.size a)
theorem k0_idx28_inb : ∀ (v286 : IVec S16 32) (k0_hw28 : k0_chk28 v286), ∀ a x, ((![v286] : Fin 1 → IVec S16 32) a x).toNat < S16384.size a := fun v286 k0_hw28 => k0_hw28

def k0_chk29 (v288 : IVec S16 32) : Prop :=
  (∀ a x, ((![v288] : Fin 1 → IVec S16 32) a x).toNat < S16384.size a)
theorem k0_idx29_inb : ∀ (v288 : IVec S16 32) (k0_hw29 : k0_chk29 v288), ∀ a x, ((![v288] : Fin 1 → IVec S16 32) a x).toNat < S16384.size a := fun v288 k0_hw29 => k0_hw29

def k0_chk30 (v290 : IVec S16 32) : Prop :=
  (∀ a x, ((![v290] : Fin 1 → IVec S16 32) a x).toNat < S16384.size a)
theorem k0_idx30_inb : ∀ (v290 : IVec S16 32) (k0_hw30 : k0_chk30 v290), ∀ a x, ((![v290] : Fin 1 → IVec S16 32) a x).toNat < S16384.size a := fun v290 k0_hw30 => k0_hw30

def k0_chk31 (v292 : IVec S16 32) : Prop :=
  (∀ a x, ((![v292] : Fin 1 → IVec S16 32) a x).toNat < S16384.size a)
theorem k0_idx31_inb : ∀ (v292 : IVec S16 32) (k0_hw31 : k0_chk31 v292), ∀ a x, ((![v292] : Fin 1 → IVec S16 32) a x).toNat < S16384.size a := fun v292 k0_hw31 => k0_hw31

def k0_chk32 (v294 : IVec S16 32) : Prop :=
  (∀ a x, ((![v294] : Fin 1 → IVec S16 32) a x).toNat < S16384.size a)
theorem k0_idx32_inb : ∀ (v294 : IVec S16 32) (k0_hw32 : k0_chk32 v294), ∀ a x, ((![v294] : Fin 1 → IVec S16 32) a x).toNat < S16384.size a := fun v294 k0_hw32 => k0_hw32

def k0_chk33 (v296 : IVec S16 32) : Prop :=
  (∀ a x, ((![v296] : Fin 1 → IVec S16 32) a x).toNat < S16384.size a)
theorem k0_idx33_inb : ∀ (v296 : IVec S16 32) (k0_hw33 : k0_chk33 v296), ∀ a x, ((![v296] : Fin 1 → IVec S16 32) a x).toNat < S16384.size a := fun v296 k0_hw33 => k0_hw33

def k0_chk34 (v298 : IVec S16 32) : Prop :=
  (∀ a x, ((![v298] : Fin 1 → IVec S16 32) a x).toNat < S16384.size a)
theorem k0_idx34_inb : ∀ (v298 : IVec S16 32) (k0_hw34 : k0_chk34 v298), ∀ a x, ((![v298] : Fin 1 → IVec S16 32) a x).toNat < S16384.size a := fun v298 k0_hw34 => k0_hw34

def k0_chk35 (v367 : IVec S16 32) : Prop :=
  (∀ a x, ((![v367] : Fin 1 → IVec S16 32) a x).toNat < S16384.size a)
theorem k0_idx35_inb : ∀ (v367 : IVec S16 32) (k0_hw35 : k0_chk35 v367), ∀ a x, ((![v367] : Fin 1 → IVec S16 32) a x).toNat < S16384.size a := fun v367 k0_hw35 => k0_hw35

def k0_chk36 (v369 : IVec S16 32) : Prop :=
  (∀ a x, ((![v369] : Fin 1 → IVec S16 32) a x).toNat < S16384.size a)
theorem k0_idx36_inb : ∀ (v369 : IVec S16 32) (k0_hw36 : k0_chk36 v369), ∀ a x, ((![v369] : Fin 1 → IVec S16 32) a x).toNat < S16384.size a := fun v369 k0_hw36 => k0_hw36

def k0_chk37 (v371 : IVec S16 32) : Prop :=
  (∀ a x, ((![v371] : Fin 1 → IVec S16 32) a x).toNat < S16384.size a)
theorem k0_idx37_inb : ∀ (v371 : IVec S16 32) (k0_hw37 : k0_chk37 v371), ∀ a x, ((![v371] : Fin 1 → IVec S16 32) a x).toNat < S16384.size a := fun v371 k0_hw37 => k0_hw37

def k0_chk38 (v373 : IVec S16 32) : Prop :=
  (∀ a x, ((![v373] : Fin 1 → IVec S16 32) a x).toNat < S16384.size a)
theorem k0_idx38_inb : ∀ (v373 : IVec S16 32) (k0_hw38 : k0_chk38 v373), ∀ a x, ((![v373] : Fin 1 → IVec S16 32) a x).toNat < S16384.size a := fun v373 k0_hw38 => k0_hw38

def k0_chk39 (v375 : IVec S16 32) : Prop :=
  (∀ a x, ((![v375] : Fin 1 → IVec S16 32) a x).toNat < S16384.size a)
theorem k0_idx39_inb : ∀ (v375 : IVec S16 32) (k0_hw39 : k0_chk39 v375), ∀ a x, ((![v375] : Fin 1 → IVec S16 32) a x).toNat < S16384.size a := fun v375 k0_hw39 => k0_hw39

def k0_chk40 (v377 : IVec S16 32) : Prop :=
  (∀ a x, ((![v377] : Fin 1 → IVec S16 32) a x).toNat < S16384.size a)
theorem k0_idx40_inb : ∀ (v377 : IVec S16 32) (k0_hw40 : k0_chk40 v377), ∀ a x, ((![v377] : Fin 1 → IVec S16 32) a x).toNat < S16384.size a := fun v377 k0_hw40 => k0_hw40

def k0_chk41 (v379 : IVec S16 32) : Prop :=
  (∀ a x, ((![v379] : Fin 1 → IVec S16 32) a x).toNat < S16384.size a)
theorem k0_idx41_inb : ∀ (v379 : IVec S16 32) (k0_hw41 : k0_chk41 v379), ∀ a x, ((![v379] : Fin 1 → IVec S16 32) a x).toNat < S16384.size a := fun v379 k0_hw41 => k0_hw41

def k0_chk42 (v381 : IVec S16 32) : Prop :=
  (∀ a x, ((![v381] : Fin 1 → IVec S16 32) a x).toNat < S16384.size a)
theorem k0_idx42_inb : ∀ (v381 : IVec S16 32) (k0_hw42 : k0_chk42 v381), ∀ a x, ((![v381] : Fin 1 → IVec S16 32) a x).toNat < S16384.size a := fun v381 k0_hw42 => k0_hw42

def k0_chk43 (v383 : IVec S16 32) : Prop :=
  (∀ a x, ((![v383] : Fin 1 → IVec S16 32) a x).toNat < S16384.size a)
theorem k0_idx43_inb : ∀ (v383 : IVec S16 32) (k0_hw43 : k0_chk43 v383), ∀ a x, ((![v383] : Fin 1 → IVec S16 32) a x).toNat < S16384.size a := fun v383 k0_hw43 => k0_hw43

def k0_chk44 (v385 : IVec S16 32) : Prop :=
  (∀ a x, ((![v385] : Fin 1 → IVec S16 32) a x).toNat < S16384.size a)
theorem k0_idx44_inb : ∀ (v385 : IVec S16 32) (k0_hw44 : k0_chk44 v385), ∀ a x, ((![v385] : Fin 1 → IVec S16 32) a x).toNat < S16384.size a := fun v385 k0_hw44 => k0_hw44

def k0_chk45 (v387 : IVec S16 32) : Prop :=
  (∀ a x, ((![v387] : Fin 1 → IVec S16 32) a x).toNat < S16384.size a)
theorem k0_idx45_inb : ∀ (v387 : IVec S16 32) (k0_hw45 : k0_chk45 v387), ∀ a x, ((![v387] : Fin 1 → IVec S16 32) a x).toNat < S16384.size a := fun v387 k0_hw45 => k0_hw45

def k0_chk46 (v389 : IVec S16 32) : Prop :=
  (∀ a x, ((![v389] : Fin 1 → IVec S16 32) a x).toNat < S16384.size a)
theorem k0_idx46_inb : ∀ (v389 : IVec S16 32) (k0_hw46 : k0_chk46 v389), ∀ a x, ((![v389] : Fin 1 → IVec S16 32) a x).toNat < S16384.size a := fun v389 k0_hw46 => k0_hw46

def k0_chk47 (v391 : IVec S16 32) : Prop :=
  (∀ a x, ((![v391] : Fin 1 → IVec S16 32) a x).toNat < S16384.size a)
theorem k0_idx47_inb : ∀ (v391 : IVec S16 32) (k0_hw47 : k0_chk47 v391), ∀ a x, ((![v391] : Fin 1 → IVec S16 32) a x).toNat < S16384.size a := fun v391 k0_hw47 => k0_hw47

def k0_chk48 (v393 : IVec S16 32) : Prop :=
  (∀ a x, ((![v393] : Fin 1 → IVec S16 32) a x).toNat < S16384.size a)
theorem k0_idx48_inb : ∀ (v393 : IVec S16 32) (k0_hw48 : k0_chk48 v393), ∀ a x, ((![v393] : Fin 1 → IVec S16 32) a x).toNat < S16384.size a := fun v393 k0_hw48 => k0_hw48

def k0_chk49 (v395 : IVec S16 32) : Prop :=
  (∀ a x, ((![v395] : Fin 1 → IVec S16 32) a x).toNat < S16384.size a)
theorem k0_idx49_inb : ∀ (v395 : IVec S16 32) (k0_hw49 : k0_chk49 v395), ∀ a x, ((![v395] : Fin 1 → IVec S16 32) a x).toNat < S16384.size a := fun v395 k0_hw49 => k0_hw49

def k0_chk50 (v397 : IVec S16 32) : Prop :=
  (∀ a x, ((![v397] : Fin 1 → IVec S16 32) a x).toNat < S16384.size a)
theorem k0_idx50_inb : ∀ (v397 : IVec S16 32) (k0_hw50 : k0_chk50 v397), ∀ a x, ((![v397] : Fin 1 → IVec S16 32) a x).toNat < S16384.size a := fun v397 k0_hw50 => k0_hw50

def k0_chk51 (v463 : IVec S16 32) : Prop :=
  (∀ a x, ((![v463] : Fin 1 → IVec S16 32) a x).toNat < S16384.size a)
theorem k0_idx51_inb : ∀ (v463 : IVec S16 32) (k0_hw51 : k0_chk51 v463), ∀ a x, ((![v463] : Fin 1 → IVec S16 32) a x).toNat < S16384.size a := fun v463 k0_hw51 => k0_hw51

def k0_chk52 (v465 : IVec S16 32) : Prop :=
  (∀ a x, ((![v465] : Fin 1 → IVec S16 32) a x).toNat < S16384.size a)
theorem k0_idx52_inb : ∀ (v465 : IVec S16 32) (k0_hw52 : k0_chk52 v465), ∀ a x, ((![v465] : Fin 1 → IVec S16 32) a x).toNat < S16384.size a := fun v465 k0_hw52 => k0_hw52

def k0_chk53 (v467 : IVec S16 32) : Prop :=
  (∀ a x, ((![v467] : Fin 1 → IVec S16 32) a x).toNat < S16384.size a)
theorem k0_idx53_inb : ∀ (v467 : IVec S16 32) (k0_hw53 : k0_chk53 v467), ∀ a x, ((![v467] : Fin 1 → IVec S16 32) a x).toNat < S16384.size a := fun v467 k0_hw53 => k0_hw53

def k0_chk54 (v469 : IVec S16 32) : Prop :=
  (∀ a x, ((![v469] : Fin 1 → IVec S16 32) a x).toNat < S16384.size a)
theorem k0_idx54_inb : ∀ (v469 : IVec S16 32) (k0_hw54 : k0_chk54 v469), ∀ a x, ((![v469] : Fin 1 → IVec S16 32) a x).toNat < S16384.size a := fun v469 k0_hw54 => k0_hw54

def k0_chk55 (v471 : IVec S16 32) : Prop :=
  (∀ a x, ((![v471] : Fin 1 → IVec S16 32) a x).toNat < S16384.size a)
theorem k0_idx55_inb : ∀ (v471 : IVec S16 32) (k0_hw55 : k0_chk55 v471), ∀ a x, ((![v471] : Fin 1 → IVec S16 32) a x).toNat < S16384.size a := fun v471 k0_hw55 => k0_hw55

def k0_chk56 (v473 : IVec S16 32) : Prop :=
  (∀ a x, ((![v473] : Fin 1 → IVec S16 32) a x).toNat < S16384.size a)
theorem k0_idx56_inb : ∀ (v473 : IVec S16 32) (k0_hw56 : k0_chk56 v473), ∀ a x, ((![v473] : Fin 1 → IVec S16 32) a x).toNat < S16384.size a := fun v473 k0_hw56 => k0_hw56

def k0_chk57 (v475 : IVec S16 32) : Prop :=
  (∀ a x, ((![v475] : Fin 1 → IVec S16 32) a x).toNat < S16384.size a)
theorem k0_idx57_inb : ∀ (v475 : IVec S16 32) (k0_hw57 : k0_chk57 v475), ∀ a x, ((![v475] : Fin 1 → IVec S16 32) a x).toNat < S16384.size a := fun v475 k0_hw57 => k0_hw57

def k0_chk58 (v477 : IVec S16 32) : Prop :=
  (∀ a x, ((![v477] : Fin 1 → IVec S16 32) a x).toNat < S16384.size a)
theorem k0_idx58_inb : ∀ (v477 : IVec S16 32) (k0_hw58 : k0_chk58 v477), ∀ a x, ((![v477] : Fin 1 → IVec S16 32) a x).toNat < S16384.size a := fun v477 k0_hw58 => k0_hw58

def k0_chk59 (v479 : IVec S16 32) : Prop :=
  (∀ a x, ((![v479] : Fin 1 → IVec S16 32) a x).toNat < S16384.size a)
theorem k0_idx59_inb : ∀ (v479 : IVec S16 32) (k0_hw59 : k0_chk59 v479), ∀ a x, ((![v479] : Fin 1 → IVec S16 32) a x).toNat < S16384.size a := fun v479 k0_hw59 => k0_hw59

def k0_chk60 (v481 : IVec S16 32) : Prop :=
  (∀ a x, ((![v481] : Fin 1 → IVec S16 32) a x).toNat < S16384.size a)
theorem k0_idx60_inb : ∀ (v481 : IVec S16 32) (k0_hw60 : k0_chk60 v481), ∀ a x, ((![v481] : Fin 1 → IVec S16 32) a x).toNat < S16384.size a := fun v481 k0_hw60 => k0_hw60

def k0_chk61 (v483 : IVec S16 32) : Prop :=
  (∀ a x, ((![v483] : Fin 1 → IVec S16 32) a x).toNat < S16384.size a)
theorem k0_idx61_inb : ∀ (v483 : IVec S16 32) (k0_hw61 : k0_chk61 v483), ∀ a x, ((![v483] : Fin 1 → IVec S16 32) a x).toNat < S16384.size a := fun v483 k0_hw61 => k0_hw61

def k0_chk62 (v485 : IVec S16 32) : Prop :=
  (∀ a x, ((![v485] : Fin 1 → IVec S16 32) a x).toNat < S16384.size a)
theorem k0_idx62_inb : ∀ (v485 : IVec S16 32) (k0_hw62 : k0_chk62 v485), ∀ a x, ((![v485] : Fin 1 → IVec S16 32) a x).toNat < S16384.size a := fun v485 k0_hw62 => k0_hw62

def k0_chk63 (v487 : IVec S16 32) : Prop :=
  (∀ a x, ((![v487] : Fin 1 → IVec S16 32) a x).toNat < S16384.size a)
theorem k0_idx63_inb : ∀ (v487 : IVec S16 32) (k0_hw63 : k0_chk63 v487), ∀ a x, ((![v487] : Fin 1 → IVec S16 32) a x).toNat < S16384.size a := fun v487 k0_hw63 => k0_hw63

def k0_chk64 (v489 : IVec S16 32) : Prop :=
  (∀ a x, ((![v489] : Fin 1 → IVec S16 32) a x).toNat < S16384.size a)
theorem k0_idx64_inb : ∀ (v489 : IVec S16 32) (k0_hw64 : k0_chk64 v489), ∀ a x, ((![v489] : Fin 1 → IVec S16 32) a x).toNat < S16384.size a := fun v489 k0_hw64 => k0_hw64

def k0_chk65 (v491 : IVec S16 32) : Prop :=
  (∀ a x, ((![v491] : Fin 1 → IVec S16 32) a x).toNat < S16384.size a)
theorem k0_idx65_inb : ∀ (v491 : IVec S16 32) (k0_hw65 : k0_chk65 v491), ∀ a x, ((![v491] : Fin 1 → IVec S16 32) a x).toNat < S16384.size a := fun v491 k0_hw65 => k0_hw65

def k0_chk66 (v493 : IVec S16 32) : Prop :=
  (∀ a x, ((![v493] : Fin 1 → IVec S16 32) a x).toNat < S16384.size a)
theorem k0_idx66_inb : ∀ (v493 : IVec S16 32) (k0_hw66 : k0_chk66 v493), ∀ a x, ((![v493] : Fin 1 → IVec S16 32) a x).toNat < S16384.size a := fun v493 k0_hw66 => k0_hw66

def k0_chk67 (v567 : IVec S16 32) : Prop :=
  (∀ a x, ((![v567] : Fin 1 → IVec S16 32) a x).toNat < S16384.size a)
theorem k0_idx67_inb : ∀ (v567 : IVec S16 32) (k0_hw67 : k0_chk67 v567), ∀ a x, ((![v567] : Fin 1 → IVec S16 32) a x).toNat < S16384.size a := fun v567 k0_hw67 => k0_hw67

def k0_chk68 (v572 : IVec S16 32) : Prop :=
  (∀ a x, ((![v572] : Fin 1 → IVec S16 32) a x).toNat < S16384.size a)
theorem k0_idx68_inb : ∀ (v572 : IVec S16 32) (k0_hw68 : k0_chk68 v572), ∀ a x, ((![v572] : Fin 1 → IVec S16 32) a x).toNat < S16384.size a := fun v572 k0_hw68 => k0_hw68
def k0_cond3 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_36 : BitVec 32 := 4#32
  let v102 : BitVec 32 := Scalar.muli arg16 c4_i32_36
  let c1_i32_37 : BitVec 32 := 1#32
  let v103 : BitVec 32 := Scalar.addi v102 c1_i32_37
  let c2_i32_39 : BitVec 32 := 2#32
  let v108 : BitVec 1 := Scalar.cmpi .sge v103 c2_i32_39
  let v109 : BitVec 32 := Scalar.extui v108
  let c0_i32_40 : BitVec 32 := 0#32
  let v110 : BitVec 1 := Scalar.cmpi .ne v109 c0_i32_40
  v110

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_36 : BitVec 32 := 4#32
  let v102 : BitVec 32 := Scalar.muli arg16 c4_i32_36
  let c1_i32_37 : BitVec 32 := 1#32
  let v103 : BitVec 32 := Scalar.addi v102 c1_i32_37
  let c2_i32_78 : BitVec 32 := 2#32
  let v156 : BitVec 32 := Scalar.subi v103 c2_i32_78
  let c16384_i32_79 : BitVec 32 := 16384#32
  let v157 : BitVec 32 := Scalar.muli v156 c16384_i32_79
  let v158 : BitVec 32 := Scalar.addi v3 v157
  ![v158.toNat]
def k0_cond4 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_36 : BitVec 32 := 4#32
  let v102 : BitVec 32 := Scalar.muli arg16 c4_i32_36
  let c1_i32_37 : BitVec 32 := 1#32
  let v103 : BitVec 32 := Scalar.addi v102 c1_i32_37
  let c2_i32_41 : BitVec 32 := 2#32
  let v111 : BitVec 32 := Scalar.addi v103 c2_i32_41
  let c64_i32_42 : BitVec 32 := 64#32
  let v112 : BitVec 1 := Scalar.cmpi .slt v111 c64_i32_42
  let v113 : BitVec 32 := Scalar.extui v112
  let c0_i32_43 : BitVec 32 := 0#32
  let v114 : BitVec 1 := Scalar.cmpi .ne v113 c0_i32_43
  v114

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_36 : BitVec 32 := 4#32
  let v102 : BitVec 32 := Scalar.muli arg16 c4_i32_36
  let c1_i32_37 : BitVec 32 := 1#32
  let v103 : BitVec 32 := Scalar.addi v102 c1_i32_37
  let c2_i32_78 : BitVec 32 := 2#32
  let v156 : BitVec 32 := Scalar.addi v103 c2_i32_78
  let c16384_i32_79 : BitVec 32 := 16384#32
  let v157 : BitVec 32 := Scalar.muli v156 c16384_i32_79
  let v158 : BitVec 32 := Scalar.addi v3 v157
  ![v158.toNat]
@[reducible] def k0_t3_loop : Scf.Loop 32 :=
  let c0_i32_45 : BitVec 32 := 0#32
  let c8_i32_46 : BitVec 32 := 8#32
  let v115 : BitVec 32 := Scalar.addi c0_i32_45 c8_i32_46
  let c1_i32_47 : BitVec 32 := 1#32
  ⟨c0_i32_45, v115, c1_i32_47⟩

def k0_chk69 (v160 : IVec S16 32) : Prop :=
  (∀ a x, ((![v160] : Fin 1 → IVec S16 32) a x).toNat < S16384.size a)
theorem k0_idx69_inb : ∀ (v160 : IVec S16 32) (k0_hw69 : k0_chk69 v160), ∀ a x, ((![v160] : Fin 1 → IVec S16 32) a x).toNat < S16384.size a := fun v160 k0_hw69 => k0_hw69

def k0_chk70 (v163 : IVec S16 32) : Prop :=
  (∀ a x, ((![v163] : Fin 1 → IVec S16 32) a x).toNat < S16384.size a)
theorem k0_idx70_inb : ∀ (v163 : IVec S16 32) (k0_hw70 : k0_chk70 v163), ∀ a x, ((![v163] : Fin 1 → IVec S16 32) a x).toNat < S16384.size a := fun v163 k0_hw70 => k0_hw70

def k0_chk71 (v172 : IVec S16 32) : Prop :=
  (∀ a x, ((![v172] : Fin 1 → IVec S16 32) a x).toNat < S16384.size a)
theorem k0_idx71_inb : ∀ (v172 : IVec S16 32) (k0_hw71 : k0_chk71 v172), ∀ a x, ((![v172] : Fin 1 → IVec S16 32) a x).toNat < S16384.size a := fun v172 k0_hw71 => k0_hw71

def k0_chk72 (v174 : IVec S16 32) : Prop :=
  (∀ a x, ((![v174] : Fin 1 → IVec S16 32) a x).toNat < S16384.size a)
theorem k0_idx72_inb : ∀ (v174 : IVec S16 32) (k0_hw72 : k0_chk72 v174), ∀ a x, ((![v174] : Fin 1 → IVec S16 32) a x).toNat < S16384.size a := fun v174 k0_hw72 => k0_hw72

def k0_chk73 (v176 : IVec S16 32) : Prop :=
  (∀ a x, ((![v176] : Fin 1 → IVec S16 32) a x).toNat < S16384.size a)
theorem k0_idx73_inb : ∀ (v176 : IVec S16 32) (k0_hw73 : k0_chk73 v176), ∀ a x, ((![v176] : Fin 1 → IVec S16 32) a x).toNat < S16384.size a := fun v176 k0_hw73 => k0_hw73

def k0_chk74 (v178 : IVec S16 32) : Prop :=
  (∀ a x, ((![v178] : Fin 1 → IVec S16 32) a x).toNat < S16384.size a)
theorem k0_idx74_inb : ∀ (v178 : IVec S16 32) (k0_hw74 : k0_chk74 v178), ∀ a x, ((![v178] : Fin 1 → IVec S16 32) a x).toNat < S16384.size a := fun v178 k0_hw74 => k0_hw74

def k0_chk75 (v180 : IVec S16 32) : Prop :=
  (∀ a x, ((![v180] : Fin 1 → IVec S16 32) a x).toNat < S16384.size a)
theorem k0_idx75_inb : ∀ (v180 : IVec S16 32) (k0_hw75 : k0_chk75 v180), ∀ a x, ((![v180] : Fin 1 → IVec S16 32) a x).toNat < S16384.size a := fun v180 k0_hw75 => k0_hw75

def k0_chk76 (v182 : IVec S16 32) : Prop :=
  (∀ a x, ((![v182] : Fin 1 → IVec S16 32) a x).toNat < S16384.size a)
theorem k0_idx76_inb : ∀ (v182 : IVec S16 32) (k0_hw76 : k0_chk76 v182), ∀ a x, ((![v182] : Fin 1 → IVec S16 32) a x).toNat < S16384.size a := fun v182 k0_hw76 => k0_hw76

def k0_chk77 (v184 : IVec S16 32) : Prop :=
  (∀ a x, ((![v184] : Fin 1 → IVec S16 32) a x).toNat < S16384.size a)
theorem k0_idx77_inb : ∀ (v184 : IVec S16 32) (k0_hw77 : k0_chk77 v184), ∀ a x, ((![v184] : Fin 1 → IVec S16 32) a x).toNat < S16384.size a := fun v184 k0_hw77 => k0_hw77

def k0_chk78 (v186 : IVec S16 32) : Prop :=
  (∀ a x, ((![v186] : Fin 1 → IVec S16 32) a x).toNat < S16384.size a)
theorem k0_idx78_inb : ∀ (v186 : IVec S16 32) (k0_hw78 : k0_chk78 v186), ∀ a x, ((![v186] : Fin 1 → IVec S16 32) a x).toNat < S16384.size a := fun v186 k0_hw78 => k0_hw78

def k0_chk79 (v188 : IVec S16 32) : Prop :=
  (∀ a x, ((![v188] : Fin 1 → IVec S16 32) a x).toNat < S16384.size a)
theorem k0_idx79_inb : ∀ (v188 : IVec S16 32) (k0_hw79 : k0_chk79 v188), ∀ a x, ((![v188] : Fin 1 → IVec S16 32) a x).toNat < S16384.size a := fun v188 k0_hw79 => k0_hw79

def k0_chk80 (v190 : IVec S16 32) : Prop :=
  (∀ a x, ((![v190] : Fin 1 → IVec S16 32) a x).toNat < S16384.size a)
theorem k0_idx80_inb : ∀ (v190 : IVec S16 32) (k0_hw80 : k0_chk80 v190), ∀ a x, ((![v190] : Fin 1 → IVec S16 32) a x).toNat < S16384.size a := fun v190 k0_hw80 => k0_hw80

def k0_chk81 (v192 : IVec S16 32) : Prop :=
  (∀ a x, ((![v192] : Fin 1 → IVec S16 32) a x).toNat < S16384.size a)
theorem k0_idx81_inb : ∀ (v192 : IVec S16 32) (k0_hw81 : k0_chk81 v192), ∀ a x, ((![v192] : Fin 1 → IVec S16 32) a x).toNat < S16384.size a := fun v192 k0_hw81 => k0_hw81

def k0_chk82 (v194 : IVec S16 32) : Prop :=
  (∀ a x, ((![v194] : Fin 1 → IVec S16 32) a x).toNat < S16384.size a)
theorem k0_idx82_inb : ∀ (v194 : IVec S16 32) (k0_hw82 : k0_chk82 v194), ∀ a x, ((![v194] : Fin 1 → IVec S16 32) a x).toNat < S16384.size a := fun v194 k0_hw82 => k0_hw82

def k0_chk83 (v196 : IVec S16 32) : Prop :=
  (∀ a x, ((![v196] : Fin 1 → IVec S16 32) a x).toNat < S16384.size a)
theorem k0_idx83_inb : ∀ (v196 : IVec S16 32) (k0_hw83 : k0_chk83 v196), ∀ a x, ((![v196] : Fin 1 → IVec S16 32) a x).toNat < S16384.size a := fun v196 k0_hw83 => k0_hw83

def k0_chk84 (v198 : IVec S16 32) : Prop :=
  (∀ a x, ((![v198] : Fin 1 → IVec S16 32) a x).toNat < S16384.size a)
theorem k0_idx84_inb : ∀ (v198 : IVec S16 32) (k0_hw84 : k0_chk84 v198), ∀ a x, ((![v198] : Fin 1 → IVec S16 32) a x).toNat < S16384.size a := fun v198 k0_hw84 => k0_hw84

def k0_chk85 (v200 : IVec S16 32) : Prop :=
  (∀ a x, ((![v200] : Fin 1 → IVec S16 32) a x).toNat < S16384.size a)
theorem k0_idx85_inb : ∀ (v200 : IVec S16 32) (k0_hw85 : k0_chk85 v200), ∀ a x, ((![v200] : Fin 1 → IVec S16 32) a x).toNat < S16384.size a := fun v200 k0_hw85 => k0_hw85

def k0_chk86 (v202 : IVec S16 32) : Prop :=
  (∀ a x, ((![v202] : Fin 1 → IVec S16 32) a x).toNat < S16384.size a)
theorem k0_idx86_inb : ∀ (v202 : IVec S16 32) (k0_hw86 : k0_chk86 v202), ∀ a x, ((![v202] : Fin 1 → IVec S16 32) a x).toNat < S16384.size a := fun v202 k0_hw86 => k0_hw86

def k0_chk87 (v268 : IVec S16 32) : Prop :=
  (∀ a x, ((![v268] : Fin 1 → IVec S16 32) a x).toNat < S16384.size a)
theorem k0_idx87_inb : ∀ (v268 : IVec S16 32) (k0_hw87 : k0_chk87 v268), ∀ a x, ((![v268] : Fin 1 → IVec S16 32) a x).toNat < S16384.size a := fun v268 k0_hw87 => k0_hw87

def k0_chk88 (v270 : IVec S16 32) : Prop :=
  (∀ a x, ((![v270] : Fin 1 → IVec S16 32) a x).toNat < S16384.size a)
theorem k0_idx88_inb : ∀ (v270 : IVec S16 32) (k0_hw88 : k0_chk88 v270), ∀ a x, ((![v270] : Fin 1 → IVec S16 32) a x).toNat < S16384.size a := fun v270 k0_hw88 => k0_hw88

def k0_chk89 (v272 : IVec S16 32) : Prop :=
  (∀ a x, ((![v272] : Fin 1 → IVec S16 32) a x).toNat < S16384.size a)
theorem k0_idx89_inb : ∀ (v272 : IVec S16 32) (k0_hw89 : k0_chk89 v272), ∀ a x, ((![v272] : Fin 1 → IVec S16 32) a x).toNat < S16384.size a := fun v272 k0_hw89 => k0_hw89

def k0_chk90 (v274 : IVec S16 32) : Prop :=
  (∀ a x, ((![v274] : Fin 1 → IVec S16 32) a x).toNat < S16384.size a)
theorem k0_idx90_inb : ∀ (v274 : IVec S16 32) (k0_hw90 : k0_chk90 v274), ∀ a x, ((![v274] : Fin 1 → IVec S16 32) a x).toNat < S16384.size a := fun v274 k0_hw90 => k0_hw90

def k0_chk91 (v276 : IVec S16 32) : Prop :=
  (∀ a x, ((![v276] : Fin 1 → IVec S16 32) a x).toNat < S16384.size a)
theorem k0_idx91_inb : ∀ (v276 : IVec S16 32) (k0_hw91 : k0_chk91 v276), ∀ a x, ((![v276] : Fin 1 → IVec S16 32) a x).toNat < S16384.size a := fun v276 k0_hw91 => k0_hw91

def k0_chk92 (v278 : IVec S16 32) : Prop :=
  (∀ a x, ((![v278] : Fin 1 → IVec S16 32) a x).toNat < S16384.size a)
theorem k0_idx92_inb : ∀ (v278 : IVec S16 32) (k0_hw92 : k0_chk92 v278), ∀ a x, ((![v278] : Fin 1 → IVec S16 32) a x).toNat < S16384.size a := fun v278 k0_hw92 => k0_hw92

def k0_chk93 (v280 : IVec S16 32) : Prop :=
  (∀ a x, ((![v280] : Fin 1 → IVec S16 32) a x).toNat < S16384.size a)
theorem k0_idx93_inb : ∀ (v280 : IVec S16 32) (k0_hw93 : k0_chk93 v280), ∀ a x, ((![v280] : Fin 1 → IVec S16 32) a x).toNat < S16384.size a := fun v280 k0_hw93 => k0_hw93

def k0_chk94 (v282 : IVec S16 32) : Prop :=
  (∀ a x, ((![v282] : Fin 1 → IVec S16 32) a x).toNat < S16384.size a)
theorem k0_idx94_inb : ∀ (v282 : IVec S16 32) (k0_hw94 : k0_chk94 v282), ∀ a x, ((![v282] : Fin 1 → IVec S16 32) a x).toNat < S16384.size a := fun v282 k0_hw94 => k0_hw94

def k0_chk95 (v284 : IVec S16 32) : Prop :=
  (∀ a x, ((![v284] : Fin 1 → IVec S16 32) a x).toNat < S16384.size a)
theorem k0_idx95_inb : ∀ (v284 : IVec S16 32) (k0_hw95 : k0_chk95 v284), ∀ a x, ((![v284] : Fin 1 → IVec S16 32) a x).toNat < S16384.size a := fun v284 k0_hw95 => k0_hw95

def k0_chk96 (v286 : IVec S16 32) : Prop :=
  (∀ a x, ((![v286] : Fin 1 → IVec S16 32) a x).toNat < S16384.size a)
theorem k0_idx96_inb : ∀ (v286 : IVec S16 32) (k0_hw96 : k0_chk96 v286), ∀ a x, ((![v286] : Fin 1 → IVec S16 32) a x).toNat < S16384.size a := fun v286 k0_hw96 => k0_hw96

def k0_chk97 (v288 : IVec S16 32) : Prop :=
  (∀ a x, ((![v288] : Fin 1 → IVec S16 32) a x).toNat < S16384.size a)
theorem k0_idx97_inb : ∀ (v288 : IVec S16 32) (k0_hw97 : k0_chk97 v288), ∀ a x, ((![v288] : Fin 1 → IVec S16 32) a x).toNat < S16384.size a := fun v288 k0_hw97 => k0_hw97

def k0_chk98 (v290 : IVec S16 32) : Prop :=
  (∀ a x, ((![v290] : Fin 1 → IVec S16 32) a x).toNat < S16384.size a)
theorem k0_idx98_inb : ∀ (v290 : IVec S16 32) (k0_hw98 : k0_chk98 v290), ∀ a x, ((![v290] : Fin 1 → IVec S16 32) a x).toNat < S16384.size a := fun v290 k0_hw98 => k0_hw98

def k0_chk99 (v292 : IVec S16 32) : Prop :=
  (∀ a x, ((![v292] : Fin 1 → IVec S16 32) a x).toNat < S16384.size a)
theorem k0_idx99_inb : ∀ (v292 : IVec S16 32) (k0_hw99 : k0_chk99 v292), ∀ a x, ((![v292] : Fin 1 → IVec S16 32) a x).toNat < S16384.size a := fun v292 k0_hw99 => k0_hw99

def k0_chk100 (v294 : IVec S16 32) : Prop :=
  (∀ a x, ((![v294] : Fin 1 → IVec S16 32) a x).toNat < S16384.size a)
theorem k0_idx100_inb : ∀ (v294 : IVec S16 32) (k0_hw100 : k0_chk100 v294), ∀ a x, ((![v294] : Fin 1 → IVec S16 32) a x).toNat < S16384.size a := fun v294 k0_hw100 => k0_hw100

def k0_chk101 (v296 : IVec S16 32) : Prop :=
  (∀ a x, ((![v296] : Fin 1 → IVec S16 32) a x).toNat < S16384.size a)
theorem k0_idx101_inb : ∀ (v296 : IVec S16 32) (k0_hw101 : k0_chk101 v296), ∀ a x, ((![v296] : Fin 1 → IVec S16 32) a x).toNat < S16384.size a := fun v296 k0_hw101 => k0_hw101

def k0_chk102 (v298 : IVec S16 32) : Prop :=
  (∀ a x, ((![v298] : Fin 1 → IVec S16 32) a x).toNat < S16384.size a)
theorem k0_idx102_inb : ∀ (v298 : IVec S16 32) (k0_hw102 : k0_chk102 v298), ∀ a x, ((![v298] : Fin 1 → IVec S16 32) a x).toNat < S16384.size a := fun v298 k0_hw102 => k0_hw102

def k0_chk103 (v367 : IVec S16 32) : Prop :=
  (∀ a x, ((![v367] : Fin 1 → IVec S16 32) a x).toNat < S16384.size a)
theorem k0_idx103_inb : ∀ (v367 : IVec S16 32) (k0_hw103 : k0_chk103 v367), ∀ a x, ((![v367] : Fin 1 → IVec S16 32) a x).toNat < S16384.size a := fun v367 k0_hw103 => k0_hw103

def k0_chk104 (v369 : IVec S16 32) : Prop :=
  (∀ a x, ((![v369] : Fin 1 → IVec S16 32) a x).toNat < S16384.size a)
theorem k0_idx104_inb : ∀ (v369 : IVec S16 32) (k0_hw104 : k0_chk104 v369), ∀ a x, ((![v369] : Fin 1 → IVec S16 32) a x).toNat < S16384.size a := fun v369 k0_hw104 => k0_hw104

def k0_chk105 (v371 : IVec S16 32) : Prop :=
  (∀ a x, ((![v371] : Fin 1 → IVec S16 32) a x).toNat < S16384.size a)
theorem k0_idx105_inb : ∀ (v371 : IVec S16 32) (k0_hw105 : k0_chk105 v371), ∀ a x, ((![v371] : Fin 1 → IVec S16 32) a x).toNat < S16384.size a := fun v371 k0_hw105 => k0_hw105

def k0_chk106 (v373 : IVec S16 32) : Prop :=
  (∀ a x, ((![v373] : Fin 1 → IVec S16 32) a x).toNat < S16384.size a)
theorem k0_idx106_inb : ∀ (v373 : IVec S16 32) (k0_hw106 : k0_chk106 v373), ∀ a x, ((![v373] : Fin 1 → IVec S16 32) a x).toNat < S16384.size a := fun v373 k0_hw106 => k0_hw106

def k0_chk107 (v375 : IVec S16 32) : Prop :=
  (∀ a x, ((![v375] : Fin 1 → IVec S16 32) a x).toNat < S16384.size a)
theorem k0_idx107_inb : ∀ (v375 : IVec S16 32) (k0_hw107 : k0_chk107 v375), ∀ a x, ((![v375] : Fin 1 → IVec S16 32) a x).toNat < S16384.size a := fun v375 k0_hw107 => k0_hw107

def k0_chk108 (v377 : IVec S16 32) : Prop :=
  (∀ a x, ((![v377] : Fin 1 → IVec S16 32) a x).toNat < S16384.size a)
theorem k0_idx108_inb : ∀ (v377 : IVec S16 32) (k0_hw108 : k0_chk108 v377), ∀ a x, ((![v377] : Fin 1 → IVec S16 32) a x).toNat < S16384.size a := fun v377 k0_hw108 => k0_hw108

def k0_chk109 (v379 : IVec S16 32) : Prop :=
  (∀ a x, ((![v379] : Fin 1 → IVec S16 32) a x).toNat < S16384.size a)
theorem k0_idx109_inb : ∀ (v379 : IVec S16 32) (k0_hw109 : k0_chk109 v379), ∀ a x, ((![v379] : Fin 1 → IVec S16 32) a x).toNat < S16384.size a := fun v379 k0_hw109 => k0_hw109

def k0_chk110 (v381 : IVec S16 32) : Prop :=
  (∀ a x, ((![v381] : Fin 1 → IVec S16 32) a x).toNat < S16384.size a)
theorem k0_idx110_inb : ∀ (v381 : IVec S16 32) (k0_hw110 : k0_chk110 v381), ∀ a x, ((![v381] : Fin 1 → IVec S16 32) a x).toNat < S16384.size a := fun v381 k0_hw110 => k0_hw110

def k0_chk111 (v383 : IVec S16 32) : Prop :=
  (∀ a x, ((![v383] : Fin 1 → IVec S16 32) a x).toNat < S16384.size a)
theorem k0_idx111_inb : ∀ (v383 : IVec S16 32) (k0_hw111 : k0_chk111 v383), ∀ a x, ((![v383] : Fin 1 → IVec S16 32) a x).toNat < S16384.size a := fun v383 k0_hw111 => k0_hw111

def k0_chk112 (v385 : IVec S16 32) : Prop :=
  (∀ a x, ((![v385] : Fin 1 → IVec S16 32) a x).toNat < S16384.size a)
theorem k0_idx112_inb : ∀ (v385 : IVec S16 32) (k0_hw112 : k0_chk112 v385), ∀ a x, ((![v385] : Fin 1 → IVec S16 32) a x).toNat < S16384.size a := fun v385 k0_hw112 => k0_hw112

def k0_chk113 (v387 : IVec S16 32) : Prop :=
  (∀ a x, ((![v387] : Fin 1 → IVec S16 32) a x).toNat < S16384.size a)
theorem k0_idx113_inb : ∀ (v387 : IVec S16 32) (k0_hw113 : k0_chk113 v387), ∀ a x, ((![v387] : Fin 1 → IVec S16 32) a x).toNat < S16384.size a := fun v387 k0_hw113 => k0_hw113

def k0_chk114 (v389 : IVec S16 32) : Prop :=
  (∀ a x, ((![v389] : Fin 1 → IVec S16 32) a x).toNat < S16384.size a)
theorem k0_idx114_inb : ∀ (v389 : IVec S16 32) (k0_hw114 : k0_chk114 v389), ∀ a x, ((![v389] : Fin 1 → IVec S16 32) a x).toNat < S16384.size a := fun v389 k0_hw114 => k0_hw114

def k0_chk115 (v391 : IVec S16 32) : Prop :=
  (∀ a x, ((![v391] : Fin 1 → IVec S16 32) a x).toNat < S16384.size a)
theorem k0_idx115_inb : ∀ (v391 : IVec S16 32) (k0_hw115 : k0_chk115 v391), ∀ a x, ((![v391] : Fin 1 → IVec S16 32) a x).toNat < S16384.size a := fun v391 k0_hw115 => k0_hw115

def k0_chk116 (v393 : IVec S16 32) : Prop :=
  (∀ a x, ((![v393] : Fin 1 → IVec S16 32) a x).toNat < S16384.size a)
theorem k0_idx116_inb : ∀ (v393 : IVec S16 32) (k0_hw116 : k0_chk116 v393), ∀ a x, ((![v393] : Fin 1 → IVec S16 32) a x).toNat < S16384.size a := fun v393 k0_hw116 => k0_hw116

def k0_chk117 (v395 : IVec S16 32) : Prop :=
  (∀ a x, ((![v395] : Fin 1 → IVec S16 32) a x).toNat < S16384.size a)
theorem k0_idx117_inb : ∀ (v395 : IVec S16 32) (k0_hw117 : k0_chk117 v395), ∀ a x, ((![v395] : Fin 1 → IVec S16 32) a x).toNat < S16384.size a := fun v395 k0_hw117 => k0_hw117

def k0_chk118 (v397 : IVec S16 32) : Prop :=
  (∀ a x, ((![v397] : Fin 1 → IVec S16 32) a x).toNat < S16384.size a)
theorem k0_idx118_inb : ∀ (v397 : IVec S16 32) (k0_hw118 : k0_chk118 v397), ∀ a x, ((![v397] : Fin 1 → IVec S16 32) a x).toNat < S16384.size a := fun v397 k0_hw118 => k0_hw118

def k0_chk119 (v463 : IVec S16 32) : Prop :=
  (∀ a x, ((![v463] : Fin 1 → IVec S16 32) a x).toNat < S16384.size a)
theorem k0_idx119_inb : ∀ (v463 : IVec S16 32) (k0_hw119 : k0_chk119 v463), ∀ a x, ((![v463] : Fin 1 → IVec S16 32) a x).toNat < S16384.size a := fun v463 k0_hw119 => k0_hw119

def k0_chk120 (v465 : IVec S16 32) : Prop :=
  (∀ a x, ((![v465] : Fin 1 → IVec S16 32) a x).toNat < S16384.size a)
theorem k0_idx120_inb : ∀ (v465 : IVec S16 32) (k0_hw120 : k0_chk120 v465), ∀ a x, ((![v465] : Fin 1 → IVec S16 32) a x).toNat < S16384.size a := fun v465 k0_hw120 => k0_hw120

def k0_chk121 (v467 : IVec S16 32) : Prop :=
  (∀ a x, ((![v467] : Fin 1 → IVec S16 32) a x).toNat < S16384.size a)
theorem k0_idx121_inb : ∀ (v467 : IVec S16 32) (k0_hw121 : k0_chk121 v467), ∀ a x, ((![v467] : Fin 1 → IVec S16 32) a x).toNat < S16384.size a := fun v467 k0_hw121 => k0_hw121

def k0_chk122 (v469 : IVec S16 32) : Prop :=
  (∀ a x, ((![v469] : Fin 1 → IVec S16 32) a x).toNat < S16384.size a)
theorem k0_idx122_inb : ∀ (v469 : IVec S16 32) (k0_hw122 : k0_chk122 v469), ∀ a x, ((![v469] : Fin 1 → IVec S16 32) a x).toNat < S16384.size a := fun v469 k0_hw122 => k0_hw122

def k0_chk123 (v471 : IVec S16 32) : Prop :=
  (∀ a x, ((![v471] : Fin 1 → IVec S16 32) a x).toNat < S16384.size a)
theorem k0_idx123_inb : ∀ (v471 : IVec S16 32) (k0_hw123 : k0_chk123 v471), ∀ a x, ((![v471] : Fin 1 → IVec S16 32) a x).toNat < S16384.size a := fun v471 k0_hw123 => k0_hw123

def k0_chk124 (v473 : IVec S16 32) : Prop :=
  (∀ a x, ((![v473] : Fin 1 → IVec S16 32) a x).toNat < S16384.size a)
theorem k0_idx124_inb : ∀ (v473 : IVec S16 32) (k0_hw124 : k0_chk124 v473), ∀ a x, ((![v473] : Fin 1 → IVec S16 32) a x).toNat < S16384.size a := fun v473 k0_hw124 => k0_hw124

def k0_chk125 (v475 : IVec S16 32) : Prop :=
  (∀ a x, ((![v475] : Fin 1 → IVec S16 32) a x).toNat < S16384.size a)
theorem k0_idx125_inb : ∀ (v475 : IVec S16 32) (k0_hw125 : k0_chk125 v475), ∀ a x, ((![v475] : Fin 1 → IVec S16 32) a x).toNat < S16384.size a := fun v475 k0_hw125 => k0_hw125

def k0_chk126 (v477 : IVec S16 32) : Prop :=
  (∀ a x, ((![v477] : Fin 1 → IVec S16 32) a x).toNat < S16384.size a)
theorem k0_idx126_inb : ∀ (v477 : IVec S16 32) (k0_hw126 : k0_chk126 v477), ∀ a x, ((![v477] : Fin 1 → IVec S16 32) a x).toNat < S16384.size a := fun v477 k0_hw126 => k0_hw126

def k0_chk127 (v479 : IVec S16 32) : Prop :=
  (∀ a x, ((![v479] : Fin 1 → IVec S16 32) a x).toNat < S16384.size a)
theorem k0_idx127_inb : ∀ (v479 : IVec S16 32) (k0_hw127 : k0_chk127 v479), ∀ a x, ((![v479] : Fin 1 → IVec S16 32) a x).toNat < S16384.size a := fun v479 k0_hw127 => k0_hw127

def k0_chk128 (v481 : IVec S16 32) : Prop :=
  (∀ a x, ((![v481] : Fin 1 → IVec S16 32) a x).toNat < S16384.size a)
theorem k0_idx128_inb : ∀ (v481 : IVec S16 32) (k0_hw128 : k0_chk128 v481), ∀ a x, ((![v481] : Fin 1 → IVec S16 32) a x).toNat < S16384.size a := fun v481 k0_hw128 => k0_hw128

def k0_chk129 (v483 : IVec S16 32) : Prop :=
  (∀ a x, ((![v483] : Fin 1 → IVec S16 32) a x).toNat < S16384.size a)
theorem k0_idx129_inb : ∀ (v483 : IVec S16 32) (k0_hw129 : k0_chk129 v483), ∀ a x, ((![v483] : Fin 1 → IVec S16 32) a x).toNat < S16384.size a := fun v483 k0_hw129 => k0_hw129

def k0_chk130 (v485 : IVec S16 32) : Prop :=
  (∀ a x, ((![v485] : Fin 1 → IVec S16 32) a x).toNat < S16384.size a)
theorem k0_idx130_inb : ∀ (v485 : IVec S16 32) (k0_hw130 : k0_chk130 v485), ∀ a x, ((![v485] : Fin 1 → IVec S16 32) a x).toNat < S16384.size a := fun v485 k0_hw130 => k0_hw130

def k0_chk131 (v487 : IVec S16 32) : Prop :=
  (∀ a x, ((![v487] : Fin 1 → IVec S16 32) a x).toNat < S16384.size a)
theorem k0_idx131_inb : ∀ (v487 : IVec S16 32) (k0_hw131 : k0_chk131 v487), ∀ a x, ((![v487] : Fin 1 → IVec S16 32) a x).toNat < S16384.size a := fun v487 k0_hw131 => k0_hw131

def k0_chk132 (v489 : IVec S16 32) : Prop :=
  (∀ a x, ((![v489] : Fin 1 → IVec S16 32) a x).toNat < S16384.size a)
theorem k0_idx132_inb : ∀ (v489 : IVec S16 32) (k0_hw132 : k0_chk132 v489), ∀ a x, ((![v489] : Fin 1 → IVec S16 32) a x).toNat < S16384.size a := fun v489 k0_hw132 => k0_hw132

def k0_chk133 (v491 : IVec S16 32) : Prop :=
  (∀ a x, ((![v491] : Fin 1 → IVec S16 32) a x).toNat < S16384.size a)
theorem k0_idx133_inb : ∀ (v491 : IVec S16 32) (k0_hw133 : k0_chk133 v491), ∀ a x, ((![v491] : Fin 1 → IVec S16 32) a x).toNat < S16384.size a := fun v491 k0_hw133 => k0_hw133

def k0_chk134 (v493 : IVec S16 32) : Prop :=
  (∀ a x, ((![v493] : Fin 1 → IVec S16 32) a x).toNat < S16384.size a)
theorem k0_idx134_inb : ∀ (v493 : IVec S16 32) (k0_hw134 : k0_chk134 v493), ∀ a x, ((![v493] : Fin 1 → IVec S16 32) a x).toNat < S16384.size a := fun v493 k0_hw134 => k0_hw134

def k0_chk135 (v567 : IVec S16 32) : Prop :=
  (∀ a x, ((![v567] : Fin 1 → IVec S16 32) a x).toNat < S16384.size a)
theorem k0_idx135_inb : ∀ (v567 : IVec S16 32) (k0_hw135 : k0_chk135 v567), ∀ a x, ((![v567] : Fin 1 → IVec S16 32) a x).toNat < S16384.size a := fun v567 k0_hw135 => k0_hw135

def k0_chk136 (v572 : IVec S16 32) : Prop :=
  (∀ a x, ((![v572] : Fin 1 → IVec S16 32) a x).toNat < S16384.size a)
theorem k0_idx136_inb : ∀ (v572 : IVec S16 32) (k0_hw136 : k0_chk136 v572), ∀ a x, ((![v572] : Fin 1 → IVec S16 32) a x).toNat < S16384.size a := fun v572 k0_hw136 => k0_hw136
def k0_cond5 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_50 : BitVec 32 := 4#32
  let v120 : BitVec 32 := Scalar.muli arg16 c4_i32_50
  let c2_i32_51 : BitVec 32 := 2#32
  let v121 : BitVec 32 := Scalar.addi v120 c2_i32_51
  let c2_i32_53 : BitVec 32 := 2#32
  let v126 : BitVec 1 := Scalar.cmpi .sge v121 c2_i32_53
  let v127 : BitVec 32 := Scalar.extui v126
  let c0_i32_54 : BitVec 32 := 0#32
  let v128 : BitVec 1 := Scalar.cmpi .ne v127 c0_i32_54
  v128

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_50 : BitVec 32 := 4#32
  let v120 : BitVec 32 := Scalar.muli arg16 c4_i32_50
  let c2_i32_51 : BitVec 32 := 2#32
  let v121 : BitVec 32 := Scalar.addi v120 c2_i32_51
  let c2_i32_78 : BitVec 32 := 2#32
  let v156 : BitVec 32 := Scalar.subi v121 c2_i32_78
  let c16384_i32_79 : BitVec 32 := 16384#32
  let v157 : BitVec 32 := Scalar.muli v156 c16384_i32_79
  let v158 : BitVec 32 := Scalar.addi v3 v157
  ![v158.toNat]
def k0_cond6 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_50 : BitVec 32 := 4#32
  let v120 : BitVec 32 := Scalar.muli arg16 c4_i32_50
  let c2_i32_51 : BitVec 32 := 2#32
  let v121 : BitVec 32 := Scalar.addi v120 c2_i32_51
  let c2_i32_55 : BitVec 32 := 2#32
  let v129 : BitVec 32 := Scalar.addi v121 c2_i32_55
  let c64_i32_56 : BitVec 32 := 64#32
  let v130 : BitVec 1 := Scalar.cmpi .slt v129 c64_i32_56
  let v131 : BitVec 32 := Scalar.extui v130
  let c0_i32_57 : BitVec 32 := 0#32
  let v132 : BitVec 1 := Scalar.cmpi .ne v131 c0_i32_57
  v132

def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_50 : BitVec 32 := 4#32
  let v120 : BitVec 32 := Scalar.muli arg16 c4_i32_50
  let c2_i32_51 : BitVec 32 := 2#32
  let v121 : BitVec 32 := Scalar.addi v120 c2_i32_51
  let c2_i32_78 : BitVec 32 := 2#32
  let v156 : BitVec 32 := Scalar.addi v121 c2_i32_78
  let c16384_i32_79 : BitVec 32 := 16384#32
  let v157 : BitVec 32 := Scalar.muli v156 c16384_i32_79
  let v158 : BitVec 32 := Scalar.addi v3 v157
  ![v158.toNat]
@[reducible] def k0_t4_loop : Scf.Loop 32 :=
  let c0_i32_59 : BitVec 32 := 0#32
  let c8_i32_60 : BitVec 32 := 8#32
  let v133 : BitVec 32 := Scalar.addi c0_i32_59 c8_i32_60
  let c1_i32_61 : BitVec 32 := 1#32
  ⟨c0_i32_59, v133, c1_i32_61⟩

def k0_chk137 (v160 : IVec S16 32) : Prop :=
  (∀ a x, ((![v160] : Fin 1 → IVec S16 32) a x).toNat < S16384.size a)
theorem k0_idx137_inb : ∀ (v160 : IVec S16 32) (k0_hw137 : k0_chk137 v160), ∀ a x, ((![v160] : Fin 1 → IVec S16 32) a x).toNat < S16384.size a := fun v160 k0_hw137 => k0_hw137

def k0_chk138 (v163 : IVec S16 32) : Prop :=
  (∀ a x, ((![v163] : Fin 1 → IVec S16 32) a x).toNat < S16384.size a)
theorem k0_idx138_inb : ∀ (v163 : IVec S16 32) (k0_hw138 : k0_chk138 v163), ∀ a x, ((![v163] : Fin 1 → IVec S16 32) a x).toNat < S16384.size a := fun v163 k0_hw138 => k0_hw138

def k0_chk139 (v172 : IVec S16 32) : Prop :=
  (∀ a x, ((![v172] : Fin 1 → IVec S16 32) a x).toNat < S16384.size a)
theorem k0_idx139_inb : ∀ (v172 : IVec S16 32) (k0_hw139 : k0_chk139 v172), ∀ a x, ((![v172] : Fin 1 → IVec S16 32) a x).toNat < S16384.size a := fun v172 k0_hw139 => k0_hw139

def k0_chk140 (v174 : IVec S16 32) : Prop :=
  (∀ a x, ((![v174] : Fin 1 → IVec S16 32) a x).toNat < S16384.size a)
theorem k0_idx140_inb : ∀ (v174 : IVec S16 32) (k0_hw140 : k0_chk140 v174), ∀ a x, ((![v174] : Fin 1 → IVec S16 32) a x).toNat < S16384.size a := fun v174 k0_hw140 => k0_hw140

def k0_chk141 (v176 : IVec S16 32) : Prop :=
  (∀ a x, ((![v176] : Fin 1 → IVec S16 32) a x).toNat < S16384.size a)
theorem k0_idx141_inb : ∀ (v176 : IVec S16 32) (k0_hw141 : k0_chk141 v176), ∀ a x, ((![v176] : Fin 1 → IVec S16 32) a x).toNat < S16384.size a := fun v176 k0_hw141 => k0_hw141

def k0_chk142 (v178 : IVec S16 32) : Prop :=
  (∀ a x, ((![v178] : Fin 1 → IVec S16 32) a x).toNat < S16384.size a)
theorem k0_idx142_inb : ∀ (v178 : IVec S16 32) (k0_hw142 : k0_chk142 v178), ∀ a x, ((![v178] : Fin 1 → IVec S16 32) a x).toNat < S16384.size a := fun v178 k0_hw142 => k0_hw142

def k0_chk143 (v180 : IVec S16 32) : Prop :=
  (∀ a x, ((![v180] : Fin 1 → IVec S16 32) a x).toNat < S16384.size a)
theorem k0_idx143_inb : ∀ (v180 : IVec S16 32) (k0_hw143 : k0_chk143 v180), ∀ a x, ((![v180] : Fin 1 → IVec S16 32) a x).toNat < S16384.size a := fun v180 k0_hw143 => k0_hw143

def k0_chk144 (v182 : IVec S16 32) : Prop :=
  (∀ a x, ((![v182] : Fin 1 → IVec S16 32) a x).toNat < S16384.size a)
theorem k0_idx144_inb : ∀ (v182 : IVec S16 32) (k0_hw144 : k0_chk144 v182), ∀ a x, ((![v182] : Fin 1 → IVec S16 32) a x).toNat < S16384.size a := fun v182 k0_hw144 => k0_hw144

def k0_chk145 (v184 : IVec S16 32) : Prop :=
  (∀ a x, ((![v184] : Fin 1 → IVec S16 32) a x).toNat < S16384.size a)
theorem k0_idx145_inb : ∀ (v184 : IVec S16 32) (k0_hw145 : k0_chk145 v184), ∀ a x, ((![v184] : Fin 1 → IVec S16 32) a x).toNat < S16384.size a := fun v184 k0_hw145 => k0_hw145

def k0_chk146 (v186 : IVec S16 32) : Prop :=
  (∀ a x, ((![v186] : Fin 1 → IVec S16 32) a x).toNat < S16384.size a)
theorem k0_idx146_inb : ∀ (v186 : IVec S16 32) (k0_hw146 : k0_chk146 v186), ∀ a x, ((![v186] : Fin 1 → IVec S16 32) a x).toNat < S16384.size a := fun v186 k0_hw146 => k0_hw146

def k0_chk147 (v188 : IVec S16 32) : Prop :=
  (∀ a x, ((![v188] : Fin 1 → IVec S16 32) a x).toNat < S16384.size a)
theorem k0_idx147_inb : ∀ (v188 : IVec S16 32) (k0_hw147 : k0_chk147 v188), ∀ a x, ((![v188] : Fin 1 → IVec S16 32) a x).toNat < S16384.size a := fun v188 k0_hw147 => k0_hw147

def k0_chk148 (v190 : IVec S16 32) : Prop :=
  (∀ a x, ((![v190] : Fin 1 → IVec S16 32) a x).toNat < S16384.size a)
theorem k0_idx148_inb : ∀ (v190 : IVec S16 32) (k0_hw148 : k0_chk148 v190), ∀ a x, ((![v190] : Fin 1 → IVec S16 32) a x).toNat < S16384.size a := fun v190 k0_hw148 => k0_hw148

def k0_chk149 (v192 : IVec S16 32) : Prop :=
  (∀ a x, ((![v192] : Fin 1 → IVec S16 32) a x).toNat < S16384.size a)
theorem k0_idx149_inb : ∀ (v192 : IVec S16 32) (k0_hw149 : k0_chk149 v192), ∀ a x, ((![v192] : Fin 1 → IVec S16 32) a x).toNat < S16384.size a := fun v192 k0_hw149 => k0_hw149

def k0_chk150 (v194 : IVec S16 32) : Prop :=
  (∀ a x, ((![v194] : Fin 1 → IVec S16 32) a x).toNat < S16384.size a)
theorem k0_idx150_inb : ∀ (v194 : IVec S16 32) (k0_hw150 : k0_chk150 v194), ∀ a x, ((![v194] : Fin 1 → IVec S16 32) a x).toNat < S16384.size a := fun v194 k0_hw150 => k0_hw150

def k0_chk151 (v196 : IVec S16 32) : Prop :=
  (∀ a x, ((![v196] : Fin 1 → IVec S16 32) a x).toNat < S16384.size a)
theorem k0_idx151_inb : ∀ (v196 : IVec S16 32) (k0_hw151 : k0_chk151 v196), ∀ a x, ((![v196] : Fin 1 → IVec S16 32) a x).toNat < S16384.size a := fun v196 k0_hw151 => k0_hw151

def k0_chk152 (v198 : IVec S16 32) : Prop :=
  (∀ a x, ((![v198] : Fin 1 → IVec S16 32) a x).toNat < S16384.size a)
theorem k0_idx152_inb : ∀ (v198 : IVec S16 32) (k0_hw152 : k0_chk152 v198), ∀ a x, ((![v198] : Fin 1 → IVec S16 32) a x).toNat < S16384.size a := fun v198 k0_hw152 => k0_hw152

def k0_chk153 (v200 : IVec S16 32) : Prop :=
  (∀ a x, ((![v200] : Fin 1 → IVec S16 32) a x).toNat < S16384.size a)
theorem k0_idx153_inb : ∀ (v200 : IVec S16 32) (k0_hw153 : k0_chk153 v200), ∀ a x, ((![v200] : Fin 1 → IVec S16 32) a x).toNat < S16384.size a := fun v200 k0_hw153 => k0_hw153

def k0_chk154 (v202 : IVec S16 32) : Prop :=
  (∀ a x, ((![v202] : Fin 1 → IVec S16 32) a x).toNat < S16384.size a)
theorem k0_idx154_inb : ∀ (v202 : IVec S16 32) (k0_hw154 : k0_chk154 v202), ∀ a x, ((![v202] : Fin 1 → IVec S16 32) a x).toNat < S16384.size a := fun v202 k0_hw154 => k0_hw154

def k0_chk155 (v268 : IVec S16 32) : Prop :=
  (∀ a x, ((![v268] : Fin 1 → IVec S16 32) a x).toNat < S16384.size a)
theorem k0_idx155_inb : ∀ (v268 : IVec S16 32) (k0_hw155 : k0_chk155 v268), ∀ a x, ((![v268] : Fin 1 → IVec S16 32) a x).toNat < S16384.size a := fun v268 k0_hw155 => k0_hw155

def k0_chk156 (v270 : IVec S16 32) : Prop :=
  (∀ a x, ((![v270] : Fin 1 → IVec S16 32) a x).toNat < S16384.size a)
theorem k0_idx156_inb : ∀ (v270 : IVec S16 32) (k0_hw156 : k0_chk156 v270), ∀ a x, ((![v270] : Fin 1 → IVec S16 32) a x).toNat < S16384.size a := fun v270 k0_hw156 => k0_hw156

def k0_chk157 (v272 : IVec S16 32) : Prop :=
  (∀ a x, ((![v272] : Fin 1 → IVec S16 32) a x).toNat < S16384.size a)
theorem k0_idx157_inb : ∀ (v272 : IVec S16 32) (k0_hw157 : k0_chk157 v272), ∀ a x, ((![v272] : Fin 1 → IVec S16 32) a x).toNat < S16384.size a := fun v272 k0_hw157 => k0_hw157

def k0_chk158 (v274 : IVec S16 32) : Prop :=
  (∀ a x, ((![v274] : Fin 1 → IVec S16 32) a x).toNat < S16384.size a)
theorem k0_idx158_inb : ∀ (v274 : IVec S16 32) (k0_hw158 : k0_chk158 v274), ∀ a x, ((![v274] : Fin 1 → IVec S16 32) a x).toNat < S16384.size a := fun v274 k0_hw158 => k0_hw158

def k0_chk159 (v276 : IVec S16 32) : Prop :=
  (∀ a x, ((![v276] : Fin 1 → IVec S16 32) a x).toNat < S16384.size a)
theorem k0_idx159_inb : ∀ (v276 : IVec S16 32) (k0_hw159 : k0_chk159 v276), ∀ a x, ((![v276] : Fin 1 → IVec S16 32) a x).toNat < S16384.size a := fun v276 k0_hw159 => k0_hw159

def k0_chk160 (v278 : IVec S16 32) : Prop :=
  (∀ a x, ((![v278] : Fin 1 → IVec S16 32) a x).toNat < S16384.size a)
theorem k0_idx160_inb : ∀ (v278 : IVec S16 32) (k0_hw160 : k0_chk160 v278), ∀ a x, ((![v278] : Fin 1 → IVec S16 32) a x).toNat < S16384.size a := fun v278 k0_hw160 => k0_hw160

def k0_chk161 (v280 : IVec S16 32) : Prop :=
  (∀ a x, ((![v280] : Fin 1 → IVec S16 32) a x).toNat < S16384.size a)
theorem k0_idx161_inb : ∀ (v280 : IVec S16 32) (k0_hw161 : k0_chk161 v280), ∀ a x, ((![v280] : Fin 1 → IVec S16 32) a x).toNat < S16384.size a := fun v280 k0_hw161 => k0_hw161

def k0_chk162 (v282 : IVec S16 32) : Prop :=
  (∀ a x, ((![v282] : Fin 1 → IVec S16 32) a x).toNat < S16384.size a)
theorem k0_idx162_inb : ∀ (v282 : IVec S16 32) (k0_hw162 : k0_chk162 v282), ∀ a x, ((![v282] : Fin 1 → IVec S16 32) a x).toNat < S16384.size a := fun v282 k0_hw162 => k0_hw162

def k0_chk163 (v284 : IVec S16 32) : Prop :=
  (∀ a x, ((![v284] : Fin 1 → IVec S16 32) a x).toNat < S16384.size a)
theorem k0_idx163_inb : ∀ (v284 : IVec S16 32) (k0_hw163 : k0_chk163 v284), ∀ a x, ((![v284] : Fin 1 → IVec S16 32) a x).toNat < S16384.size a := fun v284 k0_hw163 => k0_hw163

def k0_chk164 (v286 : IVec S16 32) : Prop :=
  (∀ a x, ((![v286] : Fin 1 → IVec S16 32) a x).toNat < S16384.size a)
theorem k0_idx164_inb : ∀ (v286 : IVec S16 32) (k0_hw164 : k0_chk164 v286), ∀ a x, ((![v286] : Fin 1 → IVec S16 32) a x).toNat < S16384.size a := fun v286 k0_hw164 => k0_hw164

def k0_chk165 (v288 : IVec S16 32) : Prop :=
  (∀ a x, ((![v288] : Fin 1 → IVec S16 32) a x).toNat < S16384.size a)
theorem k0_idx165_inb : ∀ (v288 : IVec S16 32) (k0_hw165 : k0_chk165 v288), ∀ a x, ((![v288] : Fin 1 → IVec S16 32) a x).toNat < S16384.size a := fun v288 k0_hw165 => k0_hw165

def k0_chk166 (v290 : IVec S16 32) : Prop :=
  (∀ a x, ((![v290] : Fin 1 → IVec S16 32) a x).toNat < S16384.size a)
theorem k0_idx166_inb : ∀ (v290 : IVec S16 32) (k0_hw166 : k0_chk166 v290), ∀ a x, ((![v290] : Fin 1 → IVec S16 32) a x).toNat < S16384.size a := fun v290 k0_hw166 => k0_hw166

def k0_chk167 (v292 : IVec S16 32) : Prop :=
  (∀ a x, ((![v292] : Fin 1 → IVec S16 32) a x).toNat < S16384.size a)
theorem k0_idx167_inb : ∀ (v292 : IVec S16 32) (k0_hw167 : k0_chk167 v292), ∀ a x, ((![v292] : Fin 1 → IVec S16 32) a x).toNat < S16384.size a := fun v292 k0_hw167 => k0_hw167

def k0_chk168 (v294 : IVec S16 32) : Prop :=
  (∀ a x, ((![v294] : Fin 1 → IVec S16 32) a x).toNat < S16384.size a)
theorem k0_idx168_inb : ∀ (v294 : IVec S16 32) (k0_hw168 : k0_chk168 v294), ∀ a x, ((![v294] : Fin 1 → IVec S16 32) a x).toNat < S16384.size a := fun v294 k0_hw168 => k0_hw168

def k0_chk169 (v296 : IVec S16 32) : Prop :=
  (∀ a x, ((![v296] : Fin 1 → IVec S16 32) a x).toNat < S16384.size a)
theorem k0_idx169_inb : ∀ (v296 : IVec S16 32) (k0_hw169 : k0_chk169 v296), ∀ a x, ((![v296] : Fin 1 → IVec S16 32) a x).toNat < S16384.size a := fun v296 k0_hw169 => k0_hw169

def k0_chk170 (v298 : IVec S16 32) : Prop :=
  (∀ a x, ((![v298] : Fin 1 → IVec S16 32) a x).toNat < S16384.size a)
theorem k0_idx170_inb : ∀ (v298 : IVec S16 32) (k0_hw170 : k0_chk170 v298), ∀ a x, ((![v298] : Fin 1 → IVec S16 32) a x).toNat < S16384.size a := fun v298 k0_hw170 => k0_hw170

def k0_chk171 (v367 : IVec S16 32) : Prop :=
  (∀ a x, ((![v367] : Fin 1 → IVec S16 32) a x).toNat < S16384.size a)
theorem k0_idx171_inb : ∀ (v367 : IVec S16 32) (k0_hw171 : k0_chk171 v367), ∀ a x, ((![v367] : Fin 1 → IVec S16 32) a x).toNat < S16384.size a := fun v367 k0_hw171 => k0_hw171

def k0_chk172 (v369 : IVec S16 32) : Prop :=
  (∀ a x, ((![v369] : Fin 1 → IVec S16 32) a x).toNat < S16384.size a)
theorem k0_idx172_inb : ∀ (v369 : IVec S16 32) (k0_hw172 : k0_chk172 v369), ∀ a x, ((![v369] : Fin 1 → IVec S16 32) a x).toNat < S16384.size a := fun v369 k0_hw172 => k0_hw172

def k0_chk173 (v371 : IVec S16 32) : Prop :=
  (∀ a x, ((![v371] : Fin 1 → IVec S16 32) a x).toNat < S16384.size a)
theorem k0_idx173_inb : ∀ (v371 : IVec S16 32) (k0_hw173 : k0_chk173 v371), ∀ a x, ((![v371] : Fin 1 → IVec S16 32) a x).toNat < S16384.size a := fun v371 k0_hw173 => k0_hw173

def k0_chk174 (v373 : IVec S16 32) : Prop :=
  (∀ a x, ((![v373] : Fin 1 → IVec S16 32) a x).toNat < S16384.size a)
theorem k0_idx174_inb : ∀ (v373 : IVec S16 32) (k0_hw174 : k0_chk174 v373), ∀ a x, ((![v373] : Fin 1 → IVec S16 32) a x).toNat < S16384.size a := fun v373 k0_hw174 => k0_hw174

def k0_chk175 (v375 : IVec S16 32) : Prop :=
  (∀ a x, ((![v375] : Fin 1 → IVec S16 32) a x).toNat < S16384.size a)
theorem k0_idx175_inb : ∀ (v375 : IVec S16 32) (k0_hw175 : k0_chk175 v375), ∀ a x, ((![v375] : Fin 1 → IVec S16 32) a x).toNat < S16384.size a := fun v375 k0_hw175 => k0_hw175

def k0_chk176 (v377 : IVec S16 32) : Prop :=
  (∀ a x, ((![v377] : Fin 1 → IVec S16 32) a x).toNat < S16384.size a)
theorem k0_idx176_inb : ∀ (v377 : IVec S16 32) (k0_hw176 : k0_chk176 v377), ∀ a x, ((![v377] : Fin 1 → IVec S16 32) a x).toNat < S16384.size a := fun v377 k0_hw176 => k0_hw176

def k0_chk177 (v379 : IVec S16 32) : Prop :=
  (∀ a x, ((![v379] : Fin 1 → IVec S16 32) a x).toNat < S16384.size a)
theorem k0_idx177_inb : ∀ (v379 : IVec S16 32) (k0_hw177 : k0_chk177 v379), ∀ a x, ((![v379] : Fin 1 → IVec S16 32) a x).toNat < S16384.size a := fun v379 k0_hw177 => k0_hw177

def k0_chk178 (v381 : IVec S16 32) : Prop :=
  (∀ a x, ((![v381] : Fin 1 → IVec S16 32) a x).toNat < S16384.size a)
theorem k0_idx178_inb : ∀ (v381 : IVec S16 32) (k0_hw178 : k0_chk178 v381), ∀ a x, ((![v381] : Fin 1 → IVec S16 32) a x).toNat < S16384.size a := fun v381 k0_hw178 => k0_hw178

def k0_chk179 (v383 : IVec S16 32) : Prop :=
  (∀ a x, ((![v383] : Fin 1 → IVec S16 32) a x).toNat < S16384.size a)
theorem k0_idx179_inb : ∀ (v383 : IVec S16 32) (k0_hw179 : k0_chk179 v383), ∀ a x, ((![v383] : Fin 1 → IVec S16 32) a x).toNat < S16384.size a := fun v383 k0_hw179 => k0_hw179

def k0_chk180 (v385 : IVec S16 32) : Prop :=
  (∀ a x, ((![v385] : Fin 1 → IVec S16 32) a x).toNat < S16384.size a)
theorem k0_idx180_inb : ∀ (v385 : IVec S16 32) (k0_hw180 : k0_chk180 v385), ∀ a x, ((![v385] : Fin 1 → IVec S16 32) a x).toNat < S16384.size a := fun v385 k0_hw180 => k0_hw180

def k0_chk181 (v387 : IVec S16 32) : Prop :=
  (∀ a x, ((![v387] : Fin 1 → IVec S16 32) a x).toNat < S16384.size a)
theorem k0_idx181_inb : ∀ (v387 : IVec S16 32) (k0_hw181 : k0_chk181 v387), ∀ a x, ((![v387] : Fin 1 → IVec S16 32) a x).toNat < S16384.size a := fun v387 k0_hw181 => k0_hw181

def k0_chk182 (v389 : IVec S16 32) : Prop :=
  (∀ a x, ((![v389] : Fin 1 → IVec S16 32) a x).toNat < S16384.size a)
theorem k0_idx182_inb : ∀ (v389 : IVec S16 32) (k0_hw182 : k0_chk182 v389), ∀ a x, ((![v389] : Fin 1 → IVec S16 32) a x).toNat < S16384.size a := fun v389 k0_hw182 => k0_hw182

def k0_chk183 (v391 : IVec S16 32) : Prop :=
  (∀ a x, ((![v391] : Fin 1 → IVec S16 32) a x).toNat < S16384.size a)
theorem k0_idx183_inb : ∀ (v391 : IVec S16 32) (k0_hw183 : k0_chk183 v391), ∀ a x, ((![v391] : Fin 1 → IVec S16 32) a x).toNat < S16384.size a := fun v391 k0_hw183 => k0_hw183

def k0_chk184 (v393 : IVec S16 32) : Prop :=
  (∀ a x, ((![v393] : Fin 1 → IVec S16 32) a x).toNat < S16384.size a)
theorem k0_idx184_inb : ∀ (v393 : IVec S16 32) (k0_hw184 : k0_chk184 v393), ∀ a x, ((![v393] : Fin 1 → IVec S16 32) a x).toNat < S16384.size a := fun v393 k0_hw184 => k0_hw184

def k0_chk185 (v395 : IVec S16 32) : Prop :=
  (∀ a x, ((![v395] : Fin 1 → IVec S16 32) a x).toNat < S16384.size a)
theorem k0_idx185_inb : ∀ (v395 : IVec S16 32) (k0_hw185 : k0_chk185 v395), ∀ a x, ((![v395] : Fin 1 → IVec S16 32) a x).toNat < S16384.size a := fun v395 k0_hw185 => k0_hw185

def k0_chk186 (v397 : IVec S16 32) : Prop :=
  (∀ a x, ((![v397] : Fin 1 → IVec S16 32) a x).toNat < S16384.size a)
theorem k0_idx186_inb : ∀ (v397 : IVec S16 32) (k0_hw186 : k0_chk186 v397), ∀ a x, ((![v397] : Fin 1 → IVec S16 32) a x).toNat < S16384.size a := fun v397 k0_hw186 => k0_hw186

def k0_chk187 (v463 : IVec S16 32) : Prop :=
  (∀ a x, ((![v463] : Fin 1 → IVec S16 32) a x).toNat < S16384.size a)
theorem k0_idx187_inb : ∀ (v463 : IVec S16 32) (k0_hw187 : k0_chk187 v463), ∀ a x, ((![v463] : Fin 1 → IVec S16 32) a x).toNat < S16384.size a := fun v463 k0_hw187 => k0_hw187

def k0_chk188 (v465 : IVec S16 32) : Prop :=
  (∀ a x, ((![v465] : Fin 1 → IVec S16 32) a x).toNat < S16384.size a)
theorem k0_idx188_inb : ∀ (v465 : IVec S16 32) (k0_hw188 : k0_chk188 v465), ∀ a x, ((![v465] : Fin 1 → IVec S16 32) a x).toNat < S16384.size a := fun v465 k0_hw188 => k0_hw188

def k0_chk189 (v467 : IVec S16 32) : Prop :=
  (∀ a x, ((![v467] : Fin 1 → IVec S16 32) a x).toNat < S16384.size a)
theorem k0_idx189_inb : ∀ (v467 : IVec S16 32) (k0_hw189 : k0_chk189 v467), ∀ a x, ((![v467] : Fin 1 → IVec S16 32) a x).toNat < S16384.size a := fun v467 k0_hw189 => k0_hw189

def k0_chk190 (v469 : IVec S16 32) : Prop :=
  (∀ a x, ((![v469] : Fin 1 → IVec S16 32) a x).toNat < S16384.size a)
theorem k0_idx190_inb : ∀ (v469 : IVec S16 32) (k0_hw190 : k0_chk190 v469), ∀ a x, ((![v469] : Fin 1 → IVec S16 32) a x).toNat < S16384.size a := fun v469 k0_hw190 => k0_hw190

def k0_chk191 (v471 : IVec S16 32) : Prop :=
  (∀ a x, ((![v471] : Fin 1 → IVec S16 32) a x).toNat < S16384.size a)
theorem k0_idx191_inb : ∀ (v471 : IVec S16 32) (k0_hw191 : k0_chk191 v471), ∀ a x, ((![v471] : Fin 1 → IVec S16 32) a x).toNat < S16384.size a := fun v471 k0_hw191 => k0_hw191

def k0_chk192 (v473 : IVec S16 32) : Prop :=
  (∀ a x, ((![v473] : Fin 1 → IVec S16 32) a x).toNat < S16384.size a)
theorem k0_idx192_inb : ∀ (v473 : IVec S16 32) (k0_hw192 : k0_chk192 v473), ∀ a x, ((![v473] : Fin 1 → IVec S16 32) a x).toNat < S16384.size a := fun v473 k0_hw192 => k0_hw192

def k0_chk193 (v475 : IVec S16 32) : Prop :=
  (∀ a x, ((![v475] : Fin 1 → IVec S16 32) a x).toNat < S16384.size a)
theorem k0_idx193_inb : ∀ (v475 : IVec S16 32) (k0_hw193 : k0_chk193 v475), ∀ a x, ((![v475] : Fin 1 → IVec S16 32) a x).toNat < S16384.size a := fun v475 k0_hw193 => k0_hw193

def k0_chk194 (v477 : IVec S16 32) : Prop :=
  (∀ a x, ((![v477] : Fin 1 → IVec S16 32) a x).toNat < S16384.size a)
theorem k0_idx194_inb : ∀ (v477 : IVec S16 32) (k0_hw194 : k0_chk194 v477), ∀ a x, ((![v477] : Fin 1 → IVec S16 32) a x).toNat < S16384.size a := fun v477 k0_hw194 => k0_hw194

def k0_chk195 (v479 : IVec S16 32) : Prop :=
  (∀ a x, ((![v479] : Fin 1 → IVec S16 32) a x).toNat < S16384.size a)
theorem k0_idx195_inb : ∀ (v479 : IVec S16 32) (k0_hw195 : k0_chk195 v479), ∀ a x, ((![v479] : Fin 1 → IVec S16 32) a x).toNat < S16384.size a := fun v479 k0_hw195 => k0_hw195

def k0_chk196 (v481 : IVec S16 32) : Prop :=
  (∀ a x, ((![v481] : Fin 1 → IVec S16 32) a x).toNat < S16384.size a)
theorem k0_idx196_inb : ∀ (v481 : IVec S16 32) (k0_hw196 : k0_chk196 v481), ∀ a x, ((![v481] : Fin 1 → IVec S16 32) a x).toNat < S16384.size a := fun v481 k0_hw196 => k0_hw196

def k0_chk197 (v483 : IVec S16 32) : Prop :=
  (∀ a x, ((![v483] : Fin 1 → IVec S16 32) a x).toNat < S16384.size a)
theorem k0_idx197_inb : ∀ (v483 : IVec S16 32) (k0_hw197 : k0_chk197 v483), ∀ a x, ((![v483] : Fin 1 → IVec S16 32) a x).toNat < S16384.size a := fun v483 k0_hw197 => k0_hw197

def k0_chk198 (v485 : IVec S16 32) : Prop :=
  (∀ a x, ((![v485] : Fin 1 → IVec S16 32) a x).toNat < S16384.size a)
theorem k0_idx198_inb : ∀ (v485 : IVec S16 32) (k0_hw198 : k0_chk198 v485), ∀ a x, ((![v485] : Fin 1 → IVec S16 32) a x).toNat < S16384.size a := fun v485 k0_hw198 => k0_hw198

def k0_chk199 (v487 : IVec S16 32) : Prop :=
  (∀ a x, ((![v487] : Fin 1 → IVec S16 32) a x).toNat < S16384.size a)
theorem k0_idx199_inb : ∀ (v487 : IVec S16 32) (k0_hw199 : k0_chk199 v487), ∀ a x, ((![v487] : Fin 1 → IVec S16 32) a x).toNat < S16384.size a := fun v487 k0_hw199 => k0_hw199

def k0_chk200 (v489 : IVec S16 32) : Prop :=
  (∀ a x, ((![v489] : Fin 1 → IVec S16 32) a x).toNat < S16384.size a)
theorem k0_idx200_inb : ∀ (v489 : IVec S16 32) (k0_hw200 : k0_chk200 v489), ∀ a x, ((![v489] : Fin 1 → IVec S16 32) a x).toNat < S16384.size a := fun v489 k0_hw200 => k0_hw200

def k0_chk201 (v491 : IVec S16 32) : Prop :=
  (∀ a x, ((![v491] : Fin 1 → IVec S16 32) a x).toNat < S16384.size a)
theorem k0_idx201_inb : ∀ (v491 : IVec S16 32) (k0_hw201 : k0_chk201 v491), ∀ a x, ((![v491] : Fin 1 → IVec S16 32) a x).toNat < S16384.size a := fun v491 k0_hw201 => k0_hw201

def k0_chk202 (v493 : IVec S16 32) : Prop :=
  (∀ a x, ((![v493] : Fin 1 → IVec S16 32) a x).toNat < S16384.size a)
theorem k0_idx202_inb : ∀ (v493 : IVec S16 32) (k0_hw202 : k0_chk202 v493), ∀ a x, ((![v493] : Fin 1 → IVec S16 32) a x).toNat < S16384.size a := fun v493 k0_hw202 => k0_hw202

def k0_chk203 (v567 : IVec S16 32) : Prop :=
  (∀ a x, ((![v567] : Fin 1 → IVec S16 32) a x).toNat < S16384.size a)
theorem k0_idx203_inb : ∀ (v567 : IVec S16 32) (k0_hw203 : k0_chk203 v567), ∀ a x, ((![v567] : Fin 1 → IVec S16 32) a x).toNat < S16384.size a := fun v567 k0_hw203 => k0_hw203

def k0_chk204 (v572 : IVec S16 32) : Prop :=
  (∀ a x, ((![v572] : Fin 1 → IVec S16 32) a x).toNat < S16384.size a)
theorem k0_idx204_inb : ∀ (v572 : IVec S16 32) (k0_hw204 : k0_chk204 v572), ∀ a x, ((![v572] : Fin 1 → IVec S16 32) a x).toNat < S16384.size a := fun v572 k0_hw204 => k0_hw204
def k0_cond7 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_64 : BitVec 32 := 4#32
  let v138 : BitVec 32 := Scalar.muli arg16 c4_i32_64
  let c3_i32_65 : BitVec 32 := 3#32
  let v139 : BitVec 32 := Scalar.addi v138 c3_i32_65
  let c2_i32_67 : BitVec 32 := 2#32
  let v144 : BitVec 1 := Scalar.cmpi .sge v139 c2_i32_67
  let v145 : BitVec 32 := Scalar.extui v144
  let c0_i32_68 : BitVec 32 := 0#32
  let v146 : BitVec 1 := Scalar.cmpi .ne v145 c0_i32_68
  v146

def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_64 : BitVec 32 := 4#32
  let v138 : BitVec 32 := Scalar.muli arg16 c4_i32_64
  let c3_i32_65 : BitVec 32 := 3#32
  let v139 : BitVec 32 := Scalar.addi v138 c3_i32_65
  let c2_i32_78 : BitVec 32 := 2#32
  let v156 : BitVec 32 := Scalar.subi v139 c2_i32_78
  let c16384_i32_79 : BitVec 32 := 16384#32
  let v157 : BitVec 32 := Scalar.muli v156 c16384_i32_79
  let v158 : BitVec 32 := Scalar.addi v3 v157
  ![v158.toNat]
def k0_cond8 (k0_t1 : Fin k0_t1_loop.trips) : BitVec 1 :=
  let c0_i32_19 : BitVec 32 := 0#32
  let c1_i32_21 : BitVec 32 := 1#32
  let arg16 : BitVec 32 := Scf.iv c0_i32_19 c1_i32_21 k0_t1
  let c4_i32_64 : BitVec 32 := 4#32
  let v138 : BitVec 32 := Scalar.muli arg16 c4_i32_64
  let c3_i32_65 : BitVec 32 := 3#32
  let v139 : BitVec 32 := Scalar.addi v138 c3_i32_65
  let c2_i32_69 : BitVec 32 := 2#32
  let v147 : BitVec 32 := Scalar.addi v139 c2_i32_69
  let c64_i32_70 : BitVec 32 := 64#32
  let v148 : BitVec 1 := Scalar.cmpi .slt v147 c64_i32_70
  let v149 : BitVec 32 := Scalar.extui v148
  let c0_i32_71 : BitVec 32 := 0#32
  let v150 : BitVec 1 := Scalar.cmpi .ne v149 c0_i32_71
  v150

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c128_i32 : BitVec 32 := 128#32
  let v3 : BitVec 32 := Scalar.muli v2 c128_i32
  let c0_i32_19 : BitVec 32 := 0#32
  let c1_i32_21 : BitVec 32 := 1#32
  let arg16 : BitVec 32 := Scf.iv c0_i32_19 c1_i32_21 k0_t1
  let c4_i32_64 : BitVec 32 := 4#32
  let v138 : BitVec 32 := Scalar.muli arg16 c4_i32_64
  let c3_i32_65 : BitVec 32 := 3#32
  let v139 : BitVec 32 := Scalar.addi v138 c3_i32_65
  let c2_i32_78 : BitVec 32 := 2#32
  let v156 : BitVec 32 := Scalar.addi v139 c2_i32_78
  let c16384_i32_79 : BitVec 32 := 16384#32
  let v157 : BitVec 32 := Scalar.muli v156 c16384_i32_79
  let v158 : BitVec 32 := Scalar.addi v3 v157
  ![v158.toNat]
@[reducible] def k0_t5_loop : Scf.Loop 32 :=
  let c0_i32_73 : BitVec 32 := 0#32
  let c8_i32_74 : BitVec 32 := 8#32
  let v151 : BitVec 32 := Scalar.addi c0_i32_73 c8_i32_74
  let c1_i32_75 : BitVec 32 := 1#32
  ⟨c0_i32_73, v151, c1_i32_75⟩

def k0_chk205 (v160 : IVec S16 32) : Prop :=
  (∀ a x, ((![v160] : Fin 1 → IVec S16 32) a x).toNat < S16384.size a)
theorem k0_idx205_inb : ∀ (v160 : IVec S16 32) (k0_hw205 : k0_chk205 v160), ∀ a x, ((![v160] : Fin 1 → IVec S16 32) a x).toNat < S16384.size a := fun v160 k0_hw205 => k0_hw205

def k0_chk206 (v163 : IVec S16 32) : Prop :=
  (∀ a x, ((![v163] : Fin 1 → IVec S16 32) a x).toNat < S16384.size a)
theorem k0_idx206_inb : ∀ (v163 : IVec S16 32) (k0_hw206 : k0_chk206 v163), ∀ a x, ((![v163] : Fin 1 → IVec S16 32) a x).toNat < S16384.size a := fun v163 k0_hw206 => k0_hw206

def k0_chk207 (v172 : IVec S16 32) : Prop :=
  (∀ a x, ((![v172] : Fin 1 → IVec S16 32) a x).toNat < S16384.size a)
theorem k0_idx207_inb : ∀ (v172 : IVec S16 32) (k0_hw207 : k0_chk207 v172), ∀ a x, ((![v172] : Fin 1 → IVec S16 32) a x).toNat < S16384.size a := fun v172 k0_hw207 => k0_hw207

def k0_chk208 (v174 : IVec S16 32) : Prop :=
  (∀ a x, ((![v174] : Fin 1 → IVec S16 32) a x).toNat < S16384.size a)
theorem k0_idx208_inb : ∀ (v174 : IVec S16 32) (k0_hw208 : k0_chk208 v174), ∀ a x, ((![v174] : Fin 1 → IVec S16 32) a x).toNat < S16384.size a := fun v174 k0_hw208 => k0_hw208

def k0_chk209 (v176 : IVec S16 32) : Prop :=
  (∀ a x, ((![v176] : Fin 1 → IVec S16 32) a x).toNat < S16384.size a)
theorem k0_idx209_inb : ∀ (v176 : IVec S16 32) (k0_hw209 : k0_chk209 v176), ∀ a x, ((![v176] : Fin 1 → IVec S16 32) a x).toNat < S16384.size a := fun v176 k0_hw209 => k0_hw209

def k0_chk210 (v178 : IVec S16 32) : Prop :=
  (∀ a x, ((![v178] : Fin 1 → IVec S16 32) a x).toNat < S16384.size a)
theorem k0_idx210_inb : ∀ (v178 : IVec S16 32) (k0_hw210 : k0_chk210 v178), ∀ a x, ((![v178] : Fin 1 → IVec S16 32) a x).toNat < S16384.size a := fun v178 k0_hw210 => k0_hw210

def k0_chk211 (v180 : IVec S16 32) : Prop :=
  (∀ a x, ((![v180] : Fin 1 → IVec S16 32) a x).toNat < S16384.size a)
theorem k0_idx211_inb : ∀ (v180 : IVec S16 32) (k0_hw211 : k0_chk211 v180), ∀ a x, ((![v180] : Fin 1 → IVec S16 32) a x).toNat < S16384.size a := fun v180 k0_hw211 => k0_hw211

def k0_chk212 (v182 : IVec S16 32) : Prop :=
  (∀ a x, ((![v182] : Fin 1 → IVec S16 32) a x).toNat < S16384.size a)
theorem k0_idx212_inb : ∀ (v182 : IVec S16 32) (k0_hw212 : k0_chk212 v182), ∀ a x, ((![v182] : Fin 1 → IVec S16 32) a x).toNat < S16384.size a := fun v182 k0_hw212 => k0_hw212

def k0_chk213 (v184 : IVec S16 32) : Prop :=
  (∀ a x, ((![v184] : Fin 1 → IVec S16 32) a x).toNat < S16384.size a)
theorem k0_idx213_inb : ∀ (v184 : IVec S16 32) (k0_hw213 : k0_chk213 v184), ∀ a x, ((![v184] : Fin 1 → IVec S16 32) a x).toNat < S16384.size a := fun v184 k0_hw213 => k0_hw213

def k0_chk214 (v186 : IVec S16 32) : Prop :=
  (∀ a x, ((![v186] : Fin 1 → IVec S16 32) a x).toNat < S16384.size a)
theorem k0_idx214_inb : ∀ (v186 : IVec S16 32) (k0_hw214 : k0_chk214 v186), ∀ a x, ((![v186] : Fin 1 → IVec S16 32) a x).toNat < S16384.size a := fun v186 k0_hw214 => k0_hw214

def k0_chk215 (v188 : IVec S16 32) : Prop :=
  (∀ a x, ((![v188] : Fin 1 → IVec S16 32) a x).toNat < S16384.size a)
theorem k0_idx215_inb : ∀ (v188 : IVec S16 32) (k0_hw215 : k0_chk215 v188), ∀ a x, ((![v188] : Fin 1 → IVec S16 32) a x).toNat < S16384.size a := fun v188 k0_hw215 => k0_hw215

def k0_chk216 (v190 : IVec S16 32) : Prop :=
  (∀ a x, ((![v190] : Fin 1 → IVec S16 32) a x).toNat < S16384.size a)
theorem k0_idx216_inb : ∀ (v190 : IVec S16 32) (k0_hw216 : k0_chk216 v190), ∀ a x, ((![v190] : Fin 1 → IVec S16 32) a x).toNat < S16384.size a := fun v190 k0_hw216 => k0_hw216

def k0_chk217 (v192 : IVec S16 32) : Prop :=
  (∀ a x, ((![v192] : Fin 1 → IVec S16 32) a x).toNat < S16384.size a)
theorem k0_idx217_inb : ∀ (v192 : IVec S16 32) (k0_hw217 : k0_chk217 v192), ∀ a x, ((![v192] : Fin 1 → IVec S16 32) a x).toNat < S16384.size a := fun v192 k0_hw217 => k0_hw217

def k0_chk218 (v194 : IVec S16 32) : Prop :=
  (∀ a x, ((![v194] : Fin 1 → IVec S16 32) a x).toNat < S16384.size a)
theorem k0_idx218_inb : ∀ (v194 : IVec S16 32) (k0_hw218 : k0_chk218 v194), ∀ a x, ((![v194] : Fin 1 → IVec S16 32) a x).toNat < S16384.size a := fun v194 k0_hw218 => k0_hw218

def k0_chk219 (v196 : IVec S16 32) : Prop :=
  (∀ a x, ((![v196] : Fin 1 → IVec S16 32) a x).toNat < S16384.size a)
theorem k0_idx219_inb : ∀ (v196 : IVec S16 32) (k0_hw219 : k0_chk219 v196), ∀ a x, ((![v196] : Fin 1 → IVec S16 32) a x).toNat < S16384.size a := fun v196 k0_hw219 => k0_hw219

def k0_chk220 (v198 : IVec S16 32) : Prop :=
  (∀ a x, ((![v198] : Fin 1 → IVec S16 32) a x).toNat < S16384.size a)
theorem k0_idx220_inb : ∀ (v198 : IVec S16 32) (k0_hw220 : k0_chk220 v198), ∀ a x, ((![v198] : Fin 1 → IVec S16 32) a x).toNat < S16384.size a := fun v198 k0_hw220 => k0_hw220

def k0_chk221 (v200 : IVec S16 32) : Prop :=
  (∀ a x, ((![v200] : Fin 1 → IVec S16 32) a x).toNat < S16384.size a)
theorem k0_idx221_inb : ∀ (v200 : IVec S16 32) (k0_hw221 : k0_chk221 v200), ∀ a x, ((![v200] : Fin 1 → IVec S16 32) a x).toNat < S16384.size a := fun v200 k0_hw221 => k0_hw221

def k0_chk222 (v202 : IVec S16 32) : Prop :=
  (∀ a x, ((![v202] : Fin 1 → IVec S16 32) a x).toNat < S16384.size a)
theorem k0_idx222_inb : ∀ (v202 : IVec S16 32) (k0_hw222 : k0_chk222 v202), ∀ a x, ((![v202] : Fin 1 → IVec S16 32) a x).toNat < S16384.size a := fun v202 k0_hw222 => k0_hw222

def k0_chk223 (v268 : IVec S16 32) : Prop :=
  (∀ a x, ((![v268] : Fin 1 → IVec S16 32) a x).toNat < S16384.size a)
theorem k0_idx223_inb : ∀ (v268 : IVec S16 32) (k0_hw223 : k0_chk223 v268), ∀ a x, ((![v268] : Fin 1 → IVec S16 32) a x).toNat < S16384.size a := fun v268 k0_hw223 => k0_hw223

def k0_chk224 (v270 : IVec S16 32) : Prop :=
  (∀ a x, ((![v270] : Fin 1 → IVec S16 32) a x).toNat < S16384.size a)
theorem k0_idx224_inb : ∀ (v270 : IVec S16 32) (k0_hw224 : k0_chk224 v270), ∀ a x, ((![v270] : Fin 1 → IVec S16 32) a x).toNat < S16384.size a := fun v270 k0_hw224 => k0_hw224

def k0_chk225 (v272 : IVec S16 32) : Prop :=
  (∀ a x, ((![v272] : Fin 1 → IVec S16 32) a x).toNat < S16384.size a)
theorem k0_idx225_inb : ∀ (v272 : IVec S16 32) (k0_hw225 : k0_chk225 v272), ∀ a x, ((![v272] : Fin 1 → IVec S16 32) a x).toNat < S16384.size a := fun v272 k0_hw225 => k0_hw225

def k0_chk226 (v274 : IVec S16 32) : Prop :=
  (∀ a x, ((![v274] : Fin 1 → IVec S16 32) a x).toNat < S16384.size a)
theorem k0_idx226_inb : ∀ (v274 : IVec S16 32) (k0_hw226 : k0_chk226 v274), ∀ a x, ((![v274] : Fin 1 → IVec S16 32) a x).toNat < S16384.size a := fun v274 k0_hw226 => k0_hw226

def k0_chk227 (v276 : IVec S16 32) : Prop :=
  (∀ a x, ((![v276] : Fin 1 → IVec S16 32) a x).toNat < S16384.size a)
theorem k0_idx227_inb : ∀ (v276 : IVec S16 32) (k0_hw227 : k0_chk227 v276), ∀ a x, ((![v276] : Fin 1 → IVec S16 32) a x).toNat < S16384.size a := fun v276 k0_hw227 => k0_hw227

def k0_chk228 (v278 : IVec S16 32) : Prop :=
  (∀ a x, ((![v278] : Fin 1 → IVec S16 32) a x).toNat < S16384.size a)
theorem k0_idx228_inb : ∀ (v278 : IVec S16 32) (k0_hw228 : k0_chk228 v278), ∀ a x, ((![v278] : Fin 1 → IVec S16 32) a x).toNat < S16384.size a := fun v278 k0_hw228 => k0_hw228

def k0_chk229 (v280 : IVec S16 32) : Prop :=
  (∀ a x, ((![v280] : Fin 1 → IVec S16 32) a x).toNat < S16384.size a)
theorem k0_idx229_inb : ∀ (v280 : IVec S16 32) (k0_hw229 : k0_chk229 v280), ∀ a x, ((![v280] : Fin 1 → IVec S16 32) a x).toNat < S16384.size a := fun v280 k0_hw229 => k0_hw229

def k0_chk230 (v282 : IVec S16 32) : Prop :=
  (∀ a x, ((![v282] : Fin 1 → IVec S16 32) a x).toNat < S16384.size a)
theorem k0_idx230_inb : ∀ (v282 : IVec S16 32) (k0_hw230 : k0_chk230 v282), ∀ a x, ((![v282] : Fin 1 → IVec S16 32) a x).toNat < S16384.size a := fun v282 k0_hw230 => k0_hw230

def k0_chk231 (v284 : IVec S16 32) : Prop :=
  (∀ a x, ((![v284] : Fin 1 → IVec S16 32) a x).toNat < S16384.size a)
theorem k0_idx231_inb : ∀ (v284 : IVec S16 32) (k0_hw231 : k0_chk231 v284), ∀ a x, ((![v284] : Fin 1 → IVec S16 32) a x).toNat < S16384.size a := fun v284 k0_hw231 => k0_hw231

def k0_chk232 (v286 : IVec S16 32) : Prop :=
  (∀ a x, ((![v286] : Fin 1 → IVec S16 32) a x).toNat < S16384.size a)
theorem k0_idx232_inb : ∀ (v286 : IVec S16 32) (k0_hw232 : k0_chk232 v286), ∀ a x, ((![v286] : Fin 1 → IVec S16 32) a x).toNat < S16384.size a := fun v286 k0_hw232 => k0_hw232

def k0_chk233 (v288 : IVec S16 32) : Prop :=
  (∀ a x, ((![v288] : Fin 1 → IVec S16 32) a x).toNat < S16384.size a)
theorem k0_idx233_inb : ∀ (v288 : IVec S16 32) (k0_hw233 : k0_chk233 v288), ∀ a x, ((![v288] : Fin 1 → IVec S16 32) a x).toNat < S16384.size a := fun v288 k0_hw233 => k0_hw233

def k0_chk234 (v290 : IVec S16 32) : Prop :=
  (∀ a x, ((![v290] : Fin 1 → IVec S16 32) a x).toNat < S16384.size a)
theorem k0_idx234_inb : ∀ (v290 : IVec S16 32) (k0_hw234 : k0_chk234 v290), ∀ a x, ((![v290] : Fin 1 → IVec S16 32) a x).toNat < S16384.size a := fun v290 k0_hw234 => k0_hw234

def k0_chk235 (v292 : IVec S16 32) : Prop :=
  (∀ a x, ((![v292] : Fin 1 → IVec S16 32) a x).toNat < S16384.size a)
theorem k0_idx235_inb : ∀ (v292 : IVec S16 32) (k0_hw235 : k0_chk235 v292), ∀ a x, ((![v292] : Fin 1 → IVec S16 32) a x).toNat < S16384.size a := fun v292 k0_hw235 => k0_hw235

def k0_chk236 (v294 : IVec S16 32) : Prop :=
  (∀ a x, ((![v294] : Fin 1 → IVec S16 32) a x).toNat < S16384.size a)
theorem k0_idx236_inb : ∀ (v294 : IVec S16 32) (k0_hw236 : k0_chk236 v294), ∀ a x, ((![v294] : Fin 1 → IVec S16 32) a x).toNat < S16384.size a := fun v294 k0_hw236 => k0_hw236

def k0_chk237 (v296 : IVec S16 32) : Prop :=
  (∀ a x, ((![v296] : Fin 1 → IVec S16 32) a x).toNat < S16384.size a)
theorem k0_idx237_inb : ∀ (v296 : IVec S16 32) (k0_hw237 : k0_chk237 v296), ∀ a x, ((![v296] : Fin 1 → IVec S16 32) a x).toNat < S16384.size a := fun v296 k0_hw237 => k0_hw237

def k0_chk238 (v298 : IVec S16 32) : Prop :=
  (∀ a x, ((![v298] : Fin 1 → IVec S16 32) a x).toNat < S16384.size a)
theorem k0_idx238_inb : ∀ (v298 : IVec S16 32) (k0_hw238 : k0_chk238 v298), ∀ a x, ((![v298] : Fin 1 → IVec S16 32) a x).toNat < S16384.size a := fun v298 k0_hw238 => k0_hw238

def k0_chk239 (v367 : IVec S16 32) : Prop :=
  (∀ a x, ((![v367] : Fin 1 → IVec S16 32) a x).toNat < S16384.size a)
theorem k0_idx239_inb : ∀ (v367 : IVec S16 32) (k0_hw239 : k0_chk239 v367), ∀ a x, ((![v367] : Fin 1 → IVec S16 32) a x).toNat < S16384.size a := fun v367 k0_hw239 => k0_hw239

def k0_chk240 (v369 : IVec S16 32) : Prop :=
  (∀ a x, ((![v369] : Fin 1 → IVec S16 32) a x).toNat < S16384.size a)
theorem k0_idx240_inb : ∀ (v369 : IVec S16 32) (k0_hw240 : k0_chk240 v369), ∀ a x, ((![v369] : Fin 1 → IVec S16 32) a x).toNat < S16384.size a := fun v369 k0_hw240 => k0_hw240

def k0_chk241 (v371 : IVec S16 32) : Prop :=
  (∀ a x, ((![v371] : Fin 1 → IVec S16 32) a x).toNat < S16384.size a)
theorem k0_idx241_inb : ∀ (v371 : IVec S16 32) (k0_hw241 : k0_chk241 v371), ∀ a x, ((![v371] : Fin 1 → IVec S16 32) a x).toNat < S16384.size a := fun v371 k0_hw241 => k0_hw241

def k0_chk242 (v373 : IVec S16 32) : Prop :=
  (∀ a x, ((![v373] : Fin 1 → IVec S16 32) a x).toNat < S16384.size a)
theorem k0_idx242_inb : ∀ (v373 : IVec S16 32) (k0_hw242 : k0_chk242 v373), ∀ a x, ((![v373] : Fin 1 → IVec S16 32) a x).toNat < S16384.size a := fun v373 k0_hw242 => k0_hw242

def k0_chk243 (v375 : IVec S16 32) : Prop :=
  (∀ a x, ((![v375] : Fin 1 → IVec S16 32) a x).toNat < S16384.size a)
theorem k0_idx243_inb : ∀ (v375 : IVec S16 32) (k0_hw243 : k0_chk243 v375), ∀ a x, ((![v375] : Fin 1 → IVec S16 32) a x).toNat < S16384.size a := fun v375 k0_hw243 => k0_hw243

def k0_chk244 (v377 : IVec S16 32) : Prop :=
  (∀ a x, ((![v377] : Fin 1 → IVec S16 32) a x).toNat < S16384.size a)
theorem k0_idx244_inb : ∀ (v377 : IVec S16 32) (k0_hw244 : k0_chk244 v377), ∀ a x, ((![v377] : Fin 1 → IVec S16 32) a x).toNat < S16384.size a := fun v377 k0_hw244 => k0_hw244

def k0_chk245 (v379 : IVec S16 32) : Prop :=
  (∀ a x, ((![v379] : Fin 1 → IVec S16 32) a x).toNat < S16384.size a)
theorem k0_idx245_inb : ∀ (v379 : IVec S16 32) (k0_hw245 : k0_chk245 v379), ∀ a x, ((![v379] : Fin 1 → IVec S16 32) a x).toNat < S16384.size a := fun v379 k0_hw245 => k0_hw245

def k0_chk246 (v381 : IVec S16 32) : Prop :=
  (∀ a x, ((![v381] : Fin 1 → IVec S16 32) a x).toNat < S16384.size a)
theorem k0_idx246_inb : ∀ (v381 : IVec S16 32) (k0_hw246 : k0_chk246 v381), ∀ a x, ((![v381] : Fin 1 → IVec S16 32) a x).toNat < S16384.size a := fun v381 k0_hw246 => k0_hw246

def k0_chk247 (v383 : IVec S16 32) : Prop :=
  (∀ a x, ((![v383] : Fin 1 → IVec S16 32) a x).toNat < S16384.size a)
theorem k0_idx247_inb : ∀ (v383 : IVec S16 32) (k0_hw247 : k0_chk247 v383), ∀ a x, ((![v383] : Fin 1 → IVec S16 32) a x).toNat < S16384.size a := fun v383 k0_hw247 => k0_hw247

def k0_chk248 (v385 : IVec S16 32) : Prop :=
  (∀ a x, ((![v385] : Fin 1 → IVec S16 32) a x).toNat < S16384.size a)
theorem k0_idx248_inb : ∀ (v385 : IVec S16 32) (k0_hw248 : k0_chk248 v385), ∀ a x, ((![v385] : Fin 1 → IVec S16 32) a x).toNat < S16384.size a := fun v385 k0_hw248 => k0_hw248

def k0_chk249 (v387 : IVec S16 32) : Prop :=
  (∀ a x, ((![v387] : Fin 1 → IVec S16 32) a x).toNat < S16384.size a)
theorem k0_idx249_inb : ∀ (v387 : IVec S16 32) (k0_hw249 : k0_chk249 v387), ∀ a x, ((![v387] : Fin 1 → IVec S16 32) a x).toNat < S16384.size a := fun v387 k0_hw249 => k0_hw249

def k0_chk250 (v389 : IVec S16 32) : Prop :=
  (∀ a x, ((![v389] : Fin 1 → IVec S16 32) a x).toNat < S16384.size a)
theorem k0_idx250_inb : ∀ (v389 : IVec S16 32) (k0_hw250 : k0_chk250 v389), ∀ a x, ((![v389] : Fin 1 → IVec S16 32) a x).toNat < S16384.size a := fun v389 k0_hw250 => k0_hw250

def k0_chk251 (v391 : IVec S16 32) : Prop :=
  (∀ a x, ((![v391] : Fin 1 → IVec S16 32) a x).toNat < S16384.size a)
theorem k0_idx251_inb : ∀ (v391 : IVec S16 32) (k0_hw251 : k0_chk251 v391), ∀ a x, ((![v391] : Fin 1 → IVec S16 32) a x).toNat < S16384.size a := fun v391 k0_hw251 => k0_hw251

def k0_chk252 (v393 : IVec S16 32) : Prop :=
  (∀ a x, ((![v393] : Fin 1 → IVec S16 32) a x).toNat < S16384.size a)
theorem k0_idx252_inb : ∀ (v393 : IVec S16 32) (k0_hw252 : k0_chk252 v393), ∀ a x, ((![v393] : Fin 1 → IVec S16 32) a x).toNat < S16384.size a := fun v393 k0_hw252 => k0_hw252

def k0_chk253 (v395 : IVec S16 32) : Prop :=
  (∀ a x, ((![v395] : Fin 1 → IVec S16 32) a x).toNat < S16384.size a)
theorem k0_idx253_inb : ∀ (v395 : IVec S16 32) (k0_hw253 : k0_chk253 v395), ∀ a x, ((![v395] : Fin 1 → IVec S16 32) a x).toNat < S16384.size a := fun v395 k0_hw253 => k0_hw253

def k0_chk254 (v397 : IVec S16 32) : Prop :=
  (∀ a x, ((![v397] : Fin 1 → IVec S16 32) a x).toNat < S16384.size a)
theorem k0_idx254_inb : ∀ (v397 : IVec S16 32) (k0_hw254 : k0_chk254 v397), ∀ a x, ((![v397] : Fin 1 → IVec S16 32) a x).toNat < S16384.size a := fun v397 k0_hw254 => k0_hw254

def k0_chk255 (v463 : IVec S16 32) : Prop :=
  (∀ a x, ((![v463] : Fin 1 → IVec S16 32) a x).toNat < S16384.size a)
theorem k0_idx255_inb : ∀ (v463 : IVec S16 32) (k0_hw255 : k0_chk255 v463), ∀ a x, ((![v463] : Fin 1 → IVec S16 32) a x).toNat < S16384.size a := fun v463 k0_hw255 => k0_hw255

def k0_chk256 (v465 : IVec S16 32) : Prop :=
  (∀ a x, ((![v465] : Fin 1 → IVec S16 32) a x).toNat < S16384.size a)
theorem k0_idx256_inb : ∀ (v465 : IVec S16 32) (k0_hw256 : k0_chk256 v465), ∀ a x, ((![v465] : Fin 1 → IVec S16 32) a x).toNat < S16384.size a := fun v465 k0_hw256 => k0_hw256

def k0_chk257 (v467 : IVec S16 32) : Prop :=
  (∀ a x, ((![v467] : Fin 1 → IVec S16 32) a x).toNat < S16384.size a)
theorem k0_idx257_inb : ∀ (v467 : IVec S16 32) (k0_hw257 : k0_chk257 v467), ∀ a x, ((![v467] : Fin 1 → IVec S16 32) a x).toNat < S16384.size a := fun v467 k0_hw257 => k0_hw257

def k0_chk258 (v469 : IVec S16 32) : Prop :=
  (∀ a x, ((![v469] : Fin 1 → IVec S16 32) a x).toNat < S16384.size a)
theorem k0_idx258_inb : ∀ (v469 : IVec S16 32) (k0_hw258 : k0_chk258 v469), ∀ a x, ((![v469] : Fin 1 → IVec S16 32) a x).toNat < S16384.size a := fun v469 k0_hw258 => k0_hw258

def k0_chk259 (v471 : IVec S16 32) : Prop :=
  (∀ a x, ((![v471] : Fin 1 → IVec S16 32) a x).toNat < S16384.size a)
theorem k0_idx259_inb : ∀ (v471 : IVec S16 32) (k0_hw259 : k0_chk259 v471), ∀ a x, ((![v471] : Fin 1 → IVec S16 32) a x).toNat < S16384.size a := fun v471 k0_hw259 => k0_hw259

def k0_chk260 (v473 : IVec S16 32) : Prop :=
  (∀ a x, ((![v473] : Fin 1 → IVec S16 32) a x).toNat < S16384.size a)
theorem k0_idx260_inb : ∀ (v473 : IVec S16 32) (k0_hw260 : k0_chk260 v473), ∀ a x, ((![v473] : Fin 1 → IVec S16 32) a x).toNat < S16384.size a := fun v473 k0_hw260 => k0_hw260

def k0_chk261 (v475 : IVec S16 32) : Prop :=
  (∀ a x, ((![v475] : Fin 1 → IVec S16 32) a x).toNat < S16384.size a)
theorem k0_idx261_inb : ∀ (v475 : IVec S16 32) (k0_hw261 : k0_chk261 v475), ∀ a x, ((![v475] : Fin 1 → IVec S16 32) a x).toNat < S16384.size a := fun v475 k0_hw261 => k0_hw261

def k0_chk262 (v477 : IVec S16 32) : Prop :=
  (∀ a x, ((![v477] : Fin 1 → IVec S16 32) a x).toNat < S16384.size a)
theorem k0_idx262_inb : ∀ (v477 : IVec S16 32) (k0_hw262 : k0_chk262 v477), ∀ a x, ((![v477] : Fin 1 → IVec S16 32) a x).toNat < S16384.size a := fun v477 k0_hw262 => k0_hw262

def k0_chk263 (v479 : IVec S16 32) : Prop :=
  (∀ a x, ((![v479] : Fin 1 → IVec S16 32) a x).toNat < S16384.size a)
theorem k0_idx263_inb : ∀ (v479 : IVec S16 32) (k0_hw263 : k0_chk263 v479), ∀ a x, ((![v479] : Fin 1 → IVec S16 32) a x).toNat < S16384.size a := fun v479 k0_hw263 => k0_hw263

def k0_chk264 (v481 : IVec S16 32) : Prop :=
  (∀ a x, ((![v481] : Fin 1 → IVec S16 32) a x).toNat < S16384.size a)
theorem k0_idx264_inb : ∀ (v481 : IVec S16 32) (k0_hw264 : k0_chk264 v481), ∀ a x, ((![v481] : Fin 1 → IVec S16 32) a x).toNat < S16384.size a := fun v481 k0_hw264 => k0_hw264

def k0_chk265 (v483 : IVec S16 32) : Prop :=
  (∀ a x, ((![v483] : Fin 1 → IVec S16 32) a x).toNat < S16384.size a)
theorem k0_idx265_inb : ∀ (v483 : IVec S16 32) (k0_hw265 : k0_chk265 v483), ∀ a x, ((![v483] : Fin 1 → IVec S16 32) a x).toNat < S16384.size a := fun v483 k0_hw265 => k0_hw265

def k0_chk266 (v485 : IVec S16 32) : Prop :=
  (∀ a x, ((![v485] : Fin 1 → IVec S16 32) a x).toNat < S16384.size a)
theorem k0_idx266_inb : ∀ (v485 : IVec S16 32) (k0_hw266 : k0_chk266 v485), ∀ a x, ((![v485] : Fin 1 → IVec S16 32) a x).toNat < S16384.size a := fun v485 k0_hw266 => k0_hw266

def k0_chk267 (v487 : IVec S16 32) : Prop :=
  (∀ a x, ((![v487] : Fin 1 → IVec S16 32) a x).toNat < S16384.size a)
theorem k0_idx267_inb : ∀ (v487 : IVec S16 32) (k0_hw267 : k0_chk267 v487), ∀ a x, ((![v487] : Fin 1 → IVec S16 32) a x).toNat < S16384.size a := fun v487 k0_hw267 => k0_hw267

def k0_chk268 (v489 : IVec S16 32) : Prop :=
  (∀ a x, ((![v489] : Fin 1 → IVec S16 32) a x).toNat < S16384.size a)
theorem k0_idx268_inb : ∀ (v489 : IVec S16 32) (k0_hw268 : k0_chk268 v489), ∀ a x, ((![v489] : Fin 1 → IVec S16 32) a x).toNat < S16384.size a := fun v489 k0_hw268 => k0_hw268

def k0_chk269 (v491 : IVec S16 32) : Prop :=
  (∀ a x, ((![v491] : Fin 1 → IVec S16 32) a x).toNat < S16384.size a)
theorem k0_idx269_inb : ∀ (v491 : IVec S16 32) (k0_hw269 : k0_chk269 v491), ∀ a x, ((![v491] : Fin 1 → IVec S16 32) a x).toNat < S16384.size a := fun v491 k0_hw269 => k0_hw269

def k0_chk270 (v493 : IVec S16 32) : Prop :=
  (∀ a x, ((![v493] : Fin 1 → IVec S16 32) a x).toNat < S16384.size a)
theorem k0_idx270_inb : ∀ (v493 : IVec S16 32) (k0_hw270 : k0_chk270 v493), ∀ a x, ((![v493] : Fin 1 → IVec S16 32) a x).toNat < S16384.size a := fun v493 k0_hw270 => k0_hw270

def k0_chk271 (v567 : IVec S16 32) : Prop :=
  (∀ a x, ((![v567] : Fin 1 → IVec S16 32) a x).toNat < S16384.size a)
theorem k0_idx271_inb : ∀ (v567 : IVec S16 32) (k0_hw271 : k0_chk271 v567), ∀ a x, ((![v567] : Fin 1 → IVec S16 32) a x).toNat < S16384.size a := fun v567 k0_hw271 => k0_hw271

def k0_chk272 (v572 : IVec S16 32) : Prop :=
  (∀ a x, ((![v572] : Fin 1 → IVec S16 32) a x).toNat < S16384.size a)
theorem k0_idx272_inb : ∀ (v572 : IVec S16 32) (k0_hw272 : k0_chk272 v572), ∀ a x, ((![v572] : Fin 1 → IVec S16 32) a x).toNat < S16384.size a := fun v572 k0_hw272 => k0_hw272
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x8192x128 : Shape := ⟨3, ![32, 8192, 128]⟩
abbrev S32x8192x1 : Shape := ⟨3, ![32, 8192, 1]⟩
abbrev S32x8192 : Shape := ⟨2, ![32, 8192]⟩
abbrev S_ : Shape := ⟨0, ![]⟩
abbrev S32x8192x16 : Shape := ⟨3, ![32, 8192, 16]⟩
abbrev S1x1x16 : Shape := ⟨3, ![1, 1, 16]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x8192x1, .f32⟩
  | .hbm, ⟨2, _⟩ => ⟨S32x8192, .f32⟩
  | .hbm, ⟨3, _⟩ => ⟨S_, .f32⟩
  | .hbm, ⟨4, _⟩ => ⟨S32x8192, .f32⟩
  | .hbm, ⟨5, _⟩ => ⟨S32x8192, .i1⟩
  | .hbm, ⟨6, _⟩ => ⟨S32x8192x1, .f32⟩
  | .hbm, ⟨7, _⟩ => ⟨S32x8192, .f32⟩
  | .hbm, ⟨8, _⟩ => ⟨S_, .f32⟩
  | .hbm, ⟨9, _⟩ => ⟨S32x8192, .f32⟩
  | .hbm, ⟨10, _⟩ => ⟨S32x8192, .i1⟩
  | .hbm, ⟨11, _⟩ => ⟨S32x8192, .i1⟩
  | .hbm, ⟨12, _⟩ => ⟨S32x8192x16, .f32⟩
  | .hbm, ⟨13, _⟩ => ⟨S32x8192x16, .i32⟩
  | .hbm, ⟨14, _⟩ => ⟨S_, .f32⟩
  | .hbm, ⟨15, _⟩ => ⟨S_, .i32⟩
  | .hbm, ⟨16, _⟩ => ⟨S32x8192, .f32⟩
  | .hbm, ⟨17, _⟩ => ⟨S32x8192, .i32⟩
  | .hbm, ⟨18, _⟩ => ⟨S32x8192x16, .f32⟩
  | .hbm, ⟨19, _⟩ => ⟨S32x8192x16, .i32⟩
  | .hbm, ⟨20, _⟩ => ⟨S_, .f32⟩
  | .hbm, ⟨21, _⟩ => ⟨S_, .i32⟩
  | .hbm, ⟨22, _⟩ => ⟨S32x8192, .f32⟩
  | .hbm, ⟨23, _⟩ => ⟨S32x8192, .i32⟩
  | .hbm, ⟨24, _⟩ => ⟨S_, .i32⟩
  | .hbm, ⟨25, _⟩ => ⟨S32x8192, .i32⟩
  | .hbm, ⟨26, _⟩ => ⟨S32x8192, .i32⟩
  | .hbm, ⟨27, _⟩ => ⟨S32x8192, .i32⟩
  | .hbm, ⟨28, _⟩ => ⟨S32x8192x16, .f32⟩
  | .hbm, ⟨29, _⟩ => ⟨S32x8192x16, .i32⟩
  | .hbm, ⟨30, _⟩ => ⟨S_, .f32⟩
  | .hbm, ⟨31, _⟩ => ⟨S_, .i32⟩
  | .hbm, ⟨32, _⟩ => ⟨S32x8192, .f32⟩
  | .hbm, ⟨33, _⟩ => ⟨S32x8192, .i32⟩
  | .hbm, ⟨34, _⟩ => ⟨S32x8192x16, .f32⟩
  | .hbm, ⟨35, _⟩ => ⟨S32x8192x16, .i32⟩
  | .hbm, ⟨36, _⟩ => ⟨S_, .f32⟩
  | .hbm, ⟨37, _⟩ => ⟨S_, .i32⟩
  | .hbm, ⟨38, _⟩ => ⟨S32x8192, .f32⟩
  | .hbm, ⟨39, _⟩ => ⟨S32x8192, .i32⟩
  | .hbm, ⟨40, _⟩ => ⟨S_, .i32⟩
  | .hbm, ⟨41, _⟩ => ⟨S32x8192, .i32⟩
  | .hbm, ⟨42, _⟩ => ⟨S32x8192, .i32⟩
  | .hbm, ⟨43, _⟩ => ⟨S32x8192, .i32⟩
  | .hbm, ⟨44, _⟩ => ⟨S32x8192, .i32⟩
  | .hbm, ⟨45, _⟩ => ⟨S_, .i32⟩
  | .hbm, ⟨46, _⟩ => ⟨S32x8192, .i32⟩
  | .hbm, ⟨47, _⟩ => ⟨S32x8192, .i32⟩
  | .hbm, ⟨48, _⟩ => ⟨S_, .i32⟩
  | .hbm, ⟨49, _⟩ => ⟨S32x8192, .i32⟩
  | .hbm, ⟨50, _⟩ => ⟨S32x8192, .i32⟩
  | .hbm, ⟨51, _⟩ => ⟨S_, .i32⟩
  | .hbm, ⟨52, _⟩ => ⟨S32x8192, .i32⟩
  | .hbm, ⟨53, _⟩ => ⟨S32x8192, .i32⟩
  | .hbm, ⟨54, _⟩ => ⟨S_, .i32⟩
  | .hbm, ⟨55, _⟩ => ⟨S32x8192, .i32⟩
  | .hbm, ⟨56, _⟩ => ⟨S32x8192, .i32⟩
  | .hbm, ⟨57, _⟩ => ⟨S32x8192x1, .i1⟩
  | .hbm, ⟨58, _⟩ => ⟨S32x8192x1, .f32⟩
  | .hbm, ⟨59, _⟩ => ⟨S32x8192x1, .i32⟩
  | .hbm, ⟨60, _⟩ => ⟨S1x1x16, .i32⟩
  | .hbm, ⟨61, _⟩ => ⟨S32x8192x16, .i32⟩
  | .hbm, ⟨62, _⟩ => ⟨S32x8192x16, .i32⟩
  | .hbm, ⟨63, _⟩ => ⟨S32x8192x16, .i1⟩
  | .hbm, ⟨64, _⟩ => ⟨S32x8192x16, .f32⟩
  | .hbm, ⟨65, _⟩ => ⟨S_, .f32⟩
  | .hbm, ⟨66, _⟩ => ⟨S32x8192x16, .f32⟩
  | .hbm, ⟨67, _⟩ => ⟨S32x8192x16, .f32⟩
  | .hbm, ⟨68, _⟩ => ⟨S32x8192x16, .f32⟩
  | .hbm, ⟨69, _⟩ => ⟨S32x8192x16, .f32⟩
  | .hbm, ⟨70, _⟩ => ⟨S32x8192x1, .i32⟩
  | .hbm, ⟨71, _⟩ => ⟨S1x1x16, .i32⟩
  | .hbm, ⟨72, _⟩ => ⟨S32x8192x16, .i32⟩
  | .hbm, ⟨73, _⟩ => ⟨S32x8192x16, .i32⟩
  | .hbm, ⟨74, _⟩ => ⟨S32x8192x16, .i1⟩
  | .hbm, ⟨75, _⟩ => ⟨S32x8192x16, .f32⟩
  | .hbm, ⟨76, _⟩ => ⟨S_, .f32⟩
  | .hbm, ⟨77, _⟩ => ⟨S32x8192x16, .f32⟩
  | .hbm, ⟨78, _⟩ => ⟨S32x8192x16, .f32⟩
  | .hbm, ⟨79, _⟩ => ⟨S32x8192x16, .f32⟩
  | .hbm, ⟨80, _⟩ => ⟨S32x8192x16, .f32⟩
  | .hbm, ⟨81, _⟩ => ⟨S_, .i32⟩
  | .hbm, ⟨82, _⟩ => ⟨S1, .i32⟩
  | .hbm, ⟨83, _⟩ => ⟨S32x8192x128, .f32⟩
  | .hbm, ⟨84, _⟩ => ⟨S_, .i32⟩
  | .hbm, ⟨85, _⟩ => ⟨S1, .i32⟩
  | .hbm, ⟨86, _⟩ => ⟨S32x8192x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v10 : Ref sig .tc := ⟨.hbm, 17, rfl⟩
abbrev main_v11 : Ref sig .tc := ⟨.hbm, 18, rfl⟩
abbrev main_call1_v0 : Ref sig .tc := ⟨.hbm, 19, rfl⟩
abbrev main_call1_cst : Ref sig .tc := ⟨.hbm, 20, rfl⟩
abbrev main_call1_c : Ref sig .tc := ⟨.hbm, 21, rfl⟩
abbrev main_call1_v1_0 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_v0 : Ref sig .tc := ⟨.hbm, 29, rfl⟩
abbrev main_call2_cst : Ref sig .tc := ⟨.hbm, 30, rfl⟩
abbrev main_call2_c : Ref sig .tc := ⟨.hbm, 31, rfl⟩
abbrev main_call2_v1_0 : Ref sig .tc := ⟨.hbm, 32, rfl⟩
abbrev main_v17 : Ref sig .tc := ⟨.hbm, 33, rfl⟩
abbrev main_v18 : Ref sig .tc := ⟨.hbm, 34, rfl⟩
abbrev main_call3_v0 : Ref sig .tc := ⟨.hbm, 35, rfl⟩
abbrev main_call3_cst : Ref sig .tc := ⟨.hbm, 36, rfl⟩
abbrev main_call3_c : Ref sig .tc := ⟨.hbm, 37, rfl⟩
abbrev main_call3_v1_0 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_8 : Ref sig .tc := ⟨.hbm, 81, rfl⟩
abbrev main_v44 : Ref sig .tc := ⟨.hbm, 82, rfl⟩
abbrev main_v45 : Ref sig .tc := ⟨.hbm, 83, rfl⟩
abbrev main_c_9 : Ref sig .tc := ⟨.hbm, 84, rfl⟩
abbrev main_v46 : Ref sig .tc := ⟨.hbm, 85, rfl⟩
abbrev main_v47 : Ref sig .tc := ⟨.hbm, 86, rfl⟩

abbrev nD : Nat := 1
abbrev τ : Topo := Topo.v7x

variable {F : FTy → Type} [FloatOps F]
-- ==== Proof.Tile.lean ====
/-
  One tile of the kernel's computation, sixteen rows of a chunk held in a vector memory buffer, as a program of its own:
  the four compute loops of the kernel, one per buffer, all run this program.
-/
module

public import proofs.«01_k».proof.Defs
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL.Sem

variable {F : FTy → Type} [FloatOps F]

/-- Sixteen values combined pairwise, four rounds. -/
def tree {α : Type} (f : α → α → α) (x0 x1 x2 x3 x4 x5 x6 x7 x8 x9 x10 x11 x12 x13 x14 x15 : α) : α :=
  f (f (f (f x0 x1) (f x2 x3)) (f (f x4 x5) (f x6 x7))) (f (f (f x8 x9) (f x10 x11)) (f (f x12 x13) (f x14 x15)))

variable {c : Fin τ.nSC} {s : Fin τ.nSub}

/-- The programs of a vector subcore. -/
abbrev Pr (F : FTy → Type) [FloatOps F] (c : Fin τ.nSC) (s : Fin τ.nSub) (α : Type) := Prog (TpuEff nD τ sig (Elt F) Λ₀ (.scVector c s)) α

/-- The sixteen elements of a buffer that a vector of word numbers in range names, then the rest of the program. -/
def ldK (b : Memref sig .scVector .vmem S16384 .f32) (w : IVec S16 32) (h : k0_chk1 w) (k : Vec F S16 .f32 → Pr F c s Unit) : Pr F c s Unit :=
  .op (.load b (.whole S16384) (View.loadsAt_whole (View.loads_vmem h_S16384))) fun f => k (loadIdx f ![w] (k0_idx1_inb w h))

/-- The sixteen elements of a buffer that a vector of word numbers names, the numbers checked to be in range first, then the rest. -/
def gatK (b : Memref sig .scVector .vmem S16384 .f32) (w : IVec S16 32) (k : Vec F S16 .f32 → Pr F c s Unit) : Pr F c s Unit :=
  .op (.assume (k0_chk1 w) (k0_chk1.dec w)) fun h => ldK b w h.down k

/-- A vector added, at the masked lanes, to the elements of a buffer that a vector of word numbers in range names, then the rest. -/
def stK (b : Memref sig .scVector .vmem S16384 .f32) (w : IVec S16 32) (v : FVec F S16 .f32) (ok : IVec S16 1) (h : k0_chk1 w)
    (k : Pr F c s Unit) : Pr F c s Unit :=
  .op (.load b (.whole S16384) (View.loadsAt_rect (View.stores_vmem_bits_univ h_S16384 rfl).loads)) fun f =>
    .op (.store b (.whole S16384) (storeIdx f ![w] v ok true (k0_idx1_inb w h)) Finset.univ
      (View.stores_vmem_bits_univ h_S16384 rfl) (.inl rfl)) fun _ => k

/-- A vector added, at the masked lanes, to the elements of a buffer that a vector of word numbers names, the numbers checked first. -/
def addK (b : Memref sig .scVector .vmem S16384 .f32) (w : IVec S16 32) (v : FVec F S16 .f32) (ok : IVec S16 1)
    (k : Pr F c s Unit) : Pr F c s Unit :=
  .op (.assume (k0_chk1 w) (k0_chk1.dec w)) fun h => stK b w v ok h.down k

/-- From sixteen vectors, lane by lane: the least of the labels `d` whose vector holds the lane's maximum. -/
def pick (d0 d1 d2 d3 d4 d5 d6 d7 d8 d9 d10 d11 d12 d13 d14 d15 : IVec S16 32) (s16 : IVec S16 32) (x0 x1 x2 x3 x4 x5 x6 x7 x8 x9 x10 x11 x12 x13 x14 x15 : FVec F S16 .f32) : IVec S16 32 :=
  tree minsi (select (cmpf .oeq x0 (tree maximumf x0 x1 x2 x3 x4 x5 x6 x7 x8 x9 x10 x11 x12 x13 x14 x15)) d0 s16) (select (cmpf .oeq x1 (tree maximumf x0 x1 x2 x3 x4 x5 x6 x7 x8 x9 x10 x11 x12 x13 x14 x15)) d1 s16) (select (cmpf .oeq x2 (tree maximumf x0 x1 x2 x3 x4 x5 x6 x7 x8 x9 x10 x11 x12 x13 x14 x15)) d2 s16) (select (cmpf .oeq x3 (tree maximumf x0 x1 x2 x3 x4 x5 x6 x7 x8 x9 x10 x11 x12 x13 x14 x15)) d3 s16) (select (cmpf .oeq x4 (tree maximumf x0 x1 x2 x3 x4 x5 x6 x7 x8 x9 x10 x11 x12 x13 x14 x15)) d4 s16) (select (cmpf .oeq x5 (tree maximumf x0 x1 x2 x3 x4 x5 x6 x7 x8 x9 x10 x11 x12 x13 x14 x15)) d5 s16) (select (cmpf .oeq x6 (tree maximumf x0 x1 x2 x3 x4 x5 x6 x7 x8 x9 x10 x11 x12 x13 x14 x15)) d6 s16) (select (cmpf .oeq x7 (tree maximumf x0 x1 x2 x3 x4 x5 x6 x7 x8 x9 x10 x11 x12 x13 x14 x15)) d7 s16) (select (cmpf .oeq x8 (tree maximumf x0 x1 x2 x3 x4 x5 x6 x7 x8 x9 x10 x11 x12 x13 x14 x15)) d8 s16) (select (cmpf .oeq x9 (tree maximumf x0 x1 x2 x3 x4 x5 x6 x7 x8 x9 x10 x11 x12 x13 x14 x15)) d9 s16) (select (cmpf .oeq x10 (tree maximumf x0 x1 x2 x3 x4 x5 x6 x7 x8 x9 x10 x11 x12 x13 x14 x15)) d10 s16) (select (cmpf .oeq x11 (tree maximumf x0 x1 x2 x3 x4 x5 x6 x7 x8 x9 x10 x11 x12 x13 x14 x15)) d11 s16) (select (cmpf .oeq x12 (tree maximumf x0 x1 x2 x3 x4 x5 x6 x7 x8 x9 x10 x11 x12 x13 x14 x15)) d12 s16) (select (cmpf .oeq x13 (tree maximumf x0 x1 x2 x3 x4 x5 x6 x7 x8 x9 x10 x11 x12 x13 x14 x15)) d13 s16) (select (cmpf .oeq x14 (tree maximumf x0 x1 x2 x3 x4 x5 x6 x7 x8 x9 x10 x11 x12 x13 x14 x15)) d14 s16) (select (cmpf .oeq x15 (tree maximumf x0 x1 x2 x3 x4 x5 x6 x7 x8 x9 x10 x11 x12 x13 x14 x15)) d15 s16)

/-- The position of the maximum among the sixteen words from `w` on of each lane's row. -/
def argmaxK (b : Memref sig .scVector .vmem S16384 .f32) (w : IVec S16 32) (d0 d1 d2 d3 d4 d5 d6 d7 d8 d9 d10 d11 d12 d13 d14 d15 : IVec S16 32) (s16 : IVec S16 32)
    (k : IVec S16 32 → Pr F c s Unit) : Pr F c s Unit :=
  gatK b (addi w d0) fun x0 =>
  gatK b (addi w d1) fun x1 =>
  gatK b (addi w d2) fun x2 =>
  gatK b (addi w d3) fun x3 =>
  gatK b (addi w d4) fun x4 =>
  gatK b (addi w d5) fun x5 =>
  gatK b (addi w d6) fun x6 =>
  gatK b (addi w d7) fun x7 =>
  gatK b (addi w d8) fun x8 =>
  gatK b (addi w d9) fun x9 =>
  gatK b (addi w d10) fun x10 =>
  gatK b (addi w d11) fun x11 =>
  gatK b (addi w d12) fun x12 =>
  gatK b (addi w d13) fun x13 =>
  gatK b (addi w d14) fun x14 =>
  gatK b (addi w d15) fun x15 =>
  k (pick d0 d1 d2 d3 d4 d5 d6 d7 d8 d9 d10 d11 d12 d13 d14 d15 s16 x0 x1 x2 x3 x4 x5 x6 x7 x8 x9 x10 x11 x12 x13 x14 x15)

/-- The lanes whose first two words are at least one half. -/
def okOf (m0 m1 : FVec F S16 .f32) : IVec S16 1 :=
  andi (cmpf .oge m0 (broadcast S16 (Scalar.ofBits .f32 0x3F000000#32))) (cmpf .oge m1 (broadcast S16 (Scalar.ofBits .f32 0x3F000000#32)))

/-- The two bytes' product modulo 256, from the four digits. -/
def prodOf (a0 a1 b0 b1 : IVec S16 32) : IVec S16 32 :=
  andi (muli (addi a0 (shli a1 (broadcast S16 4#32))) (addi b0 (shli b1 (broadcast S16 4#32)))) (broadcast S16 255#32)

/-- One tile: the two markers, the four digits, the two additions. -/
def tileK (b : Memref sig .scVector .vmem S16384 .f32) (v5 : FVec F S16 .f32) (v9 v13 v17 v21 v25 v29 v33 v37 v41 v45 v49 v53 v57 v61 v65 v69 v70 : IVec S16 32) (w : IVec S16 32) : Pr F c s Unit :=
  gatK b w fun m0 =>
  gatK b (addi w (broadcast S16 1#32)) fun m1 =>
  argmaxK b (addi w (broadcast S16 16#32)) v9 v13 v17 v21 v25 v29 v33 v37 v41 v45 v49 v53 v57 v61 v65 v69 v70 fun a0 =>
  argmaxK b (addi w (broadcast S16 32#32)) v9 v13 v17 v21 v25 v29 v33 v37 v41 v45 v49 v53 v57 v61 v65 v69 v70 fun a1 =>
  argmaxK b (addi w (broadcast S16 48#32)) v9 v13 v17 v21 v25 v29 v33 v37 v41 v45 v49 v53 v57 v61 v65 v69 v70 fun b0 =>
  argmaxK b (addi w (broadcast S16 64#32)) v9 v13 v17 v21 v25 v29 v33 v37 v41 v45 v49 v53 v57 v61 v65 v69 v70 fun b1 =>
  addK b (addi (addi w (broadcast S16 80#32)) (andi (prodOf a0 a1 b0 b1) (broadcast S16 15#32))) v5 (okOf m0 m1) <|
  addK b (addi (addi w (broadcast S16 96#32)) (shrsi (prodOf a0 a1 b0 b1) (broadcast S16 4#32))) v5 (okOf m0 m1) <|
  .ret ⟨⟩

/-! ## The printed program, step by step -/

section Steps

variable {α : Type} {b : Memref sig .scVector .vmem S16384 .f32} {w : IVec S16 32}

theorem ask_step {k : PLift (k0_chk1 w) → Pr F c s α} {K : α → Pr F c s Unit} {k' : Vec F S16 .f32 → Pr F c s Unit}
    (H : ∀ h, k h >>= K = ldK b w h.down k') :
    (Prog.lift (TpuEff.assume (k0_chk1 w) (k0_chk1.dec w)) >>= k) >>= K = gatK b w k' :=
  congrArg (Prog.op _) (funext H)

theorem ld_step {k : Vec F S16 .f32 → Pr F c s α} {K : α → Pr F c s Unit} {k' : Vec F S16 .f32 → Pr F c s Unit} {h : k0_chk1 w}
    {h' : ∀ a x, ((![w] : Fin 1 → IVec S16 32) a x).toNat < S16384.size a} {hl : b.view.Loads}
    (H : ∀ x, k x >>= K = k' x) :
    (SparseCore.vectorLoadIdx b ![w] h' hl >>= k) >>= K = ldK b w h k' :=
  congrArg (Prog.op _) (funext fun f => H (loadIdx f ![w] h'))

theorem ret_step {v : α} {K : α → Pr F c s Unit} {R : Pr F c s Unit} (H : K v = R) : (pure v : Pr F c s α) >>= K = R := H

theorem askSt_step {w' : IVec S16 32} {v : FVec F S16 .f32} {ok' : IVec S16 1} {k : PLift (k0_chk1 w) → Pr F c s Unit} {k' : Pr F c s Unit}
    (hw : w = w') (H : ∀ h h', k h = stK b w' v ok' h' k') :
    (Prog.lift (TpuEff.assume (k0_chk1 w) (k0_chk1.dec w)) >>= k) = addK b w' v ok' k' := by
  subst hw
  exact congrArg (Prog.op _) (funext fun h => H h h.down)

theorem st_step {w' : IVec S16 32} {v : FVec F S16 .f32} {ok ok' : IVec S16 1} {k : PUnit → Pr F c s Unit} {k' : Pr F c s Unit} {h : k0_chk1 w'}
    {h' : ∀ a x, ((![w] : Fin 1 → IVec S16 32) a x).toNat < S16384.size a} {hs : (b.access (.whole S16384)).Stores Finset.univ}
    (hw : w = w') (hok : ok = ok') (H : k ⟨⟩ = k') :
    (SparseCore.vectorStoreIdx b ![w] v ok true h' hs >>= k) = stK b w' v ok' h k' := by
  subst hw hok
  exact congrArg (Prog.op _) (funext fun f => congrArg (Prog.op _) (funext fun _ => H))

end Steps

end Cert.Proof.Tile

end
-- ==== Proof.Setup.lean ====
/-
  What every module of the run shares: the program as the launch theorem takes it, the ghost state, and the buffers of a
  vector subcore held at known contents.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Tile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' and the copies' -/

abbrev UH : Type := URounds (GSem nD τ sig) ℕ
abbrev UU : Type := UH × Counters

abbrev EH : Emb UH (MT nD τ sig (HIx 1) (Elt F) ℕ UU ℕ) := embL

/-- A vector subcore. -/
abbrev Th (d : Dev nD) (c : Fin τ.nSC) (s : Fin τ.nSub) : Thread nD τ := V d c s

/-! ## A buffer held at known contents -/

variable {d : Dev nD} {c : Fin τ.nSC} {s : Fin τ.nSub}

local notation "𝕄" => MT nD τ sig (HIx 1) (Elt F) ℕ UU ℕ

/-- The buffer `b` of a vector subcore, held outright, reads `f`. -/
def has (d : Dev nD) (c : Fin τ.nSC) (s : Fin τ.nSub) (b : Memref sig .scVector .vmem S16384 .f32) (f : Vec F S16384 .f32) : sProp 𝕄 :=
  iprop(∃ g : Buf (Elt F) (b.view.loc (V d c s)), (b.view.loc (V d c s) ↦[b.view.set]{fullShare} g) ∗ ⌜b.view.read (Elt F) g = f⌝)

theorem access_emb (b : Memref sig .scVector .vmem S16384 .f32) (x : S16384.Idx) : (b.access (.whole S16384)).emb x = b.view.emb x :=
  congrArg b.view.emb (Rect.emb_whole_apply S16384 x)

theorem access_set (b : Memref sig .scVector .vmem S16384 .f32) : (b.access (.whole S16384)).set = b.view.set :=
  congrArg (fun e => Finset.map e Finset.univ) (Function.Embedding.ext (access_emb b))

theorem access_read (b : Memref sig .scVector .vmem S16384 .f32) (g : b.view.ty.Contents (Elt F)) :
    (b.access (.whole S16384)).read (Elt F) g = b.view.read (Elt F) g :=
  funext fun x => congrArg (fun i => cast (congrArg (Elt F) b.view.elt_eq) (g i)) (access_emb b x)

theorem access_write (b : Memref sig .scVector .vmem S16384 .f32) (g : b.view.ty.Contents (Elt F)) (w : Vec F S16384 .f32) :
    b.view.read (Elt F) ((b.access (.whole S16384)).write (Elt F) g w Finset.univ) = w := by
  rw [← access_read, View.read_write_univ]

variable [FloatOps F]

/-- Word `n` of a buffer. -/
def wd (n : ℕ) : S16384.Idx := fun a => ⟨n % 16384, by obtain rfl := Fin.eq_zero a; exact Nat.mod_lt n (show 0 < 16384 by decide)⟩

/-- The elements of `f` that a vector of word numbers names. -/
def gat (f : Vec F S16384 .f32) (w : IVec S16 32) : Vec F S16 .f32 := fun x => f (wd (w x).toNat)

theorem loadIdx_eq (f : Vec F S16384 .f32) (w : IVec S16 32) (h : k0_chk1 w) : loadIdx f ![w] (k0_idx1_inb w h) = gat f w := by
  funext x
  refine congrArg f (funext fun a => Fin.ext ?_)
  obtain rfl := Fin.eq_zero a
  show (w x).toNat = (w x).toNat % 16384
  exact (Nat.mod_eq_of_lt (show (w x).toNat < 16384 from h 0 x)).symm

theorem chk_of {w : IVec S16 32} (h : ∀ x, (w x).toNat < 16384) : k0_chk1 w := fun a x => by
  obtain rfl := Fin.eq_zero a
  exact h x

/-- Reading elements the word numbers name leaves the buffer. -/
theorem ld_wp {b : Memref sig .scVector .vmem S16384 .f32} {w : IVec S16 32} (f : Vec F S16384 .f32) (h : k0_chk1 w)
    {k : Vec F S16 .f32 → Tile.Pr F c s Unit} {Q : Unit → sProp 𝕄} :
    has d c s b f ⊢ iprop((has d c s b f -∗ wp frame (wpE (defs₀ (F := F)) 𝒱₀ (V d c s) none) Set.univ (k (gat f w)) Q)
      -∗ wp frame (wpE (defs₀ (F := F)) 𝒱₀ (V d c s) none) Set.univ (Tile.gatK b w k) Q) := by
  unfold Tile.gatK has Tile.ldK
  rw [wp_assume_of 𝒱₀ (V d c s) none Set.univ h]
  iintro ⟨%g, Hg, %e⟩ Hk
  iapply (wp_load_rect 𝒱₀ (V d c s) none Set.univ (m := b) (r := Rect.whole S16384) (k := fun f => k (loadIdx f ![w] (k0_idx1_inb w h)))
    (q := fullShare) (f := g) (S := b.view.set) (access_set b).subset) $$ Hg
  iintro Hg
  rw [access_read, e, loadIdx_eq f w h]
  iapply Hk
  iexists g
  isplitl [Hg]; · iexact Hg
  ipureintro; exact e

/-- Adding at the masked lanes. -/
theorem add_wp {b : Memref sig .scVector .vmem S16384 .f32} {w : IVec S16 32} {v : FVec F S16 .f32} {ok : IVec S16 1} (f : Vec F S16384 .f32) (h : k0_chk1 w)
    {k : Tile.Pr F c s Unit} {Q : Unit → sProp 𝕄} :
    has d c s b f ⊢ iprop((has d c s b (storeIdx f ![w] v ok true (k0_idx1_inb w h)) -∗ wp frame (wpE (defs₀ (F := F)) 𝒱₀ (V d c s) none) Set.univ k Q)
      -∗ wp frame (wpE (defs₀ (F := F)) 𝒱₀ (V d c s) none) Set.univ (Tile.addK b w v ok k) Q) := by
  unfold Tile.addK has Tile.stK
  rw [wp_assume_of 𝒱₀ (V d c s) none Set.univ h]
  iintro ⟨%g, Hg, %e⟩ Hk
  iapply (wp_load_rect 𝒱₀ (V d c s) none Set.univ (m := b) (r := Rect.whole S16384)
    (k := fun f => .op (.store b (.whole S16384) (storeIdx f ![w] v ok true (k0_idx1_inb w h)) Finset.univ
      (View.stores_vmem_bits_univ h_S16384 rfl) (.inl rfl)) fun _ => k)
    (q := fullShare) (f := g) (S := b.view.set) (access_set b).subset) $$ Hg
  iintro Hg
  rw [access_read, e]
  iapply (wp_store 𝒱₀ (V d c s) none Set.univ (m := b) (r := .whole S16384) (Mk := Finset.univ) (k := fun _ => k) (f := g) (S := b.view.set)
    (by rw [View.setOn_univ]; exact (access_set b).subset)) $$ Hg
  iintro Hg
  iapply Hk
  iexists _
  isplitl [Hg]; · iexact Hg
  ipureintro; exact access_write b g _

end Cert.Proof.Run

end
-- ==== Proof.Row.lean ====
/-
  What the kernel leaves in a row: the row's two markers, the four digits read off its maxima, the two words added to.
  Over any float values. Then the tile program's run: it rewrites sixteen rows so.
-/
module

public import proofs.«01_k».proof.Proof.Setup

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- Sixteen values combined as the kernel combines them. -/
def comb {α : Type} (f : α → α → α) (x : Fin 16 → α) : α :=
  Tile.tree f (x 0) (x 1) (x 2) (x 3) (x 4) (x 5) (x 6) (x 7) (x 8) (x 9) (x 10) (x 11) (x 12) (x 13) (x 14) (x 15)

variable [FloatOps F]

/-- The least label among those of the greatest of sixteen values, `x k` labelled `(ρ + k) mod 16`. -/
def digit (ρ : ℕ) (x : Fin 16 → F .f32) : BitVec 32 :=
  comb IntOp.minsi fun k => Scalar.select (FloatOps.cmpf .oeq (x k) (comb FloatOps.maximumf x)) (BitVec.ofNat 32 ((ρ + k.val) % 16)) 16#32

/-- The digit in the sixteen words from `b` on of a row read from position `ρ` round. -/
def digAt (row : ℕ → F .f32) (ρ b : ℕ) : BitVec 32 := digit ρ fun k => row (b + (ρ + k.val) % 16)

/-- Both markers are at least one half. -/
def okRow (row : ℕ → F .f32) : BitVec 1 :=
  IntOp.andi (FloatOps.cmpf .oge (row 0) (Scalar.ofBits .f32 0x3F000000#32)) (FloatOps.cmpf .oge (row 1) (Scalar.ofBits .f32 0x3F000000#32))

/-- The product, modulo 256, of the two bytes given by their digits. -/
def prodRow (a0 a1 b0 b1 : BitVec 32) : BitVec 32 :=
  IntOp.andi (IntOp.muli (IntOp.addi a0 (IntOp.shli .vector a1 4#32)) (IntOp.addi b0 (IntOp.shli .vector b1 4#32))) 255#32

/-- The product of a row. -/
def prodAt (row : ℕ → F .f32) (ρ : ℕ) : BitVec 32 := prodRow (digAt row ρ 16) (digAt row ρ 32) (digAt row ρ 48) (digAt row ρ 64)

def two : F .f32 := Scalar.ofBits .f32 0x40000000#32

/-- Word `c` of what a row becomes. -/
def rowVal (row : ℕ → F .f32) (ρ c : ℕ) : F .f32 :=
  if okRow row = 1 ∧ (c = 80 + (IntOp.andi (prodAt row ρ) 15#32).toNat ∨ c = 96 + (IntOp.shrsi .vector (prodAt row ρ) 4#32).toNat)
  then FloatOps.idxAddf (row c) two else row c

/-- Row `r` of a buffer. -/
def rowOf (f : Vec F S16384 .f32) (r : ℕ) : ℕ → F .f32 := fun c => f (wd (128 * r + c % 128))

/-- What a chunk becomes. -/
def chunkOut (f : Vec F S16384 .f32) : Vec F S16384 .f32 := fun j =>
  rowVal (rowOf f ((j 0).val / 128)) ((j 0).val / 128 % 16) ((j 0).val % 128)

/-- A chunk with its first `t` tiles done. -/
def mid (f : Vec F S16384 .f32) (t : ℕ) : Vec F S16384 .f32 := fun j => if (j 0).val / 2048 < t then chunkOut f j else f j

/-! ## The kernel's vectors -/

/-- The lane numbers turned by `k`. -/
def diag (k : ℕ) : IVec S16 32 :=
  andi (addi (iota .scVector S16 32 [0] iota_S16_d0_w32_scVector) (broadcast S16 (BitVec.ofNat 32 k))) (broadcast S16 15#32)

/-- The first words of tile `t`'s rows. -/
def word0 (t : Fin k0_t2_loop.trips) : IVec S16 32 := k0_pay4 (iota .scVector S16 32 [0] iota_S16_d0_w32_scVector) 0#32 1#32 t

theorem and15 (n : ℕ) : IntOp.andi (BitVec.ofNat 32 n) 15#32 = BitVec.ofNat 32 (n % 16) := by
  apply BitVec.eq_of_toNat_eq
  show (BitVec.ofNat 32 n &&& 15#32).toNat = _
  rw [BitVec.toNat_and, show (15#32).toNat = 2 ^ 4 - 1 from rfl, Nat.and_two_pow_sub_one_eq_mod]
  simp only [BitVec.toNat_ofNat]
  omega

theorem iota_apply (x : S16.Idx) : iota .scVector S16 32 [0] iota_S16_d0_w32_scVector x = BitVec.ofNat 32 (x 0).val := by
  simp only [iota, List.foldl, Nat.zero_mul, Nat.zero_add]

theorem diag_apply (k : ℕ) (x : S16.Idx) : diag k x = BitVec.ofNat 32 (((x 0).val + k) % 16) := by
  show IntOp.andi (iota .scVector S16 32 [0] iota_S16_d0_w32_scVector x + BitVec.ofNat 32 k) 15#32 = _
  rw [iota_apply, ← BitVec.ofNat_add, and15]

theorem word0_apply (t : Fin k0_t2_loop.trips) (x : S16.Idx) : word0 t x = BitVec.ofNat 32 (128 * (16 * t.val + (x 0).val)) := by
  show (iota .scVector S16 32 [0] iota_S16_d0_w32_scVector x + (0#32 + BitVec.ofNat 32 t.val * 1#32) * 16#32) * 128#32 = _
  rw [iota_apply]
  apply BitVec.eq_of_toNat_eq
  simp only [BitVec.toNat_mul, BitVec.toNat_add, BitVec.toNat_ofNat]
  omega

theorem lane_lt (x : S16.Idx) : (x 0).val < 16 := (x 0).isLt
theorem trip_lt (t : Fin k0_t2_loop.trips) : t.val < 8 := t.isLt

/-- A word's number: its row's first word, and the word in the row. -/
theorem addr (t : Fin k0_t2_loop.trips) (x : S16.Idx) (v : BitVec 32) (n : ℕ) (hv : v.toNat = n) (hn : n < 128) :
    (IntOp.addi (word0 t x) v).toNat = 128 * (16 * t.val + (x 0).val) + n := by
  show (word0 t x + v).toNat = _
  have h1 := lane_lt x; have h2 := trip_lt t
  rw [word0_apply, BitVec.toNat_add, BitVec.toNat_ofNat, hv]
  omega

theorem addr2 (t : Fin k0_t2_loop.trips) (x : S16.Idx) (u v : BitVec 32) (n : ℕ) (hv : u.toNat + v.toNat = n) (hn : n < 128) :
    (IntOp.addi (IntOp.addi (word0 t x) u) v).toNat = 128 * (16 * t.val + (x 0).val) + n := by
  show (word0 t x + u + v).toNat = _
  rw [BitVec.add_assoc]
  exact addr t x (u + v) n (by rw [BitVec.toNat_add]; omega) hn

theorem diag_toNat (k : ℕ) (x : S16.Idx) : (diag k x).toNat = ((x 0).val + k) % 16 := by
  rw [diag_apply, BitVec.toNat_ofNat]; omega

/-- Reading a word of each lane's row. -/
theorem gat_row (f : Vec F S16384 .f32) (t : Fin k0_t2_loop.trips) (w : IVec S16 32) (x : S16.Idx) (n : ℕ)
    (h : (w x).toNat = 128 * (16 * t.val + (x 0).val) + n) (hn : n < 128) : gat f w x = rowOf f (16 * t.val + (x 0).val) n := by
  show f (wd _) = f (wd _)
  rw [h, Nat.mod_eq_of_lt hn]

/-- The kernel's pick over the turned lanes is the digit, lane by lane. -/
theorem pick_apply (X : Fin 16 → FVec F S16 .f32) (x : S16.Idx) :
    Tile.pick (diag 0) (diag 1) (diag 2) (diag 3) (diag 4) (diag 5) (diag 6) (diag 7) (diag 8) (diag 9) (diag 10) (diag 11) (diag 12) (diag 13) (diag 14) (diag 15)
      (broadcast S16 16#32) (X 0) (X 1) (X 2) (X 3) (X 4) (X 5) (X 6) (X 7) (X 8) (X 9) (X 10) (X 11) (X 12) (X 13) (X 14) (X 15) x
      = digit (x 0).val fun k => X k x := by
  have h (k : Fin 16) : BitVec.ofNat 32 (((x 0).val + k.val) % 16) = diag k.val x := (diag_apply _ _).symm
  unfold digit
  simp only [h]
  rfl

variable {d : Dev nD} {c : Fin τ.nSC} {s : Fin τ.nSub}

local notation "𝕄" => MT nD τ sig (HIx 1) (Elt F) ℕ UU ℕ

/-- The sixteen values lane by lane that a digit is read off. -/
def vals (f : Vec F S16384 .f32) (w : IVec S16 32) (k : Fin 16) : FVec F S16 .f32 := gat f (addi w (diag k.val))

def digV (f : Vec F S16384 .f32) (w : IVec S16 32) : IVec S16 32 := fun x => digit (x 0).val fun k => vals f w k x

theorem argmax_wp {b : Memref sig .scVector .vmem S16384 .f32} {w : IVec S16 32} (f : Vec F S16384 .f32) (h : ∀ i : Fin 16, k0_chk1 (addi w (diag i.val)))
    {k : IVec S16 32 → Tile.Pr F c s Unit} {Q : Unit → sProp 𝕄} :
    has d c s b f ⊢ iprop((has d c s b f -∗ wp frame (wpE (defs₀ (F := F)) 𝒱₀ (V d c s) none) Set.univ (k (digV f w)) Q)
      -∗ wp frame (wpE (defs₀ (F := F)) 𝒱₀ (V d c s) none) Set.univ (Tile.argmaxK b w (diag 0) (diag 1) (diag 2) (diag 3) (diag 4) (diag 5) (diag 6) (diag 7)
        (diag 8) (diag 9) (diag 10) (diag 11) (diag 12) (diag 13) (diag 14) (diag 15) (broadcast S16 16#32) k) Q) := by
  unfold Tile.argmaxK
  have e := funext (pick_apply (vals f w))
  change _ = digV f w at e
  rw [← e]
  iintro H Hk
  iapply (ld_wp f (h 0)) $$ H; iintro H
  iapply (ld_wp f (h 1)) $$ H; iintro H
  iapply (ld_wp f (h 2)) $$ H; iintro H
  iapply (ld_wp f (h 3)) $$ H; iintro H
  iapply (ld_wp f (h 4)) $$ H; iintro H
  iapply (ld_wp f (h 5)) $$ H; iintro H
  iapply (ld_wp f (h 6)) $$ H; iintro H
  iapply (ld_wp f (h 7)) $$ H; iintro H
  iapply (ld_wp f (h 8)) $$ H; iintro H
  iapply (ld_wp f (h 9)) $$ H; iintro H
  iapply (ld_wp f (h 10)) $$ H; iintro H
  iapply (ld_wp f (h 11)) $$ H; iintro H
  iapply (ld_wp f (h 12)) $$ H; iintro H
  iapply (ld_wp f (h 13)) $$ H; iintro H
  iapply (ld_wp f (h 14)) $$ H; iintro H
  iapply (ld_wp f (h 15)) $$ H; iintro H
  iapply Hk; iexact H

end Cert.Proof.Run

end
-- ==== Proof.TileRun.lean ====
/-
  The tile program's run: held at a chunk, the buffer comes back with the tile's sixteen rows rewritten, and the kernel's
  eight tiles rewrite the chunk.
-/
module

public import proofs.«01_k».proof.Proof.Row

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## Adding at named places -/

/-- Lanes none of which is set and names `j` leave `j` alone. -/
theorem foldl_miss {ι J α : Type} (p : ι → Prop) [DecidablePred p] (at_ : ι → J → Prop) [∀ k j, Decidable (at_ k j)] (h : α → ι → α) (upd : ι → (J → α) → α)
    (j : J) : ∀ (ks : List ι) (g : J → α), (∀ k ∈ ks, ¬ (p k ∧ at_ k j)) →
      ks.foldl (fun g k => if p k then (fun j => if at_ k j then upd k g else g j) else g) g j = g j
  | [], g, _ => rfl
  | k :: ks, g, hk => by
    rw [List.foldl_cons, foldl_miss p at_ h upd j ks _ fun k' hk' => hk k' (List.mem_cons_of_mem _ hk')]
    have := hk k List.mem_cons_self
    by_cases hp : p k
    · rw [if_pos hp]; exact if_neg fun ha => this ⟨hp, ha⟩
    · rw [if_neg hp]

/-- One lane alone naming `j`, its update is what `j` holds. -/
theorem foldl_hit {ι J α : Type} (p : ι → Prop) [DecidablePred p] (at_ : ι → J → Prop) [∀ k j, Decidable (at_ k j)] (a : ι → J) (h : α → ι → α)
    (ha : ∀ k j, at_ k j ↔ j = a k) (l : ι) (hp : p l) : ∀ (ks : List ι) (g : J → α), ks.Nodup → l ∈ ks → (∀ k ∈ ks, a k = a l → k = l) →
      ks.foldl (fun g k => if p k then (fun j => if at_ k j then h (g (a k)) k else g j) else g) g (a l) = h (g (a l)) l
  | [], g, _, hl, _ => absurd hl List.not_mem_nil
  | k :: ks, g, hn, hl, hu => by
    have hn' := List.nodup_cons.mp hn
    rw [List.foldl_cons]
    by_cases e : k = l
    · subst e
      rw [foldl_miss p at_ h (fun k g => h (g (a k)) k) (a k) ks _ fun k' hk' hpa => hn'.1 (by
        have := hu k' (List.mem_cons_of_mem _ hk') ((ha _ _).mp hpa.2).symm
        rwa [this] at hk')]
      rw [if_pos hp]; exact if_pos ((ha _ _).mpr rfl)
    · have hl' : l ∈ ks := (List.mem_cons.mp hl).resolve_left fun h => e h.symm
      rw [foldl_hit p at_ a h ha l hp ks _ hn'.2 hl' fun k' hk' => hu k' (List.mem_cons_of_mem _ hk')]
      have hne : ¬ at_ k (a l) := fun h => e (hu k List.mem_cons_self ((ha _ _).mp h).symm)
      by_cases hpk : p k
      · rw [if_pos hpk]; exact congrArg (fun y => h y l) (if_neg hne)
      · rw [if_neg hpk]

variable [FloatOps F]

/-- Lane `l` as an index. -/
abbrev ln (l : Fin 16) : S16.Idx := Shape.ofLane (d := ![16]) l

theorem ln_zero (x : S16.Idx) : ln (x 0) = x := by
  funext a; obtain rfl := Fin.eq_zero a; rfl

theorem store_fold (f : Vec F S16384 .f32) (w : IVec S16 32) (v : FVec F S16 .f32) (ok : IVec S16 1) (h : k0_chk1 w) :
    storeIdx f ![w] v ok true (k0_idx1_inb w h) = (List.finRange 16).foldl (fun g k => if ok (ln k) = 1 then
      (fun j => if ∀ a, (j a).val = (idxAt ![w] (k0_idx1_inb w h) (ln k) a).val then FloatOps.idxAddf (g (idxAt ![w] (k0_idx1_inb w h) (ln k))) (v (ln k)) else g j)
      else g) f := by
  unfold storeIdx
  simp only [if_true, Elt.idxAdd_f32]
  rfl

/-- An addition whose lane `l` is in row `16 t + l`, at a word of the tile's rows. -/
theorem store_in (f : Vec F S16384 .f32) (w : IVec S16 32) (v : FVec F S16 .f32) (ok : IVec S16 1) (h : k0_chk1 w) (t : ℕ)
    (hr : ∀ x, (w x).toNat / 128 = 16 * t + (x 0).val) (j : S16384.Idx) (x : S16.Idx) (hj : (j 0).val / 128 = 16 * t + (x 0).val) :
    storeIdx f ![w] v ok true (k0_idx1_inb w h) j = if ok x = 1 ∧ (j 0).val = (w x).toNat then FloatOps.idxAddf (f j) (v x) else f j := by
  have inj : ∀ k k' : Fin 16, (idxAt ![w] (k0_idx1_inb w h) (ln k) : S16384.Idx) = idxAt ![w] (k0_idx1_inb w h) (ln k') → k = k' := fun k k' e => by
    have e0 : (w (ln k)).toNat = (w (ln k')).toNat := congrArg (fun i : S16384.Idx => (i 0).val) e
    have h1 := hr (ln k); have h2 := hr (ln k')
    rw [e0] at h1
    exact Fin.ext (by have : (ln k 0).val = (ln k' 0).val := by omega
                      exact this)
  have hat : ∀ (k : Fin 16) (j : S16384.Idx), (∀ a, (j a).val = (idxAt ![w] (k0_idx1_inb w h) (ln k) a).val) ↔ j = idxAt ![w] (k0_idx1_inb w h) (ln k) :=
    fun k j => ⟨fun e => funext fun a => Fin.ext (e a), fun e a => by rw [e]⟩
  rw [store_fold f w v ok h]
  by_cases hc : ok x = 1 ∧ (j 0).val = (w x).toNat
  · rw [if_pos hc]
    have ej : j = idxAt ![w] (k0_idx1_inb w h) (ln (x 0)) := by
      funext a; obtain rfl := Fin.eq_zero a
      refine Fin.ext (hc.2.trans ?_)
      rw [ln_zero]; rfl
    have := foldl_hit (α := F .f32) (fun k : Fin 16 => ok (ln k) = 1) (fun k j => ∀ a, (j a).val = (idxAt ![w] (k0_idx1_inb w h) (ln k) a).val)
      (fun k => idxAt ![w] (k0_idx1_inb w h) (ln k)) (fun y k => FloatOps.idxAddf y (v (ln k))) hat (x 0) (by rw [ln_zero]; exact hc.1)
      (List.finRange 16) f (List.nodup_finRange 16) (List.mem_finRange _) fun k _ e => inj k _ e
    rw [← ej] at this
    rw [ln_zero] at this
    exact this
  · rw [if_neg hc]
    refine foldl_miss (α := F .f32) (fun k : Fin 16 => ok (ln k) = 1) (fun k j => ∀ a, (j a).val = (idxAt ![w] (k0_idx1_inb w h) (ln k) a).val)
      (fun y k => FloatOps.idxAddf y (v (ln k))) (fun k g => FloatOps.idxAddf (g (idxAt ![w] (k0_idx1_inb w h) (ln k))) (v (ln k))) j (List.finRange 16) f fun k _ hk => hc ?_
    have e0 : (j 0).val = (w (ln k)).toNat := hk.2 0
    have e1 := hr (ln k)
    have e2 : ln k = x := by
      rw [← ln_zero x]
      exact congrArg ln (Fin.ext (by have : (ln k 0).val = (x 0).val := by omega
                                     exact this))
    rw [← e2]; exact ⟨hk.1, e0⟩

/-- An element outside the tile's rows keeps its value. -/
theorem store_out (f : Vec F S16384 .f32) (w : IVec S16 32) (v : FVec F S16 .f32) (ok : IVec S16 1) (h : k0_chk1 w) (t : ℕ)
    (hr : ∀ x, (w x).toNat / 128 = 16 * t + (x 0).val) (j : S16384.Idx) (hj : (j 0).val / 2048 ≠ t) :
    storeIdx f ![w] v ok true (k0_idx1_inb w h) j = f j := by
  rw [store_fold f w v ok h]
  refine foldl_miss (α := F .f32) (fun k : Fin 16 => ok (ln k) = 1) (fun k j => ∀ a, (j a).val = (idxAt ![w] (k0_idx1_inb w h) (ln k) a).val)
    (fun y k => FloatOps.idxAddf y (v (ln k))) (fun k g => FloatOps.idxAddf (g (idxAt ![w] (k0_idx1_inb w h) (ln k))) (v (ln k))) j (List.finRange 16) f fun k _ hk => hj ?_
  have e0 : (j 0).val = (w (ln k)).toNat := hk.2 0
  have e1 := hr (ln k)
  have e2 : (ln k 0).val < 16 := (ln k 0).isLt
  omega

/-! ## The tile -/

theorem digV_apply (f : Vec F S16384 .f32) (t : Fin k0_t2_loop.trips) (b : ℕ) (hb : b + 16 ≤ 128) (x : S16.Idx) :
    digV f (addi (word0 t) (broadcast S16 (BitVec.ofNat 32 b))) x = digAt (rowOf f (16 * t.val + (x 0).val)) (x 0).val b := by
  unfold digV digAt
  refine congrArg (digit _) (funext fun k => ?_)
  have := Nat.mod_lt ((x 0).val + k.val) (show 0 < 16 by decide)
  refine gat_row f t _ x _ ?_ (by omega)
  refine addr2 t x _ _ _ ?_ (by omega)
  rw [diag_toNat]
  show (BitVec.ofNat 32 b).toNat + _ = _
  rw [BitVec.toNat_ofNat]
  omega

theorem chk_diag (t : Fin k0_t2_loop.trips) (b : ℕ) (hb : b + 16 ≤ 128) (k : Fin 16) :
    k0_chk1 (addi (addi (word0 t) (broadcast S16 (BitVec.ofNat 32 b))) (diag k.val)) := chk_of fun x => by
  have := Nat.mod_lt ((x 0).val + k.val) (show 0 < 16 by decide)
  have h1 := lane_lt x; have h2 := trip_lt t
  show (IntOp.addi (IntOp.addi (word0 t x) (BitVec.ofNat 32 b)) (diag k.val x)).toNat < 16384
  rw [addr2 t x _ _ (b + ((x 0).val + k.val) % 16) (by rw [diag_toNat, BitVec.toNat_ofNat]; omega) (by omega)]
  omega

theorem lo_lt (p : BitVec 32) : (IntOp.andi p 15#32).toNat < 16 := by
  show (p &&& 15#32).toNat < 16
  rw [BitVec.toNat_and]
  exact lt_of_le_of_lt Nat.and_le_right (by decide)

theorem prod_lt (a0 a1 b0 b1 : BitVec 32) : (prodRow a0 a1 b0 b1).toNat < 256 := by
  show (_ &&& 255#32).toNat < 256
  rw [BitVec.toNat_and]
  exact lt_of_le_of_lt Nat.and_le_right (by decide)

theorem hi_lt {p : BitVec 32} (h : p.toNat < 256) : (IntOp.shrsi .vector p 4#32).toNat < 16 := by
  have e : IntOp.shrsi .vector p 4#32 = p.sshiftRight 4 := by
    unfold IntOp.shrsi
    rw [if_pos (by decide)]
    rfl
  rw [e, BitVec.toNat_sshiftRight_of_msb_false (by rw [BitVec.msb_eq_decide]; simp; omega), Nat.shiftRight_eq_div_pow]
  omega

/-- The four digits' product over a tile's lanes. -/
def prodV (f : Vec F S16384 .f32) (w : IVec S16 32) : IVec S16 32 :=
  Tile.prodOf (digV f (addi w (broadcast S16 16#32))) (digV f (addi w (broadcast S16 32#32))) (digV f (addi w (broadcast S16 48#32))) (digV f (addi w (broadcast S16 64#32)))

def okV (f : Vec F S16384 .f32) (w : IVec S16 32) : IVec S16 1 := Tile.okOf (gat f w) (gat f (addi w (broadcast S16 1#32)))

def wLo (f : Vec F S16384 .f32) (w : IVec S16 32) : IVec S16 32 := addi (addi w (broadcast S16 80#32)) (andi (prodV f w) (broadcast S16 15#32))
def wHi (f : Vec F S16384 .f32) (w : IVec S16 32) : IVec S16 32 := addi (addi w (broadcast S16 96#32)) (shrsi (prodV f w) (broadcast S16 4#32))

section Pure
variable (f : Vec F S16384 .f32) (t : Fin k0_t2_loop.trips) (x : S16.Idx)

theorem prodV_apply : prodV f (word0 t) x = prodAt (rowOf f (16 * t.val + (x 0).val)) (x 0).val := by
  unfold prodAt
  rw [← digV_apply f t 16 (by decide) x, ← digV_apply f t 32 (by decide) x, ← digV_apply f t 48 (by decide) x, ← digV_apply f t 64 (by decide) x]
  rfl

theorem okV_apply : okV f (word0 t) x = okRow (rowOf f (16 * t.val + (x 0).val)) := by
  unfold okRow
  rw [← gat_row f t (word0 t) x 0 (by rw [word0_apply, BitVec.toNat_ofNat]; have := lane_lt x; have := trip_lt t; omega) (by decide),
    ← gat_row f t (addi (word0 t) (broadcast S16 1#32)) x 1 (addr t x 1#32 1 rfl (by decide)) (by decide)]
  rfl

theorem wLo_apply : (wLo f (word0 t) x).toNat = 128 * (16 * t.val + (x 0).val) + (80 + (IntOp.andi (prodAt (rowOf f (16 * t.val + (x 0).val)) (x 0).val) 15#32).toNat) := by
  rw [← prodV_apply]
  have := lo_lt (prodV f (word0 t) x)
  exact addr2 t x _ _ _ rfl (by omega)

theorem wHi_apply : (wHi f (word0 t) x).toNat = 128 * (16 * t.val + (x 0).val) + (96 + (IntOp.shrsi .vector (prodAt (rowOf f (16 * t.val + (x 0).val)) (x 0).val) 4#32).toNat) := by
  rw [← prodV_apply]
  have := hi_lt (p := prodV f (word0 t) x) (prod_lt _ _ _ _)
  exact addr2 t x _ _ _ rfl (by omega)

theorem lo_row : (wLo f (word0 t) x).toNat / 128 = 16 * t.val + (x 0).val := by
  rw [wLo_apply]
  have := lo_lt (prodAt (rowOf f (16 * t.val + (x 0).val)) (x 0).val)
  omega
theorem hi_row : (wHi f (word0 t) x).toNat / 128 = 16 * t.val + (x 0).val := by
  rw [wHi_apply]
  have := hi_lt (p := prodAt (rowOf f (16 * t.val + (x 0).val)) (x 0).val) (prod_lt _ _ _ _)
  omega
theorem chk_lo : k0_chk1 (wLo f (word0 t)) := chk_of fun x => by
  have := lo_row f t x; have := lane_lt x; have := trip_lt t; omega
theorem chk_hi : k0_chk1 (wHi f (word0 t)) := chk_of fun x => by
  have := hi_row f t x; have := lane_lt x; have := trip_lt t; omega

/-- The two additions take the chunk with `t` tiles done to the chunk with one more. -/
theorem tile_mid (g : Vec F S16384 .f32) (hg : g = mid f t.val) :
    storeIdx (storeIdx g ![wLo g (word0 t)] (broadcast S16 two) (okV g (word0 t)) true (k0_idx1_inb _ (chk_lo g t)))
      ![wHi g (word0 t)] (broadcast S16 two) (okV g (word0 t)) true (k0_idx1_inb _ (chk_hi g t)) = mid f (t.val + 1) := by
  funext j
  have ht := trip_lt t
  have hj : (j 0).val < 16384 := (j 0).isLt
  by_cases h : (j 0).val / 2048 = t.val
  · have hx : (j 0).val / 128 = 16 * t.val + (j 0).val / 128 % 16 := by omega
    let x : S16.Idx := ln ⟨(j 0).val / 128 % 16, Nat.mod_lt _ (by decide)⟩
    have ex : (x 0).val = (j 0).val / 128 % 16 := rfl
    rw [store_in _ _ _ _ (chk_hi g t) t.val (hi_row g t) j x (hx.trans (by rw [ex])), store_in _ _ _ _ (chk_lo g t) t.val (lo_row g t) j x (hx.trans (by rw [ex])),
      okV_apply, wLo_apply, wHi_apply, ex, ← hx]
    have hgj : g j = f j := by
      rw [hg]; exact if_neg (by omega)
    have hrow : rowOf g ((j 0).val / 128) = rowOf f ((j 0).val / 128) := funext fun n => by
      have := Nat.mod_lt n (show 0 < 128 by decide)
      rw [hg]; exact if_neg (by show ¬ (128 * ((j 0).val / 128) + n % 128) % 16384 / 2048 < t.val; omega)
    have hfj : rowOf f ((j 0).val / 128) ((j 0).val % 128) = f j := by
      refine congrArg f (funext fun a => Fin.ext ?_)
      obtain rfl := Fin.eq_zero a
      show (128 * ((j 0).val / 128) + (j 0).val % 128 % 128) % 16384 = (j 0).val
      omega
    rw [hgj, hrow]
    show _ = if _ then chunkOut f j else f j
    rw [if_pos (show (j 0).val / 2048 < t.val + 1 by omega)]
    unfold chunkOut rowVal
    rw [hfj]
    generalize hp : prodAt (rowOf f ((j 0).val / 128)) ((j 0).val / 128 % 16) = p
    have h1 := lo_lt p
    by_cases hok : okRow (rowOf f ((j 0).val / 128)) = 1
    · by_cases hl : (j 0).val % 128 = 80 + (IntOp.andi p 15#32).toNat
      · rw [if_neg (fun h => by have := h.2; omega), if_pos ⟨hok, by omega⟩, if_pos ⟨hok, .inl hl⟩]; rfl
      · rw [if_neg (c := okRow (rowOf f ((j 0).val / 128)) = 1 ∧ (j 0).val = 128 * ((j 0).val / 128) + (80 + (IntOp.andi p 15#32).toNat)) (fun h => by have := h.2; omega)]
        by_cases hh : (j 0).val % 128 = 96 + (IntOp.shrsi .vector p 4#32).toNat
        · rw [if_pos ⟨hok, by omega⟩, if_pos ⟨hok, .inr hh⟩]; rfl
        · rw [if_neg (fun h => by have := h.2; omega), if_neg (fun h => h.2.elim hl hh)]
    · rw [if_neg (fun h => hok h.1), if_neg (fun h => hok h.1), if_neg (fun h => hok h.1)]
  · rw [store_out _ _ _ _ (chk_hi g t) t.val (hi_row g t) j h, store_out _ _ _ _ (chk_lo g t) t.val (lo_row g t) j h, hg]
    unfold mid
    by_cases h' : (j 0).val / 2048 < t.val
    · rw [if_pos h', if_pos (by omega)]
    · rw [if_neg h', if_neg (by omega)]

end Pure

variable {d : Dev nD} {c : Fin τ.nSC} {s : Fin τ.nSub}

local notation "𝕄" => MT nD τ sig (HIx 1) (Elt F) ℕ UU ℕ

theorem tile_wp {b : Memref sig .scVector .vmem S16384 .f32} (f : Vec F S16384 .f32) (t : Fin k0_t2_loop.trips) :
    (has d c s b (mid f t.val) : sProp 𝕄) ⊢ wp frame (wpE (defs₀ (F := F)) 𝒱₀ (V d c s) none) Set.univ
      (Tile.tileK b (broadcast S16 two) (diag 0) (diag 1) (diag 2) (diag 3) (diag 4) (diag 5) (diag 6) (diag 7)
        (diag 8) (diag 9) (diag 10) (diag 11) (diag 12) (diag 13) (diag 14) (diag 15) (broadcast S16 16#32) (word0 t)) fun _ => has d c s b (mid f (t.val + 1)) := by
  rw [← tile_mid f t (mid f t.val) rfl]
  unfold Tile.tileK
  generalize mid f t.val = g
  iintro H
  iapply (ld_wp g (chk_of fun x => by rw [word0_apply, BitVec.toNat_ofNat]; have := lane_lt x; have := trip_lt t; omega)) $$ H; iintro H
  iapply (ld_wp g (chk_of fun x => by have h := addr t x 1#32 1 rfl (by decide); have := lane_lt x; have := trip_lt t; exact h.trans_lt (by omega))) $$ H; iintro H
  iapply (argmax_wp g (chk_diag t 16 (by decide))) $$ H; iintro H
  iapply (argmax_wp g (chk_diag t 32 (by decide))) $$ H; iintro H
  iapply (argmax_wp g (chk_diag t 48 (by decide))) $$ H; iintro H
  iapply (argmax_wp g (chk_diag t 64 (by decide))) $$ H; iintro H
  iapply (add_wp g (chk_lo g t)) $$ H; iintro H
  iapply (add_wp _ (chk_hi g t)) $$ H; iintro H
  rw [wp_ret]
  imodintro
  iexact H

end Cert.Proof.Run

end
-- ==== Proof.Chunk.lean ====
/-
  The chunks of the two arrays in main memory: which words a copy moves, what it brings, and what it leaves.
-/
module

public import proofs.«01_k».proof.Proof.TileRun

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The kernel's operand and result, as a vector subcore names them. -/
abbrev xM : Memref sig .scVector .hbm S33554432 .f32 := Memref.whole main_v0_scv
abbrev oM : Memref sig .scVector .hbm S33554432 .f32 := Memref.whole main_v1_scv

abbrev xLoc (d : Dev nD) : Loc nD τ sig := (SparseCore.T d).loc main_v0
abbrev oLoc (d : Dev nD) : Loc nD τ sig := (SparseCore.T d).loc main_v1

/-- The words of chunk `k`. -/
def ckSet (k : ℕ) : Finset S33554432.Idx := Finset.univ.filter fun j => (j 0).val / 16384 = k

/-- Word `n` of the arrays. -/
def gw (n : ℕ) : S33554432.Idx := fun a => ⟨n % 33554432, by obtain rfl := Fin.eq_zero a; exact Nat.mod_lt n (show 0 < 33554432 by decide)⟩

/-- Chunk `k` of an array. -/
def chunk (xv : S33554432.Idx → Elt F .f32) (k : ℕ) : Vec F S16384 .f32 := fun x => xv (gw (16384 * k + (x 0).val))

theorem slice_emb (m : Memref sig .scVector .hbm S33554432 .f32) (off : Fin 1 → ℕ) (inb : ∀ a, off a + S16384.size a ≤ S33554432.size a) (x : S16384.Idx) (a : Fin 1) :
    ((Rect.unit (s := S33554432) off S16384.size inb).emb x a).val = off a + (x a).val := by
  show off a + 1 * (x a).val = _
  rw [Nat.one_mul]

/-- A copy of chunk `k` touches the words of chunk `k`. -/
theorem ck_set_x {off : Fin 1 → ℕ} {inb : ∀ a, off a + S16384.size a ≤ S33554432.size a} {k : ℕ} (h : off 0 = 16384 * k) :
    (xM.slice (Rect.unit (s := S33554432) off S16384.size inb) (fun _ => rfl)).view.set = ckSet k := by
  show ((View.whole (main_v0_scv : Ref sig .scVector)).slice _).set = _
  rw [View.set_slice]
  refine Finset.map_refl.trans (Finset.ext fun j => ?_)
  rw [Rect.mem_set_unit, ckSet, Finset.mem_filter]
  constructor
  · intro hj; have h0 := hj 0; rw [h] at h0
    exact ⟨Finset.mem_univ _, by have : S16384.size 0 = 16384 := rfl; omega⟩
  · rintro ⟨-, hj⟩ a; obtain rfl := Fin.eq_zero a
    rw [h]; have : S16384.size 0 = 16384 := rfl; omega

theorem ck_set_o {off : Fin 1 → ℕ} {inb : ∀ a, off a + S16384.size a ≤ S33554432.size a} {k : ℕ} (h : off 0 = 16384 * k) :
    (oM.slice (Rect.unit (s := S33554432) off S16384.size inb) (fun _ => rfl)).view.set = ckSet k := by
  show ((View.whole (main_v1_scv : Ref sig .scVector)).slice _).set = _
  rw [View.set_slice]
  refine Finset.map_refl.trans (Finset.ext fun j => ?_)
  rw [Rect.mem_set_unit, ckSet, Finset.mem_filter]
  constructor
  · intro hj; have h0 := hj 0; rw [h] at h0
    exact ⟨Finset.mem_univ _, by have : S16384.size 0 = 16384 := rfl; omega⟩
  · rintro ⟨-, hj⟩ a; obtain rfl := Fin.eq_zero a
    rw [h]; have : S16384.size 0 = 16384 := rfl; omega

/-- Reading chunk `k` of the operand. -/
theorem ck_read {off : Fin 1 → ℕ} {inb : ∀ a, off a + S16384.size a ≤ S33554432.size a} {k : ℕ} (h : off 0 = 16384 * k) (xv : S33554432.Idx → Elt F .f32) :
    (xM.slice (Rect.unit (s := S33554432) off S16384.size inb) (fun _ => rfl)).view.read (Elt F) xv = chunk xv k := by
  funext x
  show xv ((Rect.unit (s := S33554432) off S16384.size inb).emb x) = xv _
  refine congrArg xv (funext fun a => Fin.ext ?_)
  rw [slice_emb xM]
  obtain rfl := Fin.eq_zero a
  have := inb 0
  have hx : (x 0).val < 16384 := (x 0).isLt
  rw [h] at this ⊢
  have e1 : S16384.size 0 = 16384 := rfl
  have e2 : S33554432.size 0 = 33554432 := rfl
  show _ = (16384 * k + (x 0).val) % 33554432
  omega

/-- What chunk `k` of the result holds once `w` has been written there. -/
theorem ck_write {off : Fin 1 → ℕ} {inb : ∀ a, off a + S16384.size a ≤ S33554432.size a} {k : ℕ} (h : off 0 = 16384 * k) (f : S33554432.Idx → Elt F .f32)
    (w : Vec F S16384 .f32) (j : S33554432.Idx) (hj : j ∈ ckSet k) :
    (oM.slice (Rect.unit (s := S33554432) off S16384.size inb) (fun _ => rfl)).view.write (Elt F) f w Finset.univ j = w (wd (j 0).val) := by
  have hk : (j 0).val / 16384 = k := (Finset.mem_filter.mp hj).2
  have he : (oM.slice (Rect.unit (s := S33554432) off S16384.size inb) (fun _ => rfl)).view.emb (wd (j 0).val) = j := funext fun a => Fin.ext (by
    refine (slice_emb oM off inb (wd (j 0).val) a).trans ?_
    obtain rfl := Fin.eq_zero a
    rw [h]
    show 16384 * k + (j 0).val % 16384 = _
    omega)
  conv_lhs => rw [← he]
  rw [View.write_emb_of_mem _ _ (Finset.mem_univ _)]
  rfl

variable [FloatOps F]

/-- The result: each chunk what the rows of the operand's chunk become. -/
def kOut (xv : S33554432.Idx → Elt F .f32) (j : S33554432.Idx) : Elt F .f32 := chunkOut (chunk xv ((j 0).val / 16384)) (wd (j 0).val)

end Cert.Proof.Run

end
-- ==== Proof.Body.lean ====
module

public import proofs.«01_k».proof.Proof.Tile

@[expose] public section

noncomputable section

namespace Cert.Proof.Tile

open Cert.KernelIdeal Cert.KernelIdeal.Gen
open Idealize.ShloMosaic Idealize.SL.Sem

variable {F : FTy → Type} [FloatOps F]

set_option maxHeartbeats 2000000 in
set_option maxRecDepth 100000 in
theorem body0_eq (i : grid0.Coords) (arg2 : Memref sig .scVector .hbm S33554432 .f32) (harg2 : arg2.IsWhole) (arg3 : Memref sig .scVector .hbm S33554432 .f32) (harg3 : arg3.IsWhole)
    (arg4 : Memref sig .scVector .vmem S16384 .f32) (harg4 : arg4.IsWhole) (arg5 : Memref sig .scVector .vmem S16384 .f32) (harg5 : arg5.IsWhole)
    (arg6 : Memref sig .scVector .vmem S16384 .f32) (harg6 : arg6.IsWhole) (arg7 : Memref sig .scVector .vmem S16384 .f32) (harg7 : arg7.IsWhole)
    (arg8 arg9 arg10 arg11 arg12 arg13 arg14 arg15 : DmaSems sig S_) (v3 : BitVec 32) (v4 : IVec S16 32) (v5 : FVec F S16 .f32) (v9 v13 v17 v21 v25 v29 v33 v37 v41 v45 v49 v53 v57 v61 v65 v69 v70 : IVec S16 32)
    (c0 c1 : BitVec 32) (t1 : Fin k0_t1_loop.trips) (t : Fin k0_t2_loop.trips) (u : Unit) :
    k0_t2_body i arg2 harg2 arg3 harg3 arg4 harg4 arg5 harg5 arg6 harg6 arg7 harg7 arg8 arg9 arg10 arg11 arg12 arg13 arg14 arg15 v3 v4 v5 v9 v13 v17 v21 v25 v29 v33 v37 v41 v45 v49 v53 v57 v61 v65 v69 v70 c0 c1 t1 t u
      = tileK arg4 v5 v9 v13 v17 v21 v25 v29 v33 v37 v41 v45 v49 v53 v57 v61 v65 v69 v70 (k0_pay4 v4 0#32 1#32 t) := by
  unfold k0_t2_body tileK
  rw [k0_part1_eq_skeleton]; unfold k0_part1_skel
  iterate 13 (refine ask_step fun h => ?_; refine ld_step fun x => ?_)
  refine ask_step fun h => ?_
  refine ret_step ?_
  dsimp only
  rw [k0_part2_eq_skeleton]; unfold k0_part2_skel
  refine ld_step fun x => ?_
  iterate 4 (refine ask_step fun h => ?_; refine ld_step fun x => ?_)
  refine ret_step ?_
  dsimp only
  rw [k0_part3_eq_skeleton]; unfold k0_part3_skel
  iterate 14 (refine ask_step fun h => ?_; refine ld_step fun x => ?_)
  refine ret_step ?_
  dsimp only
  rw [k0_part4_eq_skeleton]; unfold k0_part4_skel
  iterate 2 (refine ask_step fun h => ?_; refine ld_step fun x => ?_)
  refine ret_step ?_
  dsimp only
  rw [k0_part5_eq_skeleton]; unfold k0_part5_skel
  iterate 15 (refine ask_step fun h => ?_; refine ld_step fun x => ?_)
  refine ret_step ?_
  dsimp only
  rw [k0_part6_eq_skeleton]; unfold k0_part6_skel
  iterate 1 (refine ask_step fun h => ?_; refine ld_step fun x => ?_)
  refine ret_step ?_
  dsimp only
  rw [k0_part7_eq_skeleton]; unfold k0_part7_skel
  iterate 16 (refine ask_step fun h => ?_; refine ld_step fun x => ?_)
  refine ret_step ?_
  dsimp only
  rw [k0_part8_eq_skeleton]; unfold k0_part8_skel
  refine ret_step ?_
  dsimp only
  refine askSt_step ?hw1 fun h h' => ?_
  case hw1 => simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay204, k0_pay205, k0_pay206, k0_pay1, k0_pay2, k0_pay3, pick, prodOf, tree]
  refine st_step ?hw2 ?hok1 ?_
  case hw2 => simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay204, k0_pay205, k0_pay206, k0_pay1, k0_pay2, k0_pay3, pick, prodOf, tree]
  case hok1 => rfl
  refine askSt_step ?hw3 fun h h' => ?_
  case hw3 => simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay204, k0_pay205, k0_pay206, k0_pay1, k0_pay2, k0_pay3, pick, prodOf, tree]
  refine st_step ?hw4 ?hok2 ?_
  case hw4 => simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay204, k0_pay205, k0_pay206, k0_pay1, k0_pay2, k0_pay3, pick, prodOf, tree]
  case hok2 => rfl
  rfl

/-- Slot 1's tile is slot 0's with the two buffers exchanged. -/
theorem body1_eq (i : grid0.Coords) (arg2 : Memref sig .scVector .hbm S33554432 .f32) (harg2 : arg2.IsWhole) (arg3 : Memref sig .scVector .hbm S33554432 .f32) (harg3 : arg3.IsWhole)
    (arg4 : Memref sig .scVector .vmem S16384 .f32) (harg4 : arg4.IsWhole) (arg5 : Memref sig .scVector .vmem S16384 .f32) (harg5 : arg5.IsWhole)
    (arg6 : Memref sig .scVector .vmem S16384 .f32) (harg6 : arg6.IsWhole) (arg7 : Memref sig .scVector .vmem S16384 .f32) (harg7 : arg7.IsWhole)
    (arg8 arg9 arg10 arg11 arg12 arg13 arg14 arg15 : DmaSems sig S_) (v3 : BitVec 32) (v4 : IVec S16 32) (v5 : FVec F S16 .f32) (v9 v13 v17 v21 v25 v29 v33 v37 v41 v45 v49 v53 v57 v61 v65 v69 v70 : IVec S16 32)
    (c0 c1 : BitVec 32) (t1 : Fin k0_t1_loop.trips) (t : Fin k0_t2_loop.trips) (u : Unit) (a b c d : BitVec 32) :
    k0_t3_body i arg2 harg2 arg3 harg3 arg4 harg4 arg5 harg5 arg6 harg6 arg7 harg7 arg8 arg9 arg10 arg11 arg12 arg13 arg14 arg15 v3 v4 v5 v9 v13 v17 v21 v25 v29 v33 v37 v41 v45 v49 v53 v57 v61 v65 v69 v70 t1 a b c d t u
      = tileK arg5 v5 v9 v13 v17 v21 v25 v29 v33 v37 v41 v45 v49 v53 v57 v61 v65 v69 v70 (k0_pay4 v4 0#32 1#32 t) :=
  Eq.trans (b := k0_t2_body i arg2 harg2 arg3 harg3 arg5 harg5 arg5 harg5 arg6 harg6 arg7 harg7 arg8 arg9 arg10 arg11 arg12 arg13 arg14 arg15 v3 v4 v5 v9 v13 v17 v21 v25 v29 v33 v37 v41 v45 v49 v53 v57 v61 v65 v69 v70 c0 c1 t1 t u) rfl (body0_eq ..)

/-- Slot 2's tile is slot 0's with the two buffers exchanged. -/
theorem body2_eq (i : grid0.Coords) (arg2 : Memref sig .scVector .hbm S33554432 .f32) (harg2 : arg2.IsWhole) (arg3 : Memref sig .scVector .hbm S33554432 .f32) (harg3 : arg3.IsWhole)
    (arg4 : Memref sig .scVector .vmem S16384 .f32) (harg4 : arg4.IsWhole) (arg5 : Memref sig .scVector .vmem S16384 .f32) (harg5 : arg5.IsWhole)
    (arg6 : Memref sig .scVector .vmem S16384 .f32) (harg6 : arg6.IsWhole) (arg7 : Memref sig .scVector .vmem S16384 .f32) (harg7 : arg7.IsWhole)
    (arg8 arg9 arg10 arg11 arg12 arg13 arg14 arg15 : DmaSems sig S_) (v3 : BitVec 32) (v4 : IVec S16 32) (v5 : FVec F S16 .f32) (v9 v13 v17 v21 v25 v29 v33 v37 v41 v45 v49 v53 v57 v61 v65 v69 v70 : IVec S16 32)
    (c0 c1 : BitVec 32) (t1 : Fin k0_t1_loop.trips) (t : Fin k0_t2_loop.trips) (u : Unit) (a b c d : BitVec 32) :
    k0_t4_body i arg2 harg2 arg3 harg3 arg4 harg4 arg5 harg5 arg6 harg6 arg7 harg7 arg8 arg9 arg10 arg11 arg12 arg13 arg14 arg15 v3 v4 v5 v9 v13 v17 v21 v25 v29 v33 v37 v41 v45 v49 v53 v57 v61 v65 v69 v70 t1 a b c d t u
      = tileK arg6 v5 v9 v13 v17 v21 v25 v29 v33 v37 v41 v45 v49 v53 v57 v61 v65 v69 v70 (k0_pay4 v4 0#32 1#32 t) :=
  Eq.trans (b := k0_t2_body i arg2 harg2 arg3 harg3 arg6 harg6 arg5 harg5 arg6 harg6 arg7 harg7 arg8 arg9 arg10 arg11 arg12 arg13 arg14 arg15 v3 v4 v5 v9 v13 v17 v21 v25 v29 v33 v37 v41 v45 v49 v53 v57 v61 v65 v69 v70 c0 c1 t1 t u) rfl (body0_eq ..)

/-- Slot 3's tile is slot 0's with the two buffers exchanged. -/
theorem body3_eq (i : grid0.Coords) (arg2 : Memref sig .scVector .hbm S33554432 .f32) (harg2 : arg2.IsWhole) (arg3 : Memref sig .scVector .hbm S33554432 .f32) (harg3 : arg3.IsWhole)
    (arg4 : Memref sig .scVector .vmem S16384 .f32) (harg4 : arg4.IsWhole) (arg5 : Memref sig .scVector .vmem S16384 .f32) (harg5 : arg5.IsWhole)
    (arg6 : Memref sig .scVector .vmem S16384 .f32) (harg6 : arg6.IsWhole) (arg7 : Memref sig .scVector .vmem S16384 .f32) (harg7 : arg7.IsWhole)
    (arg8 arg9 arg10 arg11 arg12 arg13 arg14 arg15 : DmaSems sig S_) (v3 : BitVec 32) (v4 : IVec S16 32) (v5 : FVec F S16 .f32) (v9 v13 v17 v21 v25 v29 v33 v37 v41 v45 v49 v53 v57 v61 v65 v69 v70 : IVec S16 32)
    (c0 c1 : BitVec 32) (t1 : Fin k0_t1_loop.trips) (t : Fin k0_t2_loop.trips) (u : Unit) :
    k0_t5_body i arg2 harg2 arg3 harg3 arg4 harg4 arg5 harg5 arg6 harg6 arg7 harg7 arg8 arg9 arg10 arg11 arg12 arg13 arg14 arg15 v4 v5 v9 v13 v17 v21 v25 v29 v33 v37 v41 v45 v49 v53 v57 v61 v65 v69 v70 t u
      = tileK arg7 v5 v9 v13 v17 v21 v25 v29 v33 v37 v41 v45 v49 v53 v57 v61 v65 v69 v70 (k0_pay4 v4 0#32 1#32 t) :=
  Eq.trans (b := k0_t2_body i arg2 harg2 arg3 harg3 arg7 harg7 arg5 harg5 arg6 harg6 arg7 harg7 arg8 arg9 arg10 arg11 arg12 arg13 arg14 arg15 v3 v4 v5 v9 v13 v17 v21 v25 v29 v33 v37 v41 v45 v49 v53 v57 v61 v65 v69 v70 c0 c1 t1 t u) rfl (body0_eq ..)

end Cert.Proof.Tile

end
-- ==== Proof.Pipe.lean ====
/-
  The kernel's pipeline, step by step: four buffers, each filled by a copy in, worked on, and emptied by a copy out.
-/
module

public import proofs.«01_k».proof.Proof.Chunk
public import proofs.«01_k».proof.Proof.Body

@[expose] public section

noncomputable section

namespace Cert.Proof.Run

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "MV" => Memref sig Kind.scVector Space.vmem S16384 EltTy.f32

/-! ## The pieces of the arrays -/

variable (xv ov : S33554432.Idx → Elt F .f32) (d : Dev nD) (c : Fin τ.nSC) (s : Fin τ.nSub) (w : ℕ)

/-- Chunk `n` of worker `w`, of the operand and of the result. -/
def xP (n : ℕ) : sProp 𝕄 := (xLoc d) ↦[ckSet (64 * w + n)]{fullShare} xv
def oP (n : ℕ) : sProp 𝕄 := (oLoc d) ↦[ckSet (64 * w + n)]{fullShare} ov
def oK (n : ℕ) : sProp 𝕄 := (oLoc d) ↦[ckSet (64 * w + n)]{fullShare} kOut xv

/-- The operand's chunks not in flight when chunk `n` is the next to work on. -/
def xs (n : ℕ) : sProp 𝕄 := bigSep (Finset.range 64) fun k => if k = n ∨ k = n + 1 then iprop(emp) else xP xv d w k
/-- The result's chunks not in flight then: finished, or not yet begun. -/
def os (n : ℕ) : sProp 𝕄 := bigSep (Finset.range 64) fun k => if k + 2 < n then oK xv d w k else if k < n then iprop(emp) else oP ov d w k

omit [FloatOps F] in
/-- One member of a family exchanged for another. -/
theorem bigSep_swap {I : Type} [DecidableEq I] {S : Finset I} {Φ Ψ : I → sProp 𝕄} {i : I} (hi : i ∈ S) (h : ∀ k, k ≠ i → Φ k = Ψ k) :
    (bigSep S Φ : sProp 𝕄) ⊢ iprop(Φ i ∗ (Ψ i -∗ bigSep S Ψ)) := by
  rw [SparseCore.bigSep_erase' (Φ := Φ) hi, SparseCore.bigSep_erase' (Φ := Ψ) hi,
    bigSep_congr (Φ := Φ) (Ψ := Ψ) (s := S.erase i) fun k hk => h k (Finset.ne_of_mem_erase hk)]
  iintro ⟨H, Hr⟩
  isplitl [H]; · iexact H
  iintro H
  isplitl [H] <;> iassumption

omit [FloatOps F] in
/-- One member of a family taken out, its place left empty. -/
theorem bigSep_take {I : Type} [DecidableEq I] {S : Finset I} {Φ Ψ : I → sProp 𝕄} {i : I} (hi : i ∈ S) (h : ∀ k, k ≠ i → Φ k = Ψ k) (he : Ψ i = iprop(emp)) :
    (bigSep S Φ : sProp 𝕄) ⊢ iprop(Φ i ∗ bigSep S Ψ) := by
  have h1 := bigSep_swap (F := F) hi h
  rw [he] at h1
  iintro H
  ihave H := h1 $$ H
  icases H with ⟨Hi, H⟩
  isplitl [Hi]; · iexact Hi
  iapply H; iempintro

omit [FloatOps F] in
theorem xs_step {n : ℕ} (hn : n < 64) : iprop(xs xv d w n ∗ xP xv d w n) ⊢ (iprop(xs xv d w (n + 1) ∗ if n + 2 < 64 then xP xv d w (n + 2) else iprop(emp)) : sProp 𝕄) := by
  unfold xs
  have h1 := bigSep_swap (F := F) (S := Finset.range 64) (Φ := fun k => if k = n ∨ k = n + 1 then iprop(emp) else xP xv d w k)
    (Ψ := fun k => if k = n + 1 then iprop(emp) else xP xv d w k) (i := n) (Finset.mem_range.mpr hn) (fun k hk => by simp [hk])
  have e1 : (if n = n ∨ n = n + 1 then iprop(emp) else xP xv d w n : sProp 𝕄) = iprop(emp) := if_pos (.inl rfl)
  have e2 : (if n = n + 1 then iprop(emp) else xP xv d w n : sProp 𝕄) = xP xv d w n := if_neg (by omega)
  rw [e1, e2] at h1
  iintro ⟨H, Hx⟩
  ihave H := h1 $$ H
  icases H with ⟨-, H⟩
  ihave H := H $$ Hx
  by_cases h : n + 2 < 64
  · rw [if_pos h]
    have h2 := bigSep_take (F := F) (S := Finset.range 64) (Φ := fun k => if k = n + 1 then iprop(emp) else xP xv d w k)
      (Ψ := fun k => if k = n + 1 ∨ k = n + 1 + 1 then iprop(emp) else xP xv d w k) (i := n + 2) (Finset.mem_range.mpr h) (fun k hk => by simp [hk]) (if_pos (.inr rfl))
    have e3 : (if n + 2 = n + 1 then iprop(emp) else xP xv d w (n + 2) : sProp 𝕄) = xP xv d w (n + 2) := if_neg (by omega)
    rw [e3] at h2
    ihave H := h2 $$ H
    icases H with ⟨Hx, H⟩
    isplitr [Hx] <;> iassumption
  · rw [if_neg h, bigSep_congr (Φ := fun k => if k = n + 1 ∨ k = n + 1 + 1 then iprop(emp) else xP xv d w k) (Ψ := fun k => if k = n + 1 then iprop(emp) else xP xv d w k)
      (s := Finset.range 64) fun k hk => by
        have := Finset.mem_range.mp hk
        simp [show k ≠ n + 1 + 1 by omega]]
    isplitl [H]; · iexact H
    iempintro

theorem os_step {n : ℕ} (hn : n < 64) : iprop(os xv ov d w n ∗ if 2 ≤ n then oK xv d w (n - 2) else iprop(emp)) ⊢ (iprop(os xv ov d w (n + 1) ∗ oP ov d w n) : sProp 𝕄) := by
  unfold os
  have h1 := bigSep_take (F := F) (S := Finset.range 64) (Φ := fun k => if k + 2 < n then oK xv d w k else if k < n then iprop(emp) else oP ov d w k)
    (Ψ := fun k => if k + 2 < n then oK xv d w k else if k < n + 1 then iprop(emp) else oP ov d w k) (i := n) (Finset.mem_range.mpr hn)
    (fun k hk => by by_cases h : k + 2 < n; · simp [h]
                    · by_cases h' : k < n
                      · simp [h, h', show k < n + 1 by omega]
                      · simp [h, h', show ¬ k < n + 1 by omega])
    (by rw [if_neg (by omega), if_pos (by omega)])
  have e1 : (if n + 2 < n then oK xv d w n else if n < n then iprop(emp) else oP ov d w n : sProp 𝕄) = oP ov d w n := by rw [if_neg (by omega), if_neg (by omega)]
  rw [e1] at h1
  by_cases h : 2 ≤ n
  · have h2 := bigSep_swap (F := F) (S := Finset.range 64) (Φ := fun k => if k + 2 < n then oK xv d w k else if k < n + 1 then iprop(emp) else oP ov d w k)
      (Ψ := fun k => if k + 2 < n + 1 then oK xv d w k else if k < n + 1 then iprop(emp) else oP ov d w k) (i := n - 2) (Finset.mem_range.mpr (by omega))
      (fun k hk => by
        have : k + 2 < n ↔ k + 2 < n + 1 := by omega
        simp only [this])
    have e3 : (if n - 2 + 2 < n + 1 then oK xv d w (n - 2) else if n - 2 < n + 1 then iprop(emp) else oP ov d w (n - 2) : sProp 𝕄) = oK xv d w (n - 2) :=
      if_pos (by omega)
    rw [e3] at h2
    rw [if_pos h]
    iintro ⟨H, Ho⟩
    ihave H := h1 $$ H
    icases H with ⟨Hn, H⟩
    ihave H := h2 $$ H
    icases H with ⟨-, H⟩
    isplitr [Hn]
    · iapply H; iexact Ho
    · iexact Hn
  · rw [if_neg h, bigSep_congr (Φ := fun k => if k + 2 < n + 1 then oK xv d w k else if k < n + 1 then iprop(emp) else oP ov d w k)
      (Ψ := fun k => if k + 2 < n then oK xv d w k else if k < n + 1 then iprop(emp) else oP ov d w k) (s := Finset.range 64) fun k hk => by
        have h3 : ¬ k + 2 < n + 1 := by omega
        have h4 : ¬ k + 2 < n := by omega
        simp only [if_neg h3, if_neg h4]]
    iintro ⟨H, -⟩
    ihave H := h1 $$ H
    icases H with ⟨Hn, H⟩
    isplitl [H] <;> iassumption

/-! ## A buffer with its two semaphores -/

/-- What a copy of one chunk adds to its semaphore. -/
def NC : ℕ := (Memref.whole cc0_scratch0 : MV).view.dmaCredit

abbrev sv (sm : DmaSem sig) : sProp 𝕄 := semVal (V d c s, SemLoc.dma sm) 0
abbrev Fl (sm : DmaSem sig) (Dv : sProp 𝕄) : sProp 𝕄 := Transfers.Flight countersEmb (V d c s) (SemLoc.dma sm) (default : HIx 1) NC Dv
abbrev any (b : MV) : sProp 𝕄 := iprop(∃ f, has d c s b f)

/-- The buffer idle. -/
def idle (b : MV) (i o : DmaSem sig) : sProp 𝕄 := iprop(any d c s b ∗ sv d c s i ∗ sv d c s o)
/-- Chunk `n` on its way into the buffer, if there is one. -/
def inS (b : MV) (i o : DmaSem sig) (n : ℕ) : sProp 𝕄 :=
  if n < 64 then iprop(Fl d c s i iprop(has d c s b (chunk xv (64 * w + n)) ∗ xP xv d w n) ∗ sv d c s o) else idle d c s b i o
/-- Chunk `n - 2` on its way out of the buffer, if there is one. -/
def outS (b : MV) (i o : DmaSem sig) (n : ℕ) : sProp 𝕄 :=
  if 2 ≤ n then iprop(Fl d c s o iprop(oK xv d w (n - 2) ∗ any d c s b) ∗ sv d c s i) else idle d c s b i o

/-- What the thread owes; its waits so far are of no further concern. -/
def owing (O : CellTallies nD τ sig (HIx 1)) : sProp 𝕄 := iprop(∃ W, owes (V d c s) O W)

/-! ## The steps -/

variable {d c s w} {α : Type} {O : CellTallies nD τ sig (HIx 1)}

/-- A wait takes what its copy carries. -/
theorem wait_wp {sp sp' : Space} {e' : EltTy} {s' s'' : Shape} {e'' : EltTy} {sm : DmaSem sig} {srcw : Memref sig .scVector sp' s' e'} {dstw : Memref sig .scVector sp s'' e''}
    {hs : srcw.view.WordExact} {hd : dstw.view.WordExact} (hN : dstw.view.dmaCredit = NC) (Dv : sProp 𝕄) {k : PUnit → Tile.Pr F c s α} {Q : α → sProp 𝕄} :
    iprop((Transfers.MayWaits (V d c s) (default : HIx 1) O) ∗ Fl d c s sm Dv ∗ owing d c s O) ⊢ iprop((iprop(Dv ∗ sv d c s sm ∗ owing d c s O) -∗ (wp frame (wpE (defs₀ (F := F)) 𝒱₀ (V d c s) none) Set.univ) (k ⟨⟩) Q)
      -∗ (wp frame (wpE (defs₀ (F := F)) 𝒱₀ (V d c s) none) Set.univ) (.op (.waitDma2 sm srcw dstw hs hd) k) Q) := by
  unfold owing
  iintro ⟨Hmw, Hf, ⟨%W, HO⟩⟩ Hk
  iapply (Transfers.wp_waitLocalO countersEmb 𝒱₀ (V d c s) none (default : HIx 1) hN) $$ [Hmw Hf HO]
  · isplitl [Hf]; · iexact Hf
    isplitl [HO]; · iexact HO
    iapply (Transfers.MayWaits.elim (SemLoc.dma sm)); iexact Hmw
  iintro ⟨HD, Hs, HO⟩
  iapply Hk
  isplitl [HD]; · iexact HD
  isplitl [Hs]; · iexact Hs
  iexists _; iexact HO

/-- The wait for the chunk to work on. -/
theorem wait_in {b : MV} {i o : DmaSem sig} {n : ℕ} (hn : n < 64) {srcw : Memref sig .scVector .hbm S16384 .f32} {hs : srcw.view.WordExact} {hd : b.view.WordExact}
    {k : PUnit → Tile.Pr F c s α} {Q : α → sProp 𝕄} :
    iprop((Transfers.MayWaits (V d c s) (default : HIx 1) O) ∗ inS xv d c s w b i o n ∗ owing d c s O) ⊢ iprop((iprop(has d c s b (chunk xv (64 * w + n)) ∗ xP xv d w n ∗ sv d c s i ∗ sv d c s o ∗ owing d c s O) -∗ (wp frame (wpE (defs₀ (F := F)) 𝒱₀ (V d c s) none) Set.univ) (k ⟨⟩) Q)
      -∗ (wp frame (wpE (defs₀ (F := F)) 𝒱₀ (V d c s) none) Set.univ) (.op (.waitDma2 i srcw b hs hd) k) Q) := by
  unfold inS
  rw [if_pos hn]
  iintro ⟨Hmw, ⟨Hf, Ho⟩, HO⟩ Hk
  iapply (wait_wp (rfl : b.view.dmaCredit = NC) iprop(has d c s b (chunk xv (64 * w + n)) ∗ xP xv d w n)) $$ [Hmw Hf HO]
  · isplitl [Hmw]; · iexact Hmw
    isplitl [Hf] <;> iassumption
  iintro ⟨⟨Hb, Hx⟩, Hi, HO⟩
  iapply Hk
  isplitl [Hb]; · iexact Hb
  isplitl [Hx]; · iexact Hx
  isplitl [Hi]; · iexact Hi
  isplitl [Ho] <;> iassumption

/-- The wait for the buffer to be refilled to have been emptied. -/
theorem wait_out {b : MV} {i o : DmaSem sig} {n : ℕ} {p : Prop} [Decidable p] (hp : p ↔ 2 ≤ n) {dstw : p → Memref sig .scVector .hbm S16384 .f32}
    {hs : b.view.WordExact} {hd : ∀ h, (dstw h).view.WordExact} {k : PUnit → Tile.Pr F c s α} {Q : α → sProp 𝕄} :
    iprop((Transfers.MayWaits (V d c s) (default : HIx 1) O) ∗ outS xv d c s w b i o n ∗ owing d c s O) ⊢ iprop((iprop(idle d c s b i o ∗ (if 2 ≤ n then oK xv d w (n - 2) else iprop(emp)) ∗ owing d c s O) -∗ (wp frame (wpE (defs₀ (F := F)) 𝒱₀ (V d c s) none) Set.univ) (k ⟨⟩) Q)
      -∗ (wp frame (wpE (defs₀ (F := F)) 𝒱₀ (V d c s) none) Set.univ) (if h : p then (.op (.waitDma2 o b (dstw h) hs (hd h)) k) else k ⟨⟩) Q) := by
  unfold outS
  by_cases h : 2 ≤ n
  · rw [if_pos h, if_pos h, dif_pos (hp.mpr h)]
    iintro ⟨Hmw, ⟨Hf, Hi⟩, HO⟩ Hk
    iapply (wait_wp (rfl : (dstw (hp.mpr h)).view.dmaCredit = NC) iprop(oK xv d w (n - 2) ∗ any d c s b)) $$ [Hmw Hf HO]
    · isplitl [Hmw]; · iexact Hmw
      isplitl [Hf] <;> iassumption
    iintro ⟨⟨Hx, Hb⟩, Ho, HO⟩
    iapply Hk
    unfold idle
    isplitl [Hb Hi Ho]
    · isplitl [Hb]; · iexact Hb
      isplitl [Hi] <;> iassumption
    isplitl [Hx] <;> iassumption
  · rw [if_neg h, if_neg h, dif_neg (fun hh => h (hp.mp hh))]
    iintro ⟨Hmw, Hb, HO⟩ Hk
    iapply Hk
    isplitl [Hb]; · iexact Hb
    isplitr [HO]; · iempintro
    iexact HO

omit [FloatOps F] in
theorem has_open {b : MV} (f : Vec F S16384 .f32) : (has d c s b f : sProp 𝕄)
    ⊢ iprop(∃ g : Buf (Elt F) (b.view.loc (V d c s)), (b.view.loc (V d c s) ↦[b.view.set]{fullShare} g) ∗ ⌜b.view.read (Elt F) g = f⌝) := by
  unfold has; exact Entails.refl _

omit [FloatOps F] in
theorem has_of_write {b : MV} (g : Buf (Elt F) (b.view.loc (V d c s))) (f : Vec F S16384 .f32) :
    ((b.view.loc (V d c s) ↦[b.view.set]{fullShare} b.view.write (Elt F) g f Finset.univ) : sProp 𝕄) ⊢ has d c s b f := by
  unfold has
  iintro H
  iexists _
  isplitl [H]; · iexact H
  ipureintro
  exact View.read_write_univ ..

/-- A chunk's copy in, begun. -/
theorem start_in {b : MV} {i o : DmaSem sig} {n : ℕ} (hn : n < 64) {off : Fin 1 → ℕ} {inb : ∀ a, off a + S16384.size a ≤ S33554432.size a} (ho : off 0 = 16384 * (64 * w + n))
    {hs : (xM.slice (Rect.unit (s := S33554432) off S16384.size inb) (fun _ => rfl)).view.WordExact} {hd : b.view.WordExact}
    {ht : DmaTarget.Typed (nD := nD) (τ := τ) (p := Proc.scVector c s) Space.hbm (SemLoc.dma i) (.here b)} {k : PUnit → Tile.Pr F c s α} {Q : α → sProp 𝕄} :
    iprop(idle d c s b i o ∗ xP xv d w n) ⊢ iprop((inS xv d c s w b i o n -∗ (wp frame (wpE (defs₀ (F := F)) 𝒱₀ (V d c s) none) Set.univ) (k ⟨⟩) Q)
      -∗ (wp frame (wpE (defs₀ (F := F)) 𝒱₀ (V d c s) none) Set.univ) (.op (.enqueueDma (xM.slice (Rect.unit (s := S33554432) off S16384.size inb) (fun _ => rfl)) (.here b) (.dma i) hs hd ht) k) Q) := by
  unfold idle inS xP
  rw [if_pos hn]
  iintro ⟨⟨⟨%f, Hb⟩, Hi, Ho⟩, Hx⟩ Hk
  ihave Hb := (has_open f) $$ Hb
  icases Hb with ⟨%g, Hg, -⟩
  have e := ck_set_x (inb := inb) ho
  iapply (Transfers.wp_dmaLocal countersEmb 𝒱₀ (V d c s) none (q := fullShare) (fs := xv)
    (src := xM.slice (Rect.unit (s := S33554432) off S16384.size inb) (fun _ => rfl)) (via := .same) (dst := b)
    (Sd := b.view.set) (fd := g) (default : HIx 1) NC rfl (by decide) (Finset.Subset.refl _)) $$ [Hx Hg Hi]
  · isplitl [Hx]
    · rw [e]; iexact Hx
    isplitl [Hg] <;> iassumption
  iintro Hf
  iapply Hk
  isplitl [Hf]
  · iapply (Transfers.Flight_mono countersEmb (V d c s) ?_) $$ Hf
    iintro ⟨Hb, Hx⟩
    isplitl [Hb]
    · rw [← ck_read (inb := inb) ho xv]
      iapply (has_of_write g _) $$ Hb
    · rw [e]; iexact Hx
  · iexact Ho

/-- A chunk's copy in begun, if there is such a chunk. -/
theorem refill {b : MV} {i o : DmaSem sig} {n : ℕ} {p : Prop} [Decidable p] (hp : p ↔ n < 64) {off : Fin 1 → ℕ} {inb : p → ∀ a, off a + S16384.size a ≤ S33554432.size a}
    (ho : off 0 = 16384 * (64 * w + n))
    {hs : ∀ h, (xM.slice (Rect.unit (s := S33554432) off S16384.size (inb h)) (fun _ => rfl)).view.WordExact} {hd : b.view.WordExact}
    {ht : DmaTarget.Typed (nD := nD) (τ := τ) (p := Proc.scVector c s) Space.hbm (SemLoc.dma i) (.here b)} {k : PUnit → Tile.Pr F c s α} {Q : α → sProp 𝕄} :
    iprop(idle d c s b i o ∗ if n < 64 then xP xv d w n else iprop(emp)) ⊢ iprop((inS xv d c s w b i o n -∗ (wp frame (wpE (defs₀ (F := F)) 𝒱₀ (V d c s) none) Set.univ) (k ⟨⟩) Q)
      -∗ (wp frame (wpE (defs₀ (F := F)) 𝒱₀ (V d c s) none) Set.univ) (if h : p then .op (.enqueueDma (xM.slice (Rect.unit (s := S33554432) off S16384.size (inb h)) (fun _ => rfl)) (.here b) (.dma i) (hs h) hd ht) k else k ⟨⟩) Q) := by
  by_cases h : n < 64
  · rw [if_pos h, dif_pos (hp.mpr h)]
    exact start_in xv h ho
  · rw [if_neg h, dif_neg (fun hh => h (hp.mp hh))]
    unfold inS
    rw [if_neg h]
    iintro ⟨Hb, -⟩ Hk
    iapply Hk; iexact Hb

/-- A finished chunk's copy out, begun. -/
theorem start_out {b : MV} {i o : DmaSem sig} {n : ℕ} {off : Fin 1 → ℕ} {inb : ∀ a, off a + S16384.size a ≤ S33554432.size a} (ho : off 0 = 16384 * (64 * w + n))
    {hd : (oM.slice (Rect.unit (s := S33554432) off S16384.size inb) (fun _ => rfl)).view.WordExact} {hs : b.view.WordExact}
    {ht : DmaTarget.Typed (nD := nD) (τ := τ) (p := Proc.scVector c s) Space.vmem (SemLoc.dma o) (.here (oM.slice (Rect.unit (s := S33554432) off S16384.size inb) (fun _ => rfl)))} {k : PUnit → Tile.Pr F c s α} {Q : α → sProp 𝕄} :
    iprop(has d c s b (chunkOut (chunk xv (64 * w + n))) ∗ oP ov d w n ∗ sv d c s i ∗ sv d c s o) ⊢ iprop((outS xv d c s w b i o (n + 2) -∗ (wp frame (wpE (defs₀ (F := F)) 𝒱₀ (V d c s) none) Set.univ) (k ⟨⟩) Q)
      -∗ (wp frame (wpE (defs₀ (F := F)) 𝒱₀ (V d c s) none) Set.univ) (.op (.enqueueDma b (.here (oM.slice (Rect.unit (s := S33554432) off S16384.size inb) (fun _ => rfl))) (.dma o) hs hd ht) k) Q) := by
  unfold outS oP oK
  rw [if_pos (by omega), show n + 2 - 2 = n from by omega]
  iintro ⟨Hb, Hx, Hi, Ho⟩ Hk
  ihave Hb := (has_open _) $$ Hb
  icases Hb with ⟨%g, Hg, %eg⟩
  have e := ck_set_o (inb := inb) ho
  iapply (Transfers.wp_dmaLocal countersEmb 𝒱₀ (V d c s) none (q := fullShare) (fs := g) (src := b) (via := .same)
    (dst := oM.slice (Rect.unit (s := S33554432) off S16384.size inb) (fun _ => rfl))
    (Sd := ckSet (64 * w + n)) (fd := ov) (default : HIx 1) NC rfl (by decide) e.subset) $$ [Hx Hg Ho]
  · isplitl [Hg]; · iexact Hg
    isplitl [Hx] <;> iassumption
  iintro Hf
  iapply Hk
  isplitl [Hf]
  · iapply (Transfers.Flight_mono countersEmb (V d c s) ?_) $$ Hf
    iintro ⟨Hx, Hb⟩
    isplitl [Hx]
    · iapply (Entails.of_eq (pointsTo_congr fun j hj => ?_)) $$ Hx
      refine (ck_write ho ov _ j hj).trans ?_
      have : (j 0).val / 16384 = 64 * w + n := (Finset.mem_filter.mp hj).2
      unfold kOut
      rw [this]
      exact congrFun eg _
    · iexists (b.view.read (Elt F) g)
      unfold has
      iexists g
      isplitl [Hb]; · iexact Hb
      ipureintro; rfl
  · iexact Hi

end Cert.Proof.Run

end
-- ==== Proof.Phase.lean ====
/-
  One chunk's turn: its two halves, and the kernel's loop bodies as such halves.
-/
module

public import proofs.«01_k».proof.Proof.Pipe

@[expose] public section

noncomputable section

namespace Cert.Proof.Run

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "MV" => Memref sig Kind.scVector Space.vmem S16384 EltTy.f32

variable (xv ov : S33554432.Idx → Elt F .f32) {d : Dev nD} {c : Fin τ.nSC} {s : Fin τ.nSub} {w : ℕ} {α : Type} {O : CellTallies nD τ sig (HIx 1)}

theorem mid_zero (f : Vec F S16384 .f32) : mid f 0 = f := funext fun j => if_neg (Nat.not_lt_zero _)

theorem mid_end (f : Vec F S16384 .f32) : mid f 8 = chunkOut f := funext fun j => if_pos (by
  have : (j 0).val < 16384 := (j 0).isLt
  omega)

/-- The tile program with the kernel's vectors. -/
def tileOf (b : MV) (t : Fin k0_t2_loop.trips) : Tile.Pr F c s Unit :=
  Tile.tileK b (broadcast S16 two) (diag 0) (diag 1) (diag 2) (diag 3) (diag 4) (diag 5) (diag 6) (diag 7)
    (diag 8) (diag 9) (diag 10) (diag 11) (diag 12) (diag 13) (diag 14) (diag 15) (broadcast S16 16#32) (word0 t)

/-- The eight tiles rewrite the chunk. -/
theorem loop_wp {b : MV} (f : Vec F S16384 .f32) {body : Fin k0_t2_loop.trips → Unit → Tile.Pr F c s Unit} (hb : ∀ t u, body t u = tileOf b t)
    {k : Unit → Tile.Pr F c s α} {Q : α → sProp 𝕄} :
    has d c s b f ⊢ iprop((has d c s b (chunkOut f) -∗ (wp frame (wpE (defs₀ (F := F)) 𝒱₀ (V d c s) none) Set.univ) (k ⟨⟩) Q) -∗ (wp frame (wpE (defs₀ (F := F)) 𝒱₀ (V d c s) none) Set.univ) (Scf.Loop.for k0_t2_loop k0_t2_ok ⟨⟩ body >>= k) Q) := by
  iintro H Hk
  iapply (Scf.wp_for_bind frame (wpE (defs₀ (F := F)) 𝒱₀ (V d c s) none) Set.univ k0_t2_loop.lb k0_t2_loop.ub k0_t2_loop.st k0_t2_ok ⟨⟩ body
    (fun n _ => has d c s b (mid f n)) (fun t u => by rw [hb t u]; exact tile_wp f t)) $$ [H]
  · rw [mid_zero]; iexact H
  iintro %u H
  iapply Hk
  rw [show Scf.trips k0_t2_loop.lb k0_t2_loop.ub k0_t2_loop.st = 8 by decide, mid_end]
  iexact H

variable (d c s w O) in
/-- Everything but the buffers, when chunk `n` is the next to work on. -/
def St (n : ℕ) : sProp 𝕄 := iprop(xs xv d w n ∗ os xv ov d w n ∗ owing d c s O)

variable (d c s w O) in
/-- Between the halves of chunk `n`'s turn: it is in the first buffer, and the second is idle. -/
def Mid (b : MV) (i o : DmaSem sig) (b' : MV) (i' o' : DmaSem sig) (n : ℕ) : sProp 𝕄 :=
  iprop((has d c s b (chunk xv (64 * w + n)) ∗ sv d c s i ∗ sv d c s o) ∗ idle d c s b' i' o'
    ∗ (if n + 2 < 64 then xP xv d w (n + 2) else iprop(emp)) ∗ oP ov d w n ∗ St xv ov d c s w O (n + 1))

theorem head_wp {b b' : MV} {i o i' o' : DmaSem sig} {n : ℕ} (hn : n < 64) {srcw : Memref sig .scVector .hbm S16384 .f32} {hs : srcw.view.WordExact} {hd : b.view.WordExact}
    {p : Prop} [Decidable p] (hp : p ↔ 2 ≤ n) {dstw : p → Memref sig .scVector .hbm S16384 .f32}
    {hs' : b'.view.WordExact} {hd' : ∀ h, (dstw h).view.WordExact} {k : PUnit → Tile.Pr F c s α} {Q : α → sProp 𝕄} :
    iprop((Transfers.MayWaits (V d c s) (default : HIx 1) O) ∗ (Transfers.MayWaits (V d c s) (default : HIx 1) O) ∗ inS xv d c s w b i o n ∗ outS xv d c s w b' i' o' n ∗ St xv ov d c s w O n)
      ⊢ iprop((Mid xv ov d c s w O b i o b' i' o' n -∗ (wp frame (wpE (defs₀ (F := F)) 𝒱₀ (V d c s) none) Set.univ) (k ⟨⟩) Q)
        -∗ (wp frame (wpE (defs₀ (F := F)) 𝒱₀ (V d c s) none) Set.univ) (.op (.waitDma2 i srcw b hs hd) fun _ => if h : p then (.op (.waitDma2 o' b' (dstw h) hs' (hd' h)) k) else k ⟨⟩) Q) := by
  unfold St
  iintro ⟨Hm, Hm', HA, HB, Hx, Ho, HO⟩ Hk
  iapply (wait_in xv hn) $$ [Hm HA HO]
  · isplitl [Hm]; · iexact Hm
    isplitl [HA] <;> iassumption
  iintro ⟨Hb, HxP, Hi, Hoo, HO⟩
  iapply (wait_out xv hp) $$ [Hm' HB HO]
  · isplitl [Hm']; · iexact Hm'
    isplitl [HB] <;> iassumption
  iintro ⟨HB, HoK, HO⟩
  ihave Hx := (xs_step xv d w hn) $$ [Hx HxP]
  · isplitl [Hx] <;> iassumption
  ihave Ho := (os_step xv ov d w hn) $$ [Ho HoK]
  · isplitl [Ho] <;> iassumption
  icases Hx with ⟨Hx, Hx'⟩
  icases Ho with ⟨Ho, Ho'⟩
  iapply Hk
  unfold Mid St
  isplitl [Hb Hi Hoo]
  · isplitl [Hb]; · iexact Hb
    isplitl [Hi] <;> iassumption
  isplitl [HB]; · iexact HB
  isplitl [Hx']; · iexact Hx'
  isplitl [Ho']; · iexact Ho'
  isplitl [Hx]; · iexact Hx
  isplitl [Ho] <;> iassumption

theorem tail_wp {b b' : MV} {i o i' o' : DmaSem sig} {n : ℕ}
    {p : Prop} [Decidable p] (hp : p ↔ n + 2 < 64) {off : Fin 1 → ℕ} {inb : p → ∀ a, off a + S16384.size a ≤ S33554432.size a}
    (ho : off 0 = 16384 * (64 * w + (n + 2)))
    {hs : ∀ h, (xM.slice (Rect.unit (s := S33554432) off S16384.size (inb h)) (fun _ => rfl)).view.WordExact} {hd : b'.view.WordExact}
    {ht : DmaTarget.Typed (nD := nD) (τ := τ) (p := Proc.scVector c s) Space.hbm (SemLoc.dma i') (.here b')}
    {body : Fin k0_t2_loop.trips → Unit → Tile.Pr F c s Unit} (hb : ∀ t u, body t u = tileOf b t)
    {off' : Fin 1 → ℕ} {inb' : ∀ a, off' a + S16384.size a ≤ S33554432.size a} (ho' : off' 0 = 16384 * (64 * w + n))
    {hd' : (oM.slice (Rect.unit (s := S33554432) off' S16384.size inb') (fun _ => rfl)).view.WordExact} {hs' : b.view.WordExact}
    {ht' : DmaTarget.Typed (nD := nD) (τ := τ) (p := Proc.scVector c s) Space.vmem (SemLoc.dma o) (.here (oM.slice (Rect.unit (s := S33554432) off' S16384.size inb') (fun _ => rfl)))}
    {rest k : PUnit → Tile.Pr F c s α} (hr : rest ⟨⟩ = Scf.Loop.for k0_t2_loop k0_t2_ok ⟨⟩ body >>= fun _ =>
      .op (.enqueueDma b (.here (oM.slice (Rect.unit (s := S33554432) off' S16384.size inb') (fun _ => rfl))) (.dma o) hs' hd' ht') k) {Q : α → sProp 𝕄} :
    Mid xv ov d c s w O b i o b' i' o' n
      ⊢ iprop((iprop(outS xv d c s w b i o (n + 2) ∗ inS xv d c s w b' i' o' (n + 2) ∗ St xv ov d c s w O (n + 1)) -∗ (wp frame (wpE (defs₀ (F := F)) 𝒱₀ (V d c s) none) Set.univ) (k ⟨⟩) Q)
        -∗ (wp frame (wpE (defs₀ (F := F)) 𝒱₀ (V d c s) none) Set.univ) (if h : p then .op (.enqueueDma (xM.slice (Rect.unit (s := S33554432) off S16384.size (inb h)) (fun _ => rfl)) (.here b') (.dma i') (hs h) hd ht) rest else rest ⟨⟩) Q) := by
  unfold Mid
  iintro ⟨⟨Hb, Hi, Ho⟩, HB, Hx, HoP, HS⟩ Hk
  iapply (refill xv hp ho) $$ [HB Hx]
  · isplitl [HB] <;> iassumption
  iintro HB
  rw [hr]
  iapply (loop_wp (chunk xv (64 * w + n)) hb) $$ Hb
  iintro Hb
  iapply (start_out xv ov ho') $$ [Hb HoP Hi Ho]
  · isplitl [Hb]; · iexact Hb
    isplitl [HoP]; · iexact HoP
    isplitl [Hi] <;> iassumption
  iintro HA
  iapply Hk
  isplitl [HA]; · iexact HA
  isplitl [HB] <;> iassumption

end Cert.Proof.Run

end
-- ==== Proof.Round.lean ====
/-
  One round of the kernel's loop: four chunks' turns.
-/
module

public import proofs.«01_k».proof.Proof.Phase

@[expose] public section

noncomputable section

namespace Cert.Proof.Run

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "MV" => Memref sig Kind.scVector Space.vmem S16384 EltTy.f32

/-! ## The printed conditions and offsets -/

theorem cond1_iff : ∀ t : Fin k0_t1_loop.trips, k0_cond1 t = 1#1 ↔ 2 ≤ 4 * t.val := by decide
theorem cond2_iff : ∀ t : Fin k0_t1_loop.trips, k0_cond2 t = 1#1 ↔ 4 * t.val + 2 < 64 := by decide
theorem cond3_iff : ∀ t : Fin k0_t1_loop.trips, k0_cond3 t = 1#1 ↔ 2 ≤ 4 * t.val + 1 := by decide
theorem cond4_iff : ∀ t : Fin k0_t1_loop.trips, k0_cond4 t = 1#1 ↔ 4 * t.val + 1 + 2 < 64 := by decide
theorem cond5_iff : ∀ t : Fin k0_t1_loop.trips, k0_cond5 t = 1#1 ↔ 2 ≤ 4 * t.val + 2 := by decide
theorem cond6_iff : ∀ t : Fin k0_t1_loop.trips, k0_cond6 t = 1#1 ↔ 4 * t.val + 2 + 2 < 64 := by decide
theorem cond7_iff : ∀ t : Fin k0_t1_loop.trips, k0_cond7 t = 1#1 ↔ 2 ≤ 4 * t.val + 3 := by decide
theorem cond8_iff : ∀ t : Fin k0_t1_loop.trips, k0_cond8 t = 1#1 ↔ 4 * t.val + 3 + 2 < 64 := by decide

theorem round_lt (t : Fin k0_t1_loop.trips) : t.val < 16 := lt_of_lt_of_eq t.isLt (by decide)

variable (i : grid0.Coords) (t : Fin k0_t1_loop.trips)

/-- The worker that grid position `i` is. -/
def wid : ℕ := 2 * (i 1).val + (i 0).val

theorem off2_at (r : Fin 4) (n : ℕ) (h : n = 4 * t.val + r.val) : k0_off2 i t (BitVec.ofNat 32 r.val) 0 = 16384 * (64 * wid i + n) := by
  rw [k0_off2_eq]
  show 2097152 * (i 1).val + 1048576 * (i 0).val + 65536 * t.val + 16384 * r.val = _
  unfold wid; omega

theorem off4_at : k0_off4 i t 0 = 16384 * (64 * wid i + (4 * t.val + 2)) := by
  rw [k0_off4_eq]
  show 2097152 * (i 1).val + 1048576 * (i 0).val + 65536 * t.val + 32768 = _
  unfold wid; omega

theorem off6_at : k0_off6 i t 0 = 16384 * (64 * wid i + (4 * t.val + 1 + 2)) := by
  rw [k0_off6_eq]
  show 2097152 * (i 1).val + 1048576 * (i 0).val + 65536 * t.val + 49152 = _
  unfold wid; omega

theorem off8_at : k0_off8 i t 0 = 16384 * (64 * wid i + (4 * t.val + 2 + 2)) := by
  rw [k0_off8_eq]
  show 2097152 * (i 1).val + 1048576 * (i 0).val + 65536 * t.val + 65536 = _
  unfold wid; omega

theorem off10_at : k0_off10 i t 0 = 16384 * (64 * wid i + (4 * t.val + 3 + 2)) := by
  rw [k0_off10_eq]
  show 2097152 * (i 1).val + 1048576 * (i 0).val + 65536 * t.val + 81920 = _
  unfold wid; omega

/-! ## The round -/

variable (xv ov : S33554432.Idx → Elt F .f32) (d : Dev nD) (O : CellTallies nD τ sig (HIx 1))
variable (hx : xM.IsWhole) (ho : oM.IsWhole) (b0 : MV) (hb0 : b0.IsWhole) (b1 : MV) (hb1 : b1.IsWhole) (b2 : MV) (hb2 : b2.IsWhole) (b3 : MV) (hb3 : b3.IsWhole)
variable (i0 i1 i2 i3 o0 o1 o2 o3 : DmaSems sig S_) (z e0 e1 e2 e3 : BitVec 32)

/-- What the loop holds when chunk `n` is the next to work on, and is the first buffer's. -/
def Inv (n : ℕ) : sProp 𝕄 :=
  iprop(inS xv d (Fin.castLE hcore0 (i 0)) (Fin.castLE hsub0 (i 1)) (wid i) b0 i0.sem o0.sem n ∗ inS xv d (Fin.castLE hcore0 (i 0)) (Fin.castLE hsub0 (i 1)) (wid i) b1 i1.sem o1.sem (n + 1)
    ∗ outS xv d (Fin.castLE hcore0 (i 0)) (Fin.castLE hsub0 (i 1)) (wid i) b2 i2.sem o2.sem n ∗ outS xv d (Fin.castLE hcore0 (i 0)) (Fin.castLE hsub0 (i 1)) (wid i) b3 i3.sem o3.sem (n + 1) ∗ St xv ov d (Fin.castLE hcore0 (i 0)) (Fin.castLE hsub0 (i 1)) (wid i) O n)

/-- After the first chunk's turn and half the second's. -/
def Inv1 (n : ℕ) : sProp 𝕄 :=
  iprop(outS xv d (Fin.castLE hcore0 (i 0)) (Fin.castLE hsub0 (i 1)) (wid i) b0 i0.sem o0.sem (n + 2) ∗ inS xv d (Fin.castLE hcore0 (i 0)) (Fin.castLE hsub0 (i 1)) (wid i) b2 i2.sem o2.sem (n + 2)
    ∗ Mid xv ov d (Fin.castLE hcore0 (i 0)) (Fin.castLE hsub0 (i 1)) (wid i) O b1 i1.sem o1.sem b3 i3.sem o3.sem (n + 1))

/-- After the third chunk's turn. -/
def Inv2 (n : ℕ) : sProp 𝕄 :=
  iprop(outS xv d (Fin.castLE hcore0 (i 0)) (Fin.castLE hsub0 (i 1)) (wid i) b1 i1.sem o1.sem (n + 1 + 2) ∗ inS xv d (Fin.castLE hcore0 (i 0)) (Fin.castLE hsub0 (i 1)) (wid i) b3 i3.sem o3.sem (n + 1 + 2)
    ∗ outS xv d (Fin.castLE hcore0 (i 0)) (Fin.castLE hsub0 (i 1)) (wid i) b2 i2.sem o2.sem (n + 2 + 2) ∗ inS xv d (Fin.castLE hcore0 (i 0)) (Fin.castLE hsub0 (i 1)) (wid i) b0 i0.sem o0.sem (n + 2 + 2) ∗ St xv ov d (Fin.castLE hcore0 (i 0)) (Fin.castLE hsub0 (i 1)) (wid i) O (n + 2 + 1))

set_option maxHeartbeats 400000 in
theorem part33_wp : iprop((Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O) ∗ Inv i xv ov d O b0 b1 b2 b3 i0 i1 i2 i3 o0 o1 o2 o3 (4 * t.val))
    ⊢ (wp frame (wpE (defs₀ (F := F)) 𝒱₀ (V d (Fin.castLE hcore0 (i 0)) (Fin.castLE hsub0 (i 1))) none) Set.univ) (k0_part33 i xM hx oM ho b0 hb0 b1 hb1 b2 hb2 b3 hb3 i0 i1 i2 i3 o0 o1 o2 o3 z (iota Kind.scVector S16 32 [0] iota_S16_d0_w32_scVector) (broadcast S16 two) (diag 0) (diag 1) (diag 2) (diag 3) (diag 4) (diag 5) (diag 6) (diag 7)
        (diag 8) (diag 9) (diag 10) (diag 11) (diag 12) (diag 13) (diag 14) (diag 15) (broadcast S16 16#32) 0#32 1#32 t)
      fun _ => Inv1 i xv ov d O b0 b1 b2 b3 i0 i1 i2 i3 o0 o1 o2 o3 (4 * t.val) := by
  have ht := round_lt t
  rw [k0_part33_eq_skeleton]
  unfold k0_part33_skel Inv Inv1
  simp only [Prog.bind_lift, Prog.pure_eq_ret]
  iintro ⟨M1, M2, M3, M4, H0, H1, H2, H3, HS⟩
  iapply (head_wp xv ov (w := wid i) (n := 4 * t.val) (by omega) (cond1_iff t) (i := i0.sem) (o := o0.sem) (i' := i2.sem) (o' := o2.sem)) $$ [M1 M2 H0 H2 HS]
  · isplitl [M1]; · iexact M1
    isplitl [M2]; · iexact M2
    isplitl [H0]; · iexact H0
    isplitl [H2] <;> iassumption
  iintro HM
  iapply (tail_wp xv ov (w := wid i) (n := 4 * t.val) (cond2_iff t) (off4_at i t) (fun t' u => Tile.body0_eq ..) (off2_at i t 0 _ rfl) rfl) $$ HM
  iintro ⟨H0, H2, HS⟩
  iapply (head_wp xv ov (w := wid i) (n := 4 * t.val + 1) (by omega) (cond3_iff t) (i := i1.sem) (o := o1.sem) (i' := i3.sem) (o' := o3.sem)) $$ [M3 M4 H1 H3 HS]
  · isplitl [M3]; · iexact M3
    isplitl [M4]; · iexact M4
    isplitl [H1]; · iexact H1
    isplitl [H3] <;> iassumption
  iintro HM
  rw [wp_ret]
  imodintro
  isplitl [H0]; · iexact H0
  isplitl [H2] <;> iassumption

set_option maxHeartbeats 400000 in
theorem part34_wp : iprop((Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O) ∗ Inv1 i xv ov d O b0 b1 b2 b3 i0 i1 i2 i3 o0 o1 o2 o3 (4 * t.val))
    ⊢ (wp frame (wpE (defs₀ (F := F)) 𝒱₀ (V d (Fin.castLE hcore0 (i 0)) (Fin.castLE hsub0 (i 1))) none) Set.univ) (k0_part34 i xM hx oM ho b0 hb0 b1 hb1 b2 hb2 b3 hb3 i0 i1 i2 i3 o0 o1 o2 o3 z (iota Kind.scVector S16 32 [0] iota_S16_d0_w32_scVector) (broadcast S16 two) (diag 0) (diag 1) (diag 2) (diag 3) (diag 4) (diag 5) (diag 6) (diag 7)
        (diag 8) (diag 9) (diag 10) (diag 11) (diag 12) (diag 13) (diag 14) (diag 15) (broadcast S16 16#32) t e0 e1 e2 e3)
      fun _ => Inv2 i xv ov d O b0 b1 b2 b3 i0 i1 i2 i3 o0 o1 o2 o3 (4 * t.val) := by
  have ht := round_lt t
  rw [k0_part34_eq_skeleton]
  unfold k0_part34_skel Inv1 Inv2
  simp only [Prog.bind_lift, Prog.pure_eq_ret]
  iintro ⟨M1, M2, H0, H2, HM⟩
  iapply (tail_wp xv ov (w := wid i) (n := 4 * t.val + 1) (cond4_iff t) (off6_at i t) (fun t' u => Tile.body1_eq (c0 := 0#32) (c1 := 0#32) ..) (off2_at i t 1 _ rfl) rfl) $$ HM
  iintro ⟨H1, H3, HS⟩
  iapply (head_wp xv ov (w := wid i) (n := 4 * t.val + 2) (by omega) (cond5_iff t) (i := i2.sem) (o := o2.sem) (i' := i0.sem) (o' := o0.sem)) $$ [M1 M2 H0 H2 HS]
  · isplitl [M1]; · iexact M1
    isplitl [M2]; · iexact M2
    isplitl [H2]; · iexact H2
    isplitl [H0] <;> iassumption
  iintro HM
  iapply (tail_wp xv ov (w := wid i) (n := 4 * t.val + 2) (cond6_iff t) (off8_at i t) (fun t' u => Tile.body2_eq (c0 := 0#32) (c1 := 0#32) ..) (off2_at i t 2 _ rfl) rfl) $$ HM
  iintro ⟨H2, H0, HS⟩
  rw [wp_ret]
  imodintro
  isplitl [H1]; · iexact H1
  isplitl [H3]; · iexact H3
  isplitl [H2]; · iexact H2
  isplitl [H0] <;> iassumption

set_option maxHeartbeats 400000 in
theorem round_wp (u : Unit) : iprop(((Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O)) ∗ ((Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O)) ∗ ((Transfers.MayWaits (V d (Fin.castLE hcore0 (i 0)) (Fin.castLE hsub0 (i 1))) (default : HIx 1) O) ∗ (Transfers.MayWaits (V d (Fin.castLE hcore0 (i 0)) (Fin.castLE hsub0 (i 1))) (default : HIx 1) O)) ∗ Inv i xv ov d O b0 b1 b2 b3 i0 i1 i2 i3 o0 o1 o2 o3 (4 * t.val))
    ⊢ (wp frame (wpE (defs₀ (F := F)) 𝒱₀ (V d (Fin.castLE hcore0 (i 0)) (Fin.castLE hsub0 (i 1))) none) Set.univ) (k0_t1_body i xM hx oM ho b0 hb0 b1 hb1 b2 hb2 b3 hb3 i0 i1 i2 i3 o0 o1 o2 o3 z (iota Kind.scVector S16 32 [0] iota_S16_d0_w32_scVector) (broadcast S16 two) (diag 0) (diag 1) (diag 2) (diag 3) (diag 4) (diag 5) (diag 6) (diag 7)
        (diag 8) (diag 9) (diag 10) (diag 11) (diag 12) (diag 13) (diag 14) (diag 15) (broadcast S16 16#32) t u)
      fun _ => Inv i xv ov d O b0 b1 b2 b3 i0 i1 i2 i3 o0 o1 o2 o3 (4 * (t.val + 1)) := by
  have ht := round_lt t
  unfold k0_t1_body
  simp only [Prog.bind_lift, Prog.pure_eq_ret]
  iintro ⟨⟨M1, M2, M3, M4⟩, ⟨M5, M6⟩, ⟨M7, M8⟩, H⟩
  rw [wp_bind]
  iapply (wp_wand_r frame (wpE (defs₀ (F := F)) 𝒱₀ (V d (Fin.castLE hcore0 (i 0)) (Fin.castLE hsub0 (i 1))) none) Set.univ)
  isplitl [M1 M2 M3 M4 H]
  · iapply (part33_wp i t xv ov d O hx ho b0 hb0 b1 hb1 b2 hb2 b3 hb3 i0 i1 i2 i3 o0 o1 o2 o3 z)
    isplitl [M1]; · iexact M1
    isplitl [M2]; · iexact M2
    isplitl [M3]; · iexact M3
    isplitl [M4] <;> iassumption
  iintro %r H
  rw [wp_bind]
  iapply (wp_wand_r frame (wpE (defs₀ (F := F)) 𝒱₀ (V d (Fin.castLE hcore0 (i 0)) (Fin.castLE hsub0 (i 1))) none) Set.univ)
  isplitl [M5 M6 H]
  · iapply (part34_wp i t xv ov d O hx ho b0 hb0 b1 hb1 b2 hb2 b3 hb3 i0 i1 i2 i3 o0 o1 o2 o3 z r.1 r.2.1 r.2.2.1 r.2.2.2)
    isplitl [M5]; · iexact M5
    isplitl [M6] <;> iassumption
  iintro %r' H
  unfold Inv2
  icases H with ⟨H1, H3, H2, H0, HS⟩
  iapply (head_wp xv ov (w := wid i) (n := 4 * t.val + 3) (by omega) (cond7_iff t) (i := i3.sem) (o := o3.sem) (i' := i1.sem) (o' := o1.sem)) $$ [M7 M8 H1 H3 HS]
  · isplitl [M7]; · iexact M7
    isplitl [M8]; · iexact M8
    isplitl [H3]; · iexact H3
    isplitl [H1] <;> iassumption
  iintro HM
  iapply (tail_wp xv ov (w := wid i) (n := 4 * t.val + 3) (cond8_iff t) (off10_at i t) (fun t' u => Tile.body3_eq (v3 := 0#32) (c0 := 0#32) (c1 := 0#32) (t1 := t) ..) (off2_at i t 3 _ rfl) rfl) $$ HM
  iintro ⟨H3, H1, HS⟩
  rw [wp_ret]
  imodintro
  unfold Inv
  isplitl [H0]; · iexact H0
  isplitl [H1]; · iexact H1
  isplitl [H2]; · iexact H2
  isplitl [H3] <;> iassumption

end Cert.Proof.Run

end
-- ==== Proof.Worker.lean ====
/-
  One worker's run: from its part of the operand and of the result, the result's part comes to hold what the operand's
  rows become.
-/
module

public import proofs.«01_k».proof.Proof.Round

@[expose] public section

noncomputable section

namespace Cert.Proof.Run

open Cert.KernelIdeal Cert.KernelIdeal.Gen
open Idealize.ShloMosaic
open Idealize.ShloMosaic.SparseCore (S V)
open Idealize.ShloMosaic.SparseCore.Cfg (HIx Pay mem_ownCells ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "MV" => Memref sig Kind.scVector Space.vmem S16384 EltTy.f32

/-! ## What a worker is handed -/

/-- A family's members at distinct places, taken out of the whole. -/
theorem bigSep_family {I : Type} [DecidableEq I] {n : ℕ} {S : Finset I} {Φ : I → sProp 𝕄} (f : Fin n → I) (hf : Function.Injective f) (h : ∀ k, f k ∈ S) :
    bigSep S Φ = (iprop((bigSep Finset.univ fun k => Φ (f k)) ∗ bigSep (S \ Finset.univ.image f) Φ) : sProp 𝕄) := by
  rw [SparseCore.bigSep_sdiff_split' (t := Finset.univ.image f) (fun x hx => by obtain ⟨k, -, rfl⟩ := Finset.mem_image.mp hx; exact h k),
    SparseCore.bigSep_image_of_injOn hf.injOn]

theorem bigSep_four (Φ : Fin 4 → sProp 𝕄) : bigSep Finset.univ Φ = (iprop(Φ 0 ∗ Φ 1 ∗ Φ 2 ∗ Φ 3) : sProp 𝕄) := by
  rw [show (Finset.univ : Finset (Fin 4)) = {0, 1, 2, 3} by decide, SparseCore.bigSep_insert' (by decide), SparseCore.bigSep_insert' (by decide),
    SparseCore.bigSep_insert' (by decide), bigSep_singleton]

theorem bigSep_eight (Φ : Fin 8 → sProp 𝕄) : bigSep Finset.univ Φ = (iprop(Φ 0 ∗ Φ 1 ∗ Φ 2 ∗ Φ 3 ∗ Φ 4 ∗ Φ 5 ∗ Φ 6 ∗ Φ 7) : sProp 𝕄) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

def semAt : Fin 8 → DmaSem sig := ![(cc0_scratch4).sem, (cc0_scratch5).sem, (cc0_scratch6).sem, (cc0_scratch7).sem,
  (cc0_scratch8).sem, (cc0_scratch9).sem, (cc0_scratch10).sem, (cc0_scratch11).sem]

theorem semAt_inj : Function.Injective semAt := by decide

def bufAt : Fin 4 → Ref sig .scVector := ![cc0_scratch0, cc0_scratch1, cc0_scratch2, cc0_scratch3]

theorem bufAt_inj : Function.Injective bufAt := by decide

variable (d : Dev nD) (c : Fin τ.nSC) (s : Fin τ.nSub)

theorem sems_split : ∃ R : sProp 𝕄, (ownSems0 (V d c s) : sProp 𝕄)
    = iprop((sv d c s (cc0_scratch4).sem ∗ sv d c s (cc0_scratch5).sem ∗ sv d c s (cc0_scratch6).sem ∗ sv d c s (cc0_scratch7).sem
        ∗ sv d c s (cc0_scratch8).sem ∗ sv d c s (cc0_scratch9).sem ∗ sv d c s (cc0_scratch10).sem ∗ sv d c s (cc0_scratch11).sem) ∗ R) := by
  refine ⟨bigSep (ownCells (V d c s) \ Finset.univ.image fun k : Fin 8 => ((V d c s, SemLoc.dma (semAt k)) : GSem nD τ sig)) fun g => semVal g 0, ?_⟩
  unfold SparseCore.Cfg.ownSems0
  refine (bigSep_family (F := F) (fun k : Fin 8 => ((V d c s, SemLoc.dma (semAt k)) : GSem nD τ sig))
    (fun a b e => semAt_inj (by simpa using e)) (fun k => mem_ownCells.mpr ⟨rfl, ?_⟩)).trans ?_
  · show (SemLoc.dma (semAt k) : SemLoc sig).isScoped .scVector = true
    revert k; decide
  · rw [bigSep_eight]; rfl

theorem any_eq {b : MV} (hb : b.view.set = Finset.univ) :
    (any d c s b : sProp 𝕄) = iprop(∃ f : Buf (Elt F) (b.view.loc (V d c s)), b.view.loc (V d c s) ↦{fullShare} f) := by
  refine BI.Entails.antisymm ?_ ?_
  · unfold any has
    rw [hb]
    show (_ : sProp 𝕄) ⊢ _
    iintro ⟨%f, %g, Hg, -⟩
    iexists g; iexact Hg
  · unfold any has
    rw [hb]
    show (_ : sProp 𝕄) ⊢ _
    iintro ⟨%g, Hg⟩
    iexists (b.view.read (Elt F) g), g
    isplitl [Hg]; · iexact Hg
    ipureintro; rfl

abbrev B0 : MV := Memref.whole cc0_scratch0
abbrev B1 : MV := Memref.whole cc0_scratch1
abbrev B2 : MV := Memref.whole cc0_scratch2
abbrev B3 : MV := Memref.whole cc0_scratch3

theorem bufs_split : ∃ R : sProp 𝕄, (ownBufs (V d c s) : sProp 𝕄)
    = iprop((any d c s B0 ∗ any d c s B1 ∗ any d c s B2 ∗ any d c s B3) ∗ R) := by
  refine ⟨bigSep (ownRefs (τ := τ) (.scVector c s) \ Finset.univ.image fun k : Fin 4 => (Proc.scVector c s).devRef (bufAt k)) fun b => iprop(∃ f, ((d, b) : Loc nD τ sig) ↦{fullShare} f), ?_⟩
  rw [any_eq d c s (b := B0) (View.set_whole _), any_eq d c s (b := B1) (View.set_whole _), any_eq d c s (b := B2) (View.set_whole _),
    any_eq d c s (b := B3) (View.set_whole _)]
  unfold SparseCore.Cfg.ownBufs
  refine (bigSep_family (F := F) (fun k : Fin 4 => (Proc.scVector c s).devRef (bufAt k))
    (fun a b e => bufAt_inj (Proc.devRef_injective _ e)) (fun k => SparseCore.Cfg.mem_ownRefs_of_owner ?_)).trans ?_
  · revert k; exact fun | 0 => rfl | 1 => rfl | 2 => rfl | 3 => rfl
  · rw [bigSep_four]; rfl

/-- The part of the arrays that worker `w` works on. -/
def regSet (w : ℕ) : Finset S33554432.Idx := Finset.univ.filter fun j => (j 0).val / 1048576 = w

theorem regSet_eq (w : ℕ) : regSet w = (Finset.range 64).biUnion fun k => ckSet (64 * w + k) := by
  ext j
  rw [Finset.mem_biUnion, regSet, Finset.mem_filter]
  constructor
  · rintro ⟨-, h⟩
    exact ⟨(j 0).val / 16384 % 64, Finset.mem_range.mpr (Nat.mod_lt _ (by decide)), Finset.mem_filter.mpr ⟨Finset.mem_univ _, by omega⟩⟩
  · rintro ⟨k, hk, h⟩
    have := Finset.mem_range.mp hk
    have := (Finset.mem_filter.mp h).2
    exact ⟨Finset.mem_univ _, by omega⟩

theorem ck_disjoint (w : ℕ) : ∀ k ∈ Finset.range 64, ∀ k' ∈ Finset.range 64, k ≠ k' → Disjoint (ckSet (64 * w + k)) (ckSet (64 * w + k')) :=
  fun k _ k' _ h => Finset.disjoint_left.mpr fun j hj hj' => by
    have := (Finset.mem_filter.mp hj).2
    have := (Finset.mem_filter.mp hj').2
    omega

variable (xv ov : S33554432.Idx → Elt F .f32) (w : ℕ)

def xR : sProp 𝕄 := xLoc d ↦[regSet w]{fullShare} xv
def oR : sProp 𝕄 := oLoc d ↦[regSet w]{fullShare} ov

theorem xR_eq : (xR d xv w : sProp 𝕄) = bigSep (Finset.range 64) fun k => xP xv d w k := by
  unfold xR
  rw [regSet_eq]
  exact pointsTo_biUnion (ℓ := xLoc d) _ _ (ck_disjoint w)

theorem oR_eq : (oR d ov w : sProp 𝕄) = bigSep (Finset.range 64) fun k => oP ov d w k := by
  unfold oR
  rw [regSet_eq]
  exact pointsTo_biUnion (ℓ := oLoc d) _ _ (ck_disjoint w)

variable [FloatOps F]

theorem x_start : xR d xv w ⊢ (iprop(xs xv d w 0 ∗ xP xv d w 0 ∗ xP xv d w 1) : sProp 𝕄) := by
  rw [xR_eq]
  unfold xs
  have h1 := bigSep_take (F := F) (S := Finset.range 64) (Φ := fun k => xP xv d w k) (Ψ := fun k => if k = 0 then iprop(emp) else xP xv d w k) (i := 0)
    (by decide) (fun k hk => (if_neg hk).symm) (if_pos rfl)
  have h2 := bigSep_take (F := F) (S := Finset.range 64) (Φ := fun k => if k = 0 then iprop(emp) else xP xv d w k)
    (Ψ := fun k => if k = 0 ∨ k = 0 + 1 then iprop(emp) else xP xv d w k) (i := 1) (by decide)
    (fun k hk => by simp [hk]) (if_pos (.inr rfl))
  rw [if_neg (by decide : ¬ (1 : ℕ) = 0)] at h2
  iintro H
  ihave H := h1 $$ H
  icases H with ⟨H0, H⟩
  ihave H := h2 $$ H
  icases H with ⟨H1, H⟩
  isplitl [H]; · iexact H
  isplitl [H0] <;> iassumption

theorem o_start : oR d ov w ⊢ (os xv ov d w 0 : sProp 𝕄) := by
  rw [oR_eq]
  unfold os
  exact Entails.of_eq (bigSep_congr fun k _ => ((if_neg (by omega)).trans (if_neg (by omega))).symm)

theorem x_end : (xs xv d w 64 : sProp 𝕄) ⊢ xR d xv w := by
  rw [xR_eq]
  unfold xs
  exact Entails.of_eq (bigSep_congr fun k hk => if_neg (by have := Finset.mem_range.mp hk; omega))

theorem o_end : iprop(os xv ov d w 64 ∗ oK xv d w 62 ∗ oK xv d w 63) ⊢ (oR d (kOut xv) w : sProp 𝕄) := by
  rw [oR_eq]
  unfold os
  have h1 := bigSep_swap (F := F) (S := Finset.range 64) (Φ := fun k => if k + 2 < 64 then oK xv d w k else if k < 64 then iprop(emp) else oP ov d w k)
    (Ψ := fun k => if k + 2 < 65 then oK xv d w k else if k < 64 then iprop(emp) else oP ov d w k) (i := 62) (by decide)
    (fun k hk => by have : k + 2 < 64 ↔ k + 2 < 65 := by omega
                    simp only [this])
  have h2 := bigSep_swap (F := F) (S := Finset.range 64) (Φ := fun k => if k + 2 < 65 then oK xv d w k else if k < 64 then iprop(emp) else oP ov d w k)
    (Ψ := fun k => if k + 2 < 66 then oK xv d w k else if k < 64 then iprop(emp) else oP ov d w k) (i := 63) (by decide)
    (fun k hk => by have : k + 2 < 65 ↔ k + 2 < 66 := by omega
                    simp only [this])
  rw [if_pos (by decide : 62 + 2 < 65)] at h1
  rw [if_pos (by decide : 63 + 2 < 66)] at h2
  rw [show (bigSep (Finset.range 64) fun k => oP (kOut xv) d w k : sProp 𝕄)
      = bigSep (Finset.range 64) fun k => if k + 2 < 66 then oK xv d w k else if k < 64 then iprop(emp) else oP ov d w k from
    bigSep_congr fun k hk => (if_pos (by have := Finset.mem_range.mp hk; omega)).symm]
  iintro ⟨H, H2, H3⟩
  ihave H := h1 $$ H
  icases H with ⟨-, H⟩
  ihave H := H $$ H2
  ihave H := h2 $$ H
  icases H with ⟨-, H⟩
  iapply H; iexact H3

/-! ## The run -/

variable (L : grid0.Coords) (O : CellTallies nD τ sig (HIx 1))

omit [FloatOps F] in
theorem off1_zero : k0_off1 L 0#32 0 = 16384 * (64 * wid L + 0) := by
  have h : ∀ (a : Fin 2) (b : Fin 16), (Scalar.addi (Scalar.muli (Scalar.muli (Scalar.addi (Scalar.muli (BitVec.ofNat 32 b.val) 2#32) (BitVec.ofNat 32 a.val)) 8192#32) 128#32) 0#32).toNat
      = 16384 * (64 * (2 * b.val + a.val) + 0) := by decide
  exact h (L 0) (L 1)

omit [FloatOps F] in
theorem off1_one : k0_off1 L 16384#32 0 = 16384 * (64 * wid L + 1) := by
  have h : ∀ (a : Fin 2) (b : Fin 16), (Scalar.addi (Scalar.muli (Scalar.muli (Scalar.addi (Scalar.muli (BitVec.ofNat 32 b.val) 2#32) (BitVec.ofNat 32 a.val)) 8192#32) 128#32) 16384#32).toNat
      = 16384 * (64 * (2 * b.val + a.val) + 1) := by decide
  exact h (L 0) (L 1)

variable (hx : xM.IsWhole) (ho : oM.IsWhole) (b0 : MV) (hb0 : b0.IsWhole) (b1 : MV) (hb1 : b1.IsWhole) (b2 : MV) (hb2 : b2.IsWhole) (b3 : MV) (hb3 : b3.IsWhole)
variable (i0 i1 i2 i3 o0 o1 o2 o3 : DmaSems sig S_)

/-- The four buffers, all idle. -/
def Idle : sProp 𝕄 := iprop(idle d (Fin.castLE hcore0 (L 0)) (Fin.castLE hsub0 (L 1)) b0 i0.sem o0.sem ∗ idle d (Fin.castLE hcore0 (L 0)) (Fin.castLE hsub0 (L 1)) b1 i1.sem o1.sem ∗ idle d (Fin.castLE hcore0 (L 0)) (Fin.castLE hsub0 (L 1)) b2 i2.sem o2.sem ∗ idle d (Fin.castLE hcore0 (L 0)) (Fin.castLE hsub0 (L 1)) b3 i3.sem o3.sem)

omit [FloatOps F] in
theorem ncO {off : Fin 1 → ℕ} {inb : ∀ a, off a + S16384.size a ≤ S33554432.size a} :
    (oM.slice (Rect.unit (s := S33554432) off S16384.size inb) (fun _ => rfl)).view.dmaCredit = NC := rfl

set_option maxHeartbeats 400000 in
theorem kernel_wp : iprop((Transfers.MayWaits (V d (Fin.castLE hcore0 (L 0)) (Fin.castLE hsub0 (L 1))) (default : HIx 1) O) ∗ xR d xv (wid L) ∗ oR d ov (wid L) ∗ Idle d L b0 b1 b2 b3 i0 i1 i2 i3 o0 o1 o2 o3 ∗ owing d (Fin.castLE hcore0 (L 0)) (Fin.castLE hsub0 (L 1)) O)
    ⊢ (wp frame (wpE (defs₀ (F := F)) 𝒱₀ (V d (Fin.castLE hcore0 (L 0)) (Fin.castLE hsub0 (L 1))) none) Set.univ) (cc0_k L xM hx oM ho b0 hb0 b1 hb1 b2 hb2 b3 hb3 i0 i1 i2 i3 o0 o1 o2 o3)
      fun _ => iprop(xR d xv (wid L) ∗ oR d (kOut xv) (wid L) ∗ Idle d L b0 b1 b2 b3 i0 i1 i2 i3 o0 o1 o2 o3 ∗ owing d (Fin.castLE hcore0 (L 0)) (Fin.castLE hsub0 (L 1)) O) := by
  rw [cc0_k_eq_skeleton]
  unfold cc0_k_skel Idle
  rw [k0_part35_eq_skeleton, k0_part36_eq_skeleton]
  unfold k0_part35_skel k0_part36_skel
  simp only [Prog.bind_lift, Prog.bind_op, Prog.bind_ret, Prog.pure_eq_ret]
  iintro ⟨#Hm, Hx, Ho, ⟨H0, H1, H2, H3⟩, HO⟩
  ihave Hx := (x_start d xv (wid L)) $$ Hx
  icases Hx with ⟨Hx, Hx0, Hx1⟩
  ihave Ho := (o_start d xv ov (wid L)) $$ Ho
  iapply (start_in xv (w := wid L) (n := 0) (by decide) (off1_zero L) (o := o0.sem)) $$ [H0 Hx0]
  · isplitl [H0] <;> iassumption
  iintro H0
  iapply (start_in xv (w := wid L) (n := 1) (by decide) (off1_one L) (o := o1.sem)) $$ [H1 Hx1]
  · isplitl [H1] <;> iassumption
  iintro H1
  iapply (Scf.wp_for_bind frame (wpE (defs₀ (F := F)) 𝒱₀ (V d (Fin.castLE hcore0 (L 0)) (Fin.castLE hsub0 (L 1))) none) Set.univ k0_t1_loop.lb k0_t1_loop.ub k0_t1_loop.st k0_t1_ok ⟨⟩
    (k0_t1_body L xM hx oM ho b0 hb0 b1 hb1 b2 hb2 b3 hb3 i0 i1 i2 i3 o0 o1 o2 o3 _ (iota Kind.scVector S16 32 [0] iota_S16_d0_w32_scVector) (broadcast S16 two) (diag 0) (diag 1) (diag 2) (diag 3) (diag 4) (diag 5) (diag 6) (diag 7)
      (diag 8) (diag 9) (diag 10) (diag 11) (diag 12) (diag 13) (diag 14) (diag 15) (broadcast S16 16#32))
    (fun n _ => iprop((Transfers.MayWaits (V d (Fin.castLE hcore0 (L 0)) (Fin.castLE hsub0 (L 1))) (default : HIx 1) O) ∗ Inv L xv ov d O b0 b1 b2 b3 i0 i1 i2 i3 o0 o1 o2 o3 (4 * n))) (fun t u => ?_)) $$ [H0 H1 H2 H3 Hx Ho HO]
  · iintro ⟨#Hm, H⟩
    iapply (wp_wand_r frame (wpE (defs₀ (F := F)) 𝒱₀ (V d (Fin.castLE hcore0 (L 0)) (Fin.castLE hsub0 (L 1))) none) Set.univ)
    isplitl [H]
    · iapply (round_wp L t xv ov d O hx ho b0 hb0 b1 hb1 b2 hb2 b3 hb3 i0 i1 i2 i3 o0 o1 o2 o3 _ u)
      isplitr
      · isplitr; · iexact Hm
        isplitr; · iexact Hm
        isplitr <;> iexact Hm
      isplitr
      · isplitr <;> iexact Hm
      isplitr
      · isplitr <;> iexact Hm
      iexact H
    iintro %_ H
    isplitr; · iexact Hm
    iexact H
  · isplitr; · iexact Hm
    unfold Inv St outS
    rw [if_neg (by decide : ¬ 2 ≤ 4 * 0), if_neg (by decide : ¬ 2 ≤ 4 * 0 + 1)]
    isplitl [H0]; · iexact H0
    isplitl [H1]; · iexact H1
    isplitl [H2]; · iexact H2
    isplitl [H3]; · iexact H3
    isplitl [Hx]; · iexact Hx
    isplitl [Ho] <;> iassumption
  iintro %_ ⟨-, H⟩
  rw [show 4 * Scf.trips k0_t1_loop.lb k0_t1_loop.ub k0_t1_loop.st = 64 by decide]
  unfold Inv St inS outS
  rw [if_neg (by decide : ¬ 64 < 64), if_neg (by decide : ¬ 64 + 1 < 64), if_pos (by decide : 2 ≤ 64), if_pos (by decide : 2 ≤ 64 + 1)]
  icases H with ⟨H0, H1, ⟨H2, Hi2⟩, ⟨H3, Hi3⟩, Hx, Ho, HO⟩
  iapply (wait_wp ncO iprop(oK xv d (wid L) (64 - 2) ∗ any d (Fin.castLE hcore0 (L 0)) (Fin.castLE hsub0 (L 1)) b2)) $$ [H2 HO]
  · isplitr; · iexact Hm
    isplitl [H2] <;> iassumption
  iintro ⟨⟨Ho2, Hb2⟩, Hs2, HO⟩
  iapply (wait_wp ncO iprop(oK xv d (wid L) (64 + 1 - 2) ∗ any d (Fin.castLE hcore0 (L 0)) (Fin.castLE hsub0 (L 1)) b3)) $$ [H3 HO]
  · isplitr; · iexact Hm
    isplitl [H3] <;> iassumption
  iintro ⟨⟨Ho3, Hb3⟩, Hs3, HO⟩
  rw [wp_ret]
  imodintro
  isplitl [Hx]; · iapply (x_end d xv (wid L)) $$ Hx
  isplitl [Ho Ho2 Ho3]
  · iapply (o_end d xv ov (wid L))
    isplitl [Ho]; · iexact Ho
    isplitl [Ho2] <;> iassumption
  isplitr [HO]
  · isplitl [H0]; · iexact H0
    isplitl [H1]; · iexact H1
    unfold idle
    isplitl [Hb2 Hi2 Hs2]
    · isplitl [Hb2]; · iexact Hb2
      isplitl [Hi2] <;> iassumption
    isplitl [Hb3]; · iexact Hb3
    isplitl [Hi3] <;> iassumption
  iexact HO

end Cert.Proof.Run

end
-- ==== Proof.Launch.lean ====
/-
  The launch: the 32 workers share the arrays out between them, and @main reshapes before and after the call.
-/
module

public import proofs.«01_k».proof.Proof.Worker

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The argument and the result of @main. -/
abbrev aLoc (d : Dev nD) : Loc nD τ sig := (SparseCore.T d).loc main_arg0
abbrev rLoc (d : Dev nD) : Loc nD τ sig := (SparseCore.T d).loc main_v2

/-- The argument's words in order, which the call takes. -/
def XV (d : Dev nD) : S33554432.Idx → Elt F .f32 :=
  shapeCast S33554432 (m (aLoc d) : S32x8192x128.Idx → Elt F .f32) shapeCasts_S32x8192x128_S33554432

/-- The result's words at the launch. -/
def OV (d : Dev nD) : S33554432.Idx → Elt F .f32 := m (oLoc d)

/-- The arrays of @main as the operations hold them. -/
abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev S4 : Finset (DevRef τ sig) := {a', x', o', r'}

abbrev opIn : HloOp τ sig (Elt F) := StableHlo.reshape main_arg0 main_v0 (rfl : (.f32 : EltTy) = .f32) shapeCasts_S32x8192x128_S33554432
abbrev opOut : HloOp τ sig (Elt F) := StableHlo.reshape main_v1 main_v2 (rfl : (.f32 : EltTy) = .f32) shapeCasts_S33554432_S32x8192x128

/-! ## The arrays and the workers' parts -/

/-- The worker on subcore `i` of SparseCore `c`. -/
abbrev wk (c : Fin 2) (i : Fin 16) : ℕ := 2 * i.val + c.val

theorem reg_disjoint : ∀ p ∈ (Finset.univ : Finset (Fin 2 × Fin 16)), ∀ p' ∈ (Finset.univ : Finset (Fin 2 × Fin 16)), p ≠ p' →
    Disjoint (regSet (wk p.1 p.2)) (regSet (wk p'.1 p'.2)) :=
  fun p _ p' _ h => Finset.disjoint_left.mpr fun j hj hj' => h (by
    have h1 : (j 0).val / 1048576 = 2 * p.2.val + p.1.val := (Finset.mem_filter.mp hj).2
    have h2 : (j 0).val / 1048576 = 2 * p'.2.val + p'.1.val := (Finset.mem_filter.mp hj').2
    have := p.1.isLt; have := p'.1.isLt
    exact Prod.ext (Fin.ext (by omega)) (Fin.ext (by omega)))

theorem reg_cover : (Finset.univ : Finset (Fin 2 × Fin 16)).biUnion (fun p => regSet (wk p.1 p.2)) = Finset.univ := by
  refine Finset.eq_univ_of_forall fun j => Finset.mem_biUnion.mpr ?_
  have hj : (j 0).val < 33554432 := (j 0).isLt
  refine ⟨(⟨(j 0).val / 1048576 % 2, by omega⟩, ⟨(j 0).val / 1048576 / 2, by omega⟩), Finset.mem_univ _, Finset.mem_filter.mpr ⟨Finset.mem_univ _, ?_⟩⟩
  show (j 0).val / 1048576 = 2 * ((j 0).val / 1048576 / 2) + (j 0).val / 1048576 % 2
  omega

theorem xs_parts (d : Dev nD) (f : S33554432.Idx → Elt F .f32) :
    (xLoc d ↦{fullShare} f : sProp 𝕄) = bigSep Finset.univ fun c : Fin 2 => bigSep Finset.univ fun i : Fin 16 => xR d f (wk c i) := by
  rw [← BI.bigSep_univ_prod (fun p : Fin 2 × Fin 16 => xR d f (wk p.1 p.2))]
  unfold xR
  rw [← pointsTo_biUnion (ℓ := xLoc d) Finset.univ (fun p : Fin 2 × Fin 16 => regSet (wk p.1 p.2)) reg_disjoint, reg_cover]

theorem os_parts (d : Dev nD) (f : S33554432.Idx → Elt F .f32) :
    (oLoc d ↦{fullShare} f : sProp 𝕄) = bigSep Finset.univ fun c : Fin 2 => bigSep Finset.univ fun i : Fin 16 => oR d f (wk c i) := by
  rw [← BI.bigSep_univ_prod (fun p : Fin 2 × Fin 16 => oR d f (wk p.1 p.2))]
  unfold oR
  rw [← pointsTo_biUnion (ℓ := oLoc d) Finset.univ (fun p : Fin 2 × Fin 16 => regSet (wk p.1 p.2)) reg_disjoint, reg_cover]

/-- What SparseCore `c`'s workers hold together: their parts of the operand at `f` and of the result at `g`. -/
def coreR (d : Dev nD) (f g : S33554432.Idx → Elt F .f32) (c : Fin 2) : sProp 𝕄 :=
  bigSep Finset.univ fun i : Fin 16 => iprop(xR d f (wk c i) ∗ oR d g (wk c i))

theorem cores_eq (d : Dev nD) (f g : S33554432.Idx → Elt F .f32) :
    (bigSep Finset.univ fun c : Fin 2 => coreR d f g c) = (iprop((xLoc d ↦{fullShare} f) ∗ oLoc d ↦{fullShare} g) : sProp 𝕄) := by
  unfold coreR
  rw [xs_parts, os_parts, ← bigSep_sep']
  exact bigSep_congr fun c _ => bigSep_sep' _ _ _

variable [FloatOps F]

/-! ## What the launch hands out -/

def P : (K (F := F)).Pay (nD := nD) (Val := Elt F) (Name := ℕ) (U := UU) where
  st := fun q d c => match q with | 0 => coreR d (XV m d) (OV m d) c
  dn := fun q d c => match q with | 0 => coreR d (XV m d) (kOut (XV m d)) c
  go := fun q d c i => match q with | 0 => iprop(xR d (XV m d) (wk c i) ∗ oR d (OV m d) (wk c i))
  td := fun q d c i => match q with | 0 => iprop(xR d (XV m d) (wk c i) ∗ oR d (kOut (XV m d)) (wk c i))
  x := fun _ _ => iprop(emp)

instance part_storable (d : Dev nD) (f g : S33554432.Idx → Elt F .f32) (w : ℕ) :
    BI.Storable (upEmb : UEmb _ 𝕄) iprop(xR d f w ∗ oR d g w) := by
  unfold xR oR; infer_instance

instance core_storable (d : Dev nD) (f g : S33554432.Idx → Elt F .f32) (c : Fin 2) :
    BI.Storable (upEmb : UEmb _ 𝕄) (coreR d f g c) := by
  unfold coreR; infer_instance

instance P_storable : (P (F := F) m).IsStorable where
  st q d c := match q with | 0 => core_storable d (XV m d) (OV m d) c
  dn q d c := match q with | 0 => core_storable d (XV m d) (kOut (XV m d)) c
  go q d c i := match q with | 0 => part_storable d (XV m d) (OV m d) (wk c i)
  td q d c i := match q with | 0 => part_storable d (XV m d) (kOut (XV m d)) (wk c i)

/-! ## A task -/

section Tile

variable (d : Dev nD) (L : grid0.Coords)

theorem tile_body (O : CellTallies nD τ sig (HIx 1)) (W : Waits sig (HIx 1)) (hO : ∀ g, O g none = 0) :
    iprop(levAts (K (F := F)).L (K (F := F)).lev ∗ emp
        ∗ (xR d (XV m d) (wid L) ∗ oR d (OV m d) (wid L)) ∗ scopedBufs (V d (Fin.castLE hcore0 (L 0)) (Fin.castLE hsub0 (L 1))) ∗ scopedSems0 (V d (Fin.castLE hcore0 (L 0)) (Fin.castLE hsub0 (L 1))) ∗ owes (V d (Fin.castLE hcore0 (L 0)) (Fin.castLE hsub0 (L 1))) O W)
      ⊢ wp frame (wpE (defs₀ (F := F)) 𝒱₀ (V d (Fin.castLE hcore0 (L 0)) (Fin.castLE hsub0 (L 1))) none) Set.univ
          (cc0_k L xM (Memref.isWhole_whole _) oM (Memref.isWhole_whole _) B0 (Memref.isWhole_whole _) B1 (Memref.isWhole_whole _)
            B2 (Memref.isWhole_whole _) B3 (Memref.isWhole_whole _) cc0_scratch4 cc0_scratch5 cc0_scratch6 cc0_scratch7
            cc0_scratch8 cc0_scratch9 cc0_scratch10 cc0_scratch11)
          fun _ => iprop((xR d (XV m d) (wid L) ∗ oR d (kOut (XV m d)) (wid L)) ∗ scopedBufs (V d (Fin.castLE hcore0 (L 0)) (Fin.castLE hsub0 (L 1))) ∗ scopedSems0 (V d (Fin.castLE hcore0 (L 0)) (Fin.castLE hsub0 (L 1)))
            ∗ ∃ W', ⌜∀ p ∈ W', p ∈ W ∨ p.2 = none ∨ p.2 = some (0 : Fin 1)⌝ ∗ owes (V d (Fin.castLE hcore0 (L 0)) (Fin.castLE hsub0 (L 1))) O W') := by
  obtain ⟨R, hR⟩ := bufs_split (F := F) d (Fin.castLE hcore0 (L 0)) (Fin.castLE hsub0 (L 1))
  obtain ⟨R', hR'⟩ := sems_split (F := F) d (Fin.castLE hcore0 (L 0)) (Fin.castLE hsub0 (L 1))
  rw [(K (F := F)).scopedBufs_V facts d (Fin.castLE hcore0 (L 0)) (Fin.castLE hsub0 (L 1)),
    SparseCore.Cfg.scopedSems0_V (Val := Elt F) d (Fin.castLE hcore0 (L 0)) (Fin.castLE hsub0 (L 1)), hR, hR']
  iintro ⟨#Hlv, -, ⟨Hx, Ho⟩, ⟨⟨Hb0, Hb1, Hb2, Hb3⟩, HR⟩, ⟨⟨Hi0, Hi1, Hi2, Hi3, Ho0, Ho1, Ho2, Ho3⟩, HR'⟩, HO⟩
  ihave Hmw := (show levAts (K (F := F)).L (K (F := F)).lev ⊢ Transfers.MayWaits (V d (Fin.castLE hcore0 (L 0)) (Fin.castLE hsub0 (L 1))) (default : HIx 1) O from
    (K (F := F)).mayWaits_none (thr := (V d (Fin.castLE hcore0 (L 0)) (Fin.castLE hsub0 (L 1)))) hO) $$ Hlv
  iapply (wp_wand_r Idealize.ShloMosaic.frame (wpE (defs₀ (F := F)) 𝒱₀ (V d (Fin.castLE hcore0 (L 0)) (Fin.castLE hsub0 (L 1))) none) Set.univ)
  isplitl [Hx Ho Hb0 Hb1 Hb2 Hb3 Hi0 Hi1 Hi2 Hi3 Ho0 Ho1 Ho2 Ho3 HO]
  · iapply (kernel_wp d (XV m d) (OV m d) L O (Memref.isWhole_whole _) (Memref.isWhole_whole _) B0 (Memref.isWhole_whole _) B1 (Memref.isWhole_whole _)
      B2 (Memref.isWhole_whole _) B3 (Memref.isWhole_whole _) cc0_scratch4 cc0_scratch5 cc0_scratch6 cc0_scratch7
      cc0_scratch8 cc0_scratch9 cc0_scratch10 cc0_scratch11)
    isplitr; · iexact Hmw
    isplitl [Hx]; · iexact Hx
    isplitl [Ho]; · iexact Ho
    isplitr [HO]
    · unfold Idle idle
      isplitl [Hb0 Hi0 Ho0]
      · isplitl [Hb0]; · iexact Hb0
        isplitl [Hi0] <;> iassumption
      isplitl [Hb1 Hi1 Ho1]
      · isplitl [Hb1]; · iexact Hb1
        isplitl [Hi1] <;> iassumption
      isplitl [Hb2 Hi2 Ho2]
      · isplitl [Hb2]; · iexact Hb2
        isplitl [Hi2] <;> iassumption
      isplitl [Hb3]; · iexact Hb3
      isplitl [Hi3] <;> iassumption
    unfold owing
    iexists W; iexact HO
  unfold Idle idle owing
  iintro %_ ⟨Hx, Ho, ⟨⟨Hb0, Hi0, Ho0⟩, ⟨Hb1, Hi1, Ho1⟩, ⟨Hb2, Hi2, Ho2⟩, Hb3, Hi3, Ho3⟩, %W', HO⟩
  isplitl [Hx Ho]
  · isplitl [Hx] <;> iassumption
  isplitl [Hb0 Hb1 Hb2 Hb3 HR]
  · isplitr [HR]
    · isplitl [Hb0]; · iexact Hb0
      isplitl [Hb1]; · iexact Hb1
      isplitl [Hb2] <;> iassumption
    iexact HR
  isplitl [Hi0 Hi1 Hi2 Hi3 Ho0 Ho1 Ho2 Ho3 HR']
  · isplitr [HR']
    · isplitl [Hi0]; · iexact Hi0
      isplitl [Hi1]; · iexact Hi1
      isplitl [Hi2]; · iexact Hi2
      isplitl [Hi3]; · iexact Hi3
      isplitl [Ho0]; · iexact Ho0
      isplitl [Ho1]; · iexact Ho1
      isplitl [Ho2] <;> iassumption
    iexact HR'
  iexists W'; isplitr
  · ipureintro; intro p _
    rcases p.2 with _ | q
    · exact .inr (.inl rfl)
    · exact .inr (.inr (congrArg some (Subsingleton.elim q 0)))
  · iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xM (Memref.isWhole_whole _) oM (Memref.isWhole_whole _) B0 (Memref.isWhole_whole _) B1 (Memref.isWhole_whole _)
            B2 (Memref.isWhole_whole _) B3 (Memref.isWhole_whole _) cc0_scratch4 cc0_scratch5 cc0_scratch6 cc0_scratch7
            cc0_scratch8 cc0_scratch9 cc0_scratch10 cc0_scratch11) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

theorem vecSplit : (K (F := F)).VecSplit' (P m) 0 := by
  intro d c
  show coreR d (XV m d) (OV m d) c ⊢ |={Set.univ}=> iprop(
      (bigSep Finset.univ fun i : Fin 16 => iprop(xR d (XV m d) (wk c i) ∗ oR d (OV m d) (wk c i)))
      ∗ ((bigSep Finset.univ fun i : Fin 16 => iprop(xR d (XV m d) (wk c i) ∗ oR d (kOut (XV m d)) (wk c i)))
          -∗ coreR d (XV m d) (kOut (XV m d)) c))
  unfold coreR
  show (_ : sProp 𝕄) ⊢ _
  iintro H; imodintro
  isplitl [H]; · iexact H
  iintro H; iexact H

/-! ## @main -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

omit [FloatOps F] in
theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch, and after the call. -/
def V0 (d : Dev nD) : Valuation τ sig (Elt F) := fun b => m (d, b)
def V2 (d : Dev nD) : Valuation τ sig (Elt F) := Function.update ((opIn (F := F)).result (V0 m d)) o' (kOut (XV m d))

/-- The result. -/
def RV (d : Dev nD) : S32x8192x128.Idx → Elt F .f32 := shapeCast S32x8192x128 (kOut (XV m d)) shapeCasts_S33554432_S32x8192x128

omit [FloatOps F] in
theorem unscoped_held (d : Dev nD) : (unscopedBufs d (fun b => m ((SparseCore.T d).loc b)) : sProp 𝕄) = held (T d) S4 (V0 m d) := by
  rw [unscopedBufs_eq, held_S4]; rfl

theorem in_a (d : Dev nD) : (opIn (F := F)).result (V0 m d) a' = m (aLoc d) :=
  (opIn (F := F)).result_of_not_mem _ (show a' ∉ ({x'} : Finset (DevRef τ sig)) by decide)
theorem in_o (d : Dev nD) : (opIn (F := F)).result (V0 m d) o' = OV m d :=
  (opIn (F := F)).result_of_not_mem _ (show o' ∉ ({x'} : Finset (DevRef τ sig)) by decide)
theorem in_x (d : Dev nD) : (opIn (F := F)).result (V0 m d) x' = XV m d := (StableHlo.reshape_result _ _ _ _ _ _ _).trans rfl

theorem V2_a (d : Dev nD) : V2 m d a' = m (aLoc d) := (Function.update_of_ne (show a' ≠ o' by decide) _ _).trans (in_a m d)
theorem V2_x (d : Dev nD) : V2 m d x' = XV m d := (Function.update_of_ne (show x' ≠ o' by decide) _ _).trans (in_x m d)
theorem V2_o (d : Dev nD) : V2 m d o' = kOut (XV m d) := Function.update_self _ _ _
theorem V2_r (d : Dev nD) : V2 m d r' = (opIn (F := F)).result (V0 m d) r' := Function.update_of_ne (show r' ≠ o' by decide) _ _

theorem out_a (d : Dev nD) : (opOut (F := F)).result (V2 m d) a' = m (aLoc d) :=
  ((opOut (F := F)).result_of_not_mem _ (show a' ∉ ({r'} : Finset (DevRef τ sig)) by decide)).trans (V2_a m d)
theorem out_r (d : Dev nD) : (opOut (F := F)).result (V2 m d) r' = RV m d :=
  (StableHlo.reshape_result _ _ _ _ _ _ _).trans (by rw [V2_o]; rfl)

theorem st0_eq (d : Dev nD) : (bigSep Finset.univ fun c : Fin ((K (F := F)).nCore 0) => (P m).st 0 d c)
    = iprop((xLoc d ↦{fullShare} XV m d) ∗ oLoc d ↦{fullShare} OV m d) := cores_eq d (XV m d) (OV m d)
theorem dn0_eq (d : Dev nD) : (bigSep Finset.univ fun c : Fin ((K (F := F)).nCore 0) => (P m).dn 0 d c)
    = iprop((xLoc d ↦{fullShare} XV m d) ∗ oLoc d ↦{fullShare} kOut (XV m d)) := cores_eq d (XV m d) (kOut (XV m d))

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

/-- What @main ends with. -/
abbrev FIN (d : Dev nD) : sProp 𝕄 := iprop((aLoc d ↦{fullShare} m (aLoc d)) ∗ rLoc d ↦{fullShare} RV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_S4 (F := F) d _)) $$ Hheld
  rw [in_a, in_x, in_o]
  icases Hh with ⟨Ha, Hx, Ho, Hr⟩
  iapply ((K (F := F)).wp_run (D (F := F)) 𝒱 (EH := EH) (P := P m) κ d 0) $$ [Hst Ha Hx Ho Hb Hr Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho] <;> iassumption
  iintro ⟨Hb, Hheld⟩
  ihave Hh := (Entails.of_eq (held_S4 (F := F) d _)) $$ Hheld
  rw [out_a, out_r]
  icases Hh with ⟨Ha, -, -, Hr⟩
  rw [wp_ret]; imodintro; imodintro
  isplitl [Hst]; · iexact Hst
  isplitr [Hb Hts]
  · isplitl [Ha] <;> iassumption
  isplitl [Hb] <;> iassumption

def fq (d : Dev nD) (s' : Phys nD τ sig (Elt F)) : Prop := s'.mem.mem (rLoc d) = RV m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := RV m d)) $$ [HSI Hr]
  · isplitl [HSI] <;> iassumption
  icases H with %hr
  ipureintro
  have e1 : s'.mem.mem (aLoc d) = m (aLoc d) := funext fun (i : Idx (aLoc d)) => ha i (by simp)
  have e2 : s'.mem.mem (rLoc d) = RV m d := funext fun (i : Idx (rLoc d)) => hr i (by simp)
  exact ⟨e2, e1⟩

def QC : PUnit × MemSt nD τ sig (Elt F) → Prop := fun r => (∀ c : Dev nD, r.2.mem (rLoc c) = RV m c ∧ r.2.mem (aLoc c) = m (aLoc c)) ∧ r.2.sem = fun _ => 0

/-- The program's run: the result holds `RV`, the argument is unchanged, every semaphore reads zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Ref.lean ====
/-
  The reference's run: a straight line of operations on the TensorCore, so each array ends at what the operations in
  turn make of the argument.
-/
module

public import proofs.«01_k».proof.Defs
public import Idealize.ShloMosaic.Lib.StableHlo.Run
public import proofs.«01_k».proof.Proof.Gen.Kernel
public import proofs.«01_k».proof.Proof.Gen.KernelIdeal
public import proofs.«01_k».proof.Proof.Gen.ReferenceIdeal

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The arg-max's second result. -/
def amaxF (x : S32x8192x16.Idx → Elt F .f32) (y : S32x8192x16.Idx → BitVec 32) (u : S_.Idx → Elt F .f32) (v : S_.Idx → BitVec 32) : S32x8192.Idx → BitVec 32 :=
  fun j => (Host.argReduce reducer_argmax_f32_i32 x y u v reducesTo_S32x8192x16_S32x8192_d2 h_S_ j).2

theorem amaxF_def (x : S32x8192x16.Idx → Elt F .f32) (y : S32x8192x16.Idx → BitVec 32) (u : S_.Idx → Elt F .f32) (v : S_.Idx → BitVec 32) :
    (fun j => (Host.argReduce reducer_argmax_f32_i32 x y u v reducesTo_S32x8192x16_S32x8192_d2 h_S_ j).2) = amaxF x y u v := by
  delta amaxF; exact Eq.refl _

/-- The operations of one call of the arg-max, before those of `k`. -/
abbrev argmaxOps (a : TRef sig ⟨S32x8192x16, .f32⟩) (φ : fn_argmax.Bufs) (k : List (HloOp τ sig (Elt F))) : List (HloOp τ sig (Elt F)) :=
  TRef.nullary φ.v0 (iotaInDim S32x8192x16 32 2) ::
  TRef.nullary φ.cst (constant S_ .f32 0xFF800000#32) ::
  TRef.nullary φ.c (constantI S_ 32 0#32) ::
  TRef.quaternary a φ.v0 φ.cst φ.c φ.v1_0 (fun x y u v j => (Host.argReduce reducer_argmax_f32_i32 x y u v reducesTo_S32x8192x16_S32x8192_d2 h_S_ j).1) ::
  TRef.quaternary a φ.v0 φ.cst φ.c φ.v1_1 (fun x y u v j => (Host.argReduce reducer_argmax_f32_i32 x y u v reducesTo_S32x8192x16_S32x8192_d2 h_S_ j).2) :: k

/-- The operations of one call of the one-hot rows, before those of `k`. -/
abbrev oneHotOps (a : TRef sig ⟨S32x8192, .i32⟩) (φ : fn_one_hot.Bufs) (k : List (HloOp τ sig (Elt F))) : List (HloOp τ sig (Elt F)) :=
  TRef.unary a φ.v0 (broadcastInDim S32x8192x1 ![0, 1] bcast_S32x8192_S32x8192x1_0_1) ::
  TRef.nullary φ.v1 (iotaInDim S1x1x16 32 2) ::
  TRef.unary φ.v0 φ.v2 (broadcastInDim S32x8192x16 ![0, 1, 2] bcast_S32x8192x1_S32x8192x16_0_1_2) ::
  TRef.unary φ.v1 φ.v3 (broadcastInDim S32x8192x16 ![0, 1, 2] bcast_S1x1x16_S32x8192x16_0_1_2) ::
  TRef.binary φ.v2 φ.v3 φ.v4 (cmpi .eq) ::
  TRef.unary φ.v4 φ.v5 (uitofp .f32) :: k

/-- The operations of @main, in order. -/
abbrev ops : List (HloOp τ sig (Elt F)) :=
  unary main_arg0 main_v0 ((extractStridedSlice S32x8192x1 ![0, 0, 0] · slices_S32x8192x128_S32x8192x1_0_0_0) : (⟨S32x8192x128, .f32⟩ : BufTy).Contents (Elt F) → (⟨S32x8192x1, .f32⟩ : BufTy).Contents (Elt F)) ::
  reshape main_v0 main_v1 (rfl : (.f32 : EltTy) = .f32) shapeCasts_S32x8192x1_S32x8192 ::
  nullary main_cst (constant S_ .f32 0x3F000000#32) ::
  unary main_cst main_v2 (broadcastInDim S32x8192 ![] bcast_S_S32x8192 : (⟨S_, .f32⟩ : BufTy).Contents (Elt F) → (⟨S32x8192, .f32⟩ : BufTy).Contents (Elt F)) ::
  binary main_v1 main_v2 main_v3 (cmpf .oge : (⟨S32x8192, .f32⟩ : BufTy).Contents (Elt F) → (⟨S32x8192, .f32⟩ : BufTy).Contents (Elt F) → (⟨S32x8192, .i1⟩ : BufTy).Contents (Elt F)) ::
  unary main_arg0 main_v4 ((extractStridedSlice S32x8192x1 ![0, 0, 1] · slices_S32x8192x128_S32x8192x1_0_0_1) : (⟨S32x8192x128, .f32⟩ : BufTy).Contents (Elt F) → (⟨S32x8192x1, .f32⟩ : BufTy).Contents (Elt F)) ::
  reshape main_v4 main_v5 (rfl : (.f32 : EltTy) = .f32) shapeCasts_S32x8192x1_S32x8192 ::
  nullary main_cst_0 (constant S_ .f32 0x3F000000#32) ::
  unary main_cst_0 main_v6 (broadcastInDim S32x8192 ![] bcast_S_S32x8192 : (⟨S_, .f32⟩ : BufTy).Contents (Elt F) → (⟨S32x8192, .f32⟩ : BufTy).Contents (Elt F)) ::
  binary main_v5 main_v6 main_v7 (cmpf .oge : (⟨S32x8192, .f32⟩ : BufTy).Contents (Elt F) → (⟨S32x8192, .f32⟩ : BufTy).Contents (Elt F) → (⟨S32x8192, .i1⟩ : BufTy).Contents (Elt F)) ::
  binary main_v3 main_v7 main_v8 (andi : (⟨S32x8192, .i1⟩ : BufTy).Contents (Elt F) → (⟨S32x8192, .i1⟩ : BufTy).Contents (Elt F) → (⟨S32x8192, .i1⟩ : BufTy).Contents (Elt F)) ::
  unary main_arg0 main_v9 ((extractStridedSlice S32x8192x16 ![0, 0, 16] · slices_S32x8192x128_S32x8192x16_0_0_16) : (⟨S32x8192x128, .f32⟩ : BufTy).Contents (Elt F) → (⟨S32x8192x16, .f32⟩ : BufTy).Contents (Elt F)) ::
  argmaxOps (.of main_v9) main_call0 (
  unary main_arg0 main_v11 ((extractStridedSlice S32x8192x16 ![0, 0, 32] · slices_S32x8192x128_S32x8192x16_0_0_32) : (⟨S32x8192x128, .f32⟩ : BufTy).Contents (Elt F) → (⟨S32x8192x16, .f32⟩ : BufTy).Contents (Elt F)) ::
  argmaxOps (.of main_v11) main_call1 (
  nullary main_c (constantI S_ 32 4#32) ::
  unary main_c main_v13 (broadcastInDim S32x8192 ![] bcast_S_S32x8192 : (⟨S_, .i32⟩ : BufTy).Contents (Elt F) → (⟨S32x8192, .i32⟩ : BufTy).Contents (Elt F)) ::
  binary main_v12 main_v13 main_v14 (Host.shli : (⟨S32x8192, .i32⟩ : BufTy).Contents (Elt F) → (⟨S32x8192, .i32⟩ : BufTy).Contents (Elt F) → (⟨S32x8192, .i32⟩ : BufTy).Contents (Elt F)) ::
  binary main_v10 main_v14 main_v15 (addi : (⟨S32x8192, .i32⟩ : BufTy).Contents (Elt F) → (⟨S32x8192, .i32⟩ : BufTy).Contents (Elt F) → (⟨S32x8192, .i32⟩ : BufTy).Contents (Elt F)) ::
  unary main_arg0 main_v16 ((extractStridedSlice S32x8192x16 ![0, 0, 48] · slices_S32x8192x128_S32x8192x16_0_0_48) : (⟨S32x8192x128, .f32⟩ : BufTy).Contents (Elt F) → (⟨S32x8192x16, .f32⟩ : BufTy).Contents (Elt F)) ::
  argmaxOps (.of main_v16) main_call2 (
  unary main_arg0 main_v18 ((extractStridedSlice S32x8192x16 ![0, 0, 64] · slices_S32x8192x128_S32x8192x16_0_0_64) : (⟨S32x8192x128, .f32⟩ : BufTy).Contents (Elt F) → (⟨S32x8192x16, .f32⟩ : BufTy).Contents (Elt F)) ::
  argmaxOps (.of main_v18) main_call3 (
  nullary main_c_1 (constantI S_ 32 4#32) ::
  unary main_c_1 main_v20 (broadcastInDim S32x8192 ![] bcast_S_S32x8192 : (⟨S_, .i32⟩ : BufTy).Contents (Elt F) → (⟨S32x8192, .i32⟩ : BufTy).Contents (Elt F)) ::
  binary main_v19 main_v20 main_v21 (Host.shli : (⟨S32x8192, .i32⟩ : BufTy).Contents (Elt F) → (⟨S32x8192, .i32⟩ : BufTy).Contents (Elt F) → (⟨S32x8192, .i32⟩ : BufTy).Contents (Elt F)) ::
  binary main_v17 main_v21 main_v22 (addi : (⟨S32x8192, .i32⟩ : BufTy).Contents (Elt F) → (⟨S32x8192, .i32⟩ : BufTy).Contents (Elt F) → (⟨S32x8192, .i32⟩ : BufTy).Contents (Elt F)) ::
  binary main_v15 main_v22 main_v23 (muli : (⟨S32x8192, .i32⟩ : BufTy).Contents (Elt F) → (⟨S32x8192, .i32⟩ : BufTy).Contents (Elt F) → (⟨S32x8192, .i32⟩ : BufTy).Contents (Elt F)) ::
  nullary main_c_2 (constantI S_ 32 255#32) ::
  unary main_c_2 main_v24 (broadcastInDim S32x8192 ![] bcast_S_S32x8192 : (⟨S_, .i32⟩ : BufTy).Contents (Elt F) → (⟨S32x8192, .i32⟩ : BufTy).Contents (Elt F)) ::
  binary main_v23 main_v24 main_v25 (andi : (⟨S32x8192, .i32⟩ : BufTy).Contents (Elt F) → (⟨S32x8192, .i32⟩ : BufTy).Contents (Elt F) → (⟨S32x8192, .i32⟩ : BufTy).Contents (Elt F)) ::
  nullary main_c_3 (constantI S_ 32 15#32) ::
  unary main_c_3 main_v26 (broadcastInDim S32x8192 ![] bcast_S_S32x8192 : (⟨S_, .i32⟩ : BufTy).Contents (Elt F) → (⟨S32x8192, .i32⟩ : BufTy).Contents (Elt F)) ::
  binary main_v25 main_v26 main_v27 (andi : (⟨S32x8192, .i32⟩ : BufTy).Contents (Elt F) → (⟨S32x8192, .i32⟩ : BufTy).Contents (Elt F) → (⟨S32x8192, .i32⟩ : BufTy).Contents (Elt F)) ::
  nullary main_c_4 (constantI S_ 32 4#32) ::
  unary main_c_4 main_v28 (broadcastInDim S32x8192 ![] bcast_S_S32x8192 : (⟨S_, .i32⟩ : BufTy).Contents (Elt F) → (⟨S32x8192, .i32⟩ : BufTy).Contents (Elt F)) ::
  binary main_v25 main_v28 main_v29 (Host.shrsi : (⟨S32x8192, .i32⟩ : BufTy).Contents (Elt F) → (⟨S32x8192, .i32⟩ : BufTy).Contents (Elt F) → (⟨S32x8192, .i32⟩ : BufTy).Contents (Elt F)) ::
  nullary main_c_5 (constantI S_ 32 15#32) ::
  unary main_c_5 main_v30 (broadcastInDim S32x8192 ![] bcast_S_S32x8192 : (⟨S_, .i32⟩ : BufTy).Contents (Elt F) → (⟨S32x8192, .i32⟩ : BufTy).Contents (Elt F)) ::
  binary main_v29 main_v30 main_v31 (andi : (⟨S32x8192, .i32⟩ : BufTy).Contents (Elt F) → (⟨S32x8192, .i32⟩ : BufTy).Contents (Elt F) → (⟨S32x8192, .i32⟩ : BufTy).Contents (Elt F)) ::
  unary main_v8 main_v32 (broadcastInDim S32x8192x1 ![0, 1] bcast_S32x8192_S32x8192x1_0_1 : (⟨S32x8192, .i1⟩ : BufTy).Contents (Elt F) → (⟨S32x8192x1, .i1⟩ : BufTy).Contents (Elt F)) ::
  unary main_v32 main_v33 (uitofp .f32 : (⟨S32x8192x1, .i1⟩ : BufTy).Contents (Elt F) → (⟨S32x8192x1, .f32⟩ : BufTy).Contents (Elt F)) ::
  oneHotOps (.of main_v27) main_call4 (
  nullary main_cst_6 (constant S_ .f32 0x40000000#32) ::
  unary main_cst_6 main_v35 (broadcastInDim S32x8192x16 ![] bcast_S_S32x8192x16 : (⟨S_, .f32⟩ : BufTy).Contents (Elt F) → (⟨S32x8192x16, .f32⟩ : BufTy).Contents (Elt F)) ::
  binary main_v34 main_v35 main_v36 (mulf : (⟨S32x8192x16, .f32⟩ : BufTy).Contents (Elt F) → (⟨S32x8192x16, .f32⟩ : BufTy).Contents (Elt F) → (⟨S32x8192x16, .f32⟩ : BufTy).Contents (Elt F)) ::
  unary main_v33 main_v37 (broadcastInDim S32x8192x16 ![0, 1, 2] bcast_S32x8192x1_S32x8192x16_0_1_2 : (⟨S32x8192x1, .f32⟩ : BufTy).Contents (Elt F) → (⟨S32x8192x16, .f32⟩ : BufTy).Contents (Elt F)) ::
  binary main_v36 main_v37 main_v38 (mulf : (⟨S32x8192x16, .f32⟩ : BufTy).Contents (Elt F) → (⟨S32x8192x16, .f32⟩ : BufTy).Contents (Elt F) → (⟨S32x8192x16, .f32⟩ : BufTy).Contents (Elt F)) ::
  oneHotOps (.of main_v31) main_call5 (
  nullary main_cst_7 (constant S_ .f32 0x40000000#32) ::
  unary main_cst_7 main_v40 (broadcastInDim S32x8192x16 ![] bcast_S_S32x8192x16 : (⟨S_, .f32⟩ : BufTy).Contents (Elt F) → (⟨S32x8192x16, .f32⟩ : BufTy).Contents (Elt F)) ::
  binary main_v39 main_v40 main_v41 (mulf : (⟨S32x8192x16, .f32⟩ : BufTy).Contents (Elt F) → (⟨S32x8192x16, .f32⟩ : BufTy).Contents (Elt F) → (⟨S32x8192x16, .f32⟩ : BufTy).Contents (Elt F)) ::
  unary main_v33 main_v42 (broadcastInDim S32x8192x16 ![0, 1, 2] bcast_S32x8192x1_S32x8192x16_0_1_2 : (⟨S32x8192x1, .f32⟩ : BufTy).Contents (Elt F) → (⟨S32x8192x16, .f32⟩ : BufTy).Contents (Elt F)) ::
  binary main_v41 main_v42 main_v43 (mulf : (⟨S32x8192x16, .f32⟩ : BufTy).Contents (Elt F) → (⟨S32x8192x16, .f32⟩ : BufTy).Contents (Elt F) → (⟨S32x8192x16, .f32⟩ : BufTy).Contents (Elt F)) ::
  nullary main_c_8 (constantI S_ 32 80#32) ::
  unary main_c_8 main_v44 (broadcastInDim S1 ![] bcast_S_S1 : (⟨S_, .i32⟩ : BufTy).Contents (Elt F) → (⟨S1, .i32⟩ : BufTy).Contents (Elt F)) ::
  ternary main_arg0 main_v44 main_v38 main_v45 ((fun x i u => Host.scatter scatter_S32x8192x128_S1_S32x8192x16_012_n_2_0 FloatOps.addf x i u) : (⟨S32x8192x128, .f32⟩ : BufTy).Contents (Elt F) → (⟨S1, .i32⟩ : BufTy).Contents (Elt F) → (⟨S32x8192x16, .f32⟩ : BufTy).Contents (Elt F) → (⟨S32x8192x128, .f32⟩ : BufTy).Contents (Elt F)) ::
  nullary main_c_9 (constantI S_ 32 96#32) ::
  unary main_c_9 main_v46 (broadcastInDim S1 ![] bcast_S_S1 : (⟨S_, .i32⟩ : BufTy).Contents (Elt F) → (⟨S1, .i32⟩ : BufTy).Contents (Elt F)) ::
  ternary main_v45 main_v46 main_v43 main_v47 ((fun x i u => Host.scatter scatter_S32x8192x128_S1_S32x8192x16_012_n_2_0 FloatOps.addf x i u) : (⟨S32x8192x128, .f32⟩ : BufTy).Contents (Elt F) → (⟨S1, .i32⟩ : BufTy).Contents (Elt F) → (⟨S32x8192x16, .f32⟩ : BufTy).Contents (Elt F) → (⟨S32x8192x128, .f32⟩ : BufTy).Contents (Elt F)) ::
  []))))))

set_option maxHeartbeats 2000000 in
set_option maxRecDepth 8192 in
theorem main_eq (c : Dev nD) : main (F := F) c = seq ops := by
  simp only [main, main_part0, main_part1, fn_argmax.body, fn_one_hot.body, seq, Prog.bind_lift, Prog.bind_op, Prog.bind_ret, Prog.pure_eq_ret, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig := by
  simp only [List.forall_cons, nullary_bufs_sub, unary_bufs_sub, binary_bufs_sub, ternary_bufs_sub, quaternary_bufs_sub, reshape_bufs_sub, true_and, and_true]
  trivial

/-! ## What the operations make of the argument -/

/-- The place of the greatest of each row's sixteen columns. -/
def amax (x : S32x8192x16.Idx → Elt F .f32) : S32x8192.Idx → BitVec 32 :=
  amaxF x (iotaInDim S32x8192x16 32 2) (constant S_ .f32 0xFF800000#32) (constantI S_ 32 0#32)

def every (k : BitVec 32) : S32x8192.Idx → BitVec 32 := broadcastInDim S32x8192 ![] bcast_S_S32x8192 (constantI S_ 32 k)

def half : S32x8192.Idx → Elt F .f32 := broadcastInDim S32x8192 ![] bcast_S_S32x8192 (constant S_ .f32 0x3F000000#32)

/-- Whether a row's first two words say it is to be worked on. -/
def mask (x : S32x8192x128.Idx → Elt F .f32) : S32x8192.Idx → BitVec 1 :=
  andi (cmpf .oge (shapeCast S32x8192 (extractStridedSlice S32x8192x1 ![0, 0, 0] x slices_S32x8192x128_S32x8192x1_0_0_0) shapeCasts_S32x8192x1_S32x8192) half)
    (cmpf .oge (shapeCast S32x8192 (extractStridedSlice S32x8192x1 ![0, 0, 1] x slices_S32x8192x128_S32x8192x1_0_0_1) shapeCasts_S32x8192x1_S32x8192) half)

/-- The product of a row's two numbers, its low eight bits. -/
def prod (x : S32x8192x128.Idx → Elt F .f32) : S32x8192.Idx → BitVec 32 :=
  andi (muli
      (addi (amax (extractStridedSlice S32x8192x16 ![0, 0, 16] x slices_S32x8192x128_S32x8192x16_0_0_16))
        (Host.shli (amax (extractStridedSlice S32x8192x16 ![0, 0, 32] x slices_S32x8192x128_S32x8192x16_0_0_32)) (every 4#32)))
      (addi (amax (extractStridedSlice S32x8192x16 ![0, 0, 48] x slices_S32x8192x128_S32x8192x16_0_0_48))
        (Host.shli (amax (extractStridedSlice S32x8192x16 ![0, 0, 64] x slices_S32x8192x128_S32x8192x16_0_0_64)) (every 4#32))))
    (every 255#32)

def low (x : S32x8192x128.Idx → Elt F .f32) : S32x8192.Idx → BitVec 32 := andi (prod x) (every 15#32)
def high (x : S32x8192x128.Idx → Elt F .f32) : S32x8192.Idx → BitVec 32 := andi (Host.shrsi (prod x) (every 4#32)) (every 15#32)

/-- The row of sixteen with a one at the digit. -/
def oneHot (v : S32x8192.Idx → BitVec 32) : S32x8192x16.Idx → Elt F .f32 :=
  uitofp .f32 (cmpi .eq
    (broadcastInDim S32x8192x16 ![0, 1, 2] bcast_S32x8192x1_S32x8192x16_0_1_2 (broadcastInDim S32x8192x1 ![0, 1] bcast_S32x8192_S32x8192x1_0_1 v))
    (broadcastInDim S32x8192x16 ![0, 1, 2] bcast_S1x1x16_S32x8192x16_0_1_2 (iotaInDim S1x1x16 32 2)))

/-- What is added to sixteen columns: twice the digit's one-hot row, where the mask holds. -/
def upd (m : S32x8192.Idx → BitVec 1) (v : S32x8192.Idx → BitVec 32) : S32x8192x16.Idx → Elt F .f32 :=
  mulf (mulf (oneHot v) (broadcastInDim S32x8192x16 ![] bcast_S_S32x8192x16 (constant S_ .f32 0x40000000#32)))
    (broadcastInDim S32x8192x16 ![0, 1, 2] bcast_S32x8192x1_S32x8192x16_0_1_2 (uitofp .f32 (broadcastInDim S32x8192x1 ![0, 1] bcast_S32x8192_S32x8192x1_0_1 m)))

/-- The array with `u` added to sixteen columns from column `k`. -/
def addAt (k : BitVec 32) (x : S32x8192x128.Idx → Elt F .f32) (u : S32x8192x16.Idx → Elt F .f32) : S32x8192x128.Idx → Elt F .f32 :=
  Host.scatter scatter_S32x8192x128_S1_S32x8192x16_012_n_2_0 FloatOps.addf x (broadcastInDim S1 ![] bcast_S_S1 (constantI S_ 32 k)) u

/-- The reference's result. -/
def out (x : S32x8192x128.Idx → Elt F .f32) : S32x8192x128.Idx → Elt F .f32 :=
  addAt 96#32 (addAt 80#32 x (upd (mask x) (low x))) (upd (mask x) (high x))

set_option maxHeartbeats 4000000 in
set_option maxRecDepth 8192 in
theorem arg0_eq (V : Valuation τ sig (Elt F)) : after ops V (main_arg0 : DevRef τ sig) = V (main_arg0 : DevRef τ sig) := by
  after_results_simp

/-- A call's operands and results are @main's arrays as they are. -/
theorem args_eq : (∀ v, (TRef.of (T := ⟨S32x8192x16, .f32⟩) main_v9).ofBuf (Val := Elt F) v = v)
    ∧ (∀ v, (TRef.of (T := ⟨S32x8192x16, .f32⟩) main_v11).ofBuf (Val := Elt F) v = v)
    ∧ (∀ v, (TRef.of (T := ⟨S32x8192x16, .f32⟩) main_v16).ofBuf (Val := Elt F) v = v)
    ∧ (∀ v, (TRef.of (T := ⟨S32x8192x16, .f32⟩) main_v18).ofBuf (Val := Elt F) v = v)
    ∧ (∀ v, (TRef.of (T := ⟨S32x8192, .i32⟩) main_v27).ofBuf (Val := Elt F) v = v)
    ∧ (∀ v, (TRef.of (T := ⟨S32x8192, .i32⟩) main_v31).ofBuf (Val := Elt F) v = v) :=
  ⟨fun _ => rfl, fun _ => rfl, fun _ => rfl, fun _ => rfl, fun _ => rfl, fun _ => rfl⟩

theorem results_eq : (∀ v, (TRef.of (T := ⟨S32x8192, .i32⟩) main_v10).toBuf (Val := Elt F) v = v)
    ∧ (∀ v, (TRef.of (T := ⟨S32x8192, .i32⟩) main_v12).toBuf (Val := Elt F) v = v)
    ∧ (∀ v, (TRef.of (T := ⟨S32x8192, .i32⟩) main_v17).toBuf (Val := Elt F) v = v)
    ∧ (∀ v, (TRef.of (T := ⟨S32x8192, .i32⟩) main_v19).toBuf (Val := Elt F) v = v)
    ∧ (∀ v, (TRef.of (T := ⟨S32x8192x16, .f32⟩) main_v34).toBuf (Val := Elt F) v = v)
    ∧ (∀ v, (TRef.of (T := ⟨S32x8192x16, .f32⟩) main_v39).toBuf (Val := Elt F) v = v) :=
  ⟨fun _ => rfl, fun _ => rfl, fun _ => rfl, fun _ => rfl, fun _ => rfl, fun _ => rfl⟩

set_option maxHeartbeats 4000000 in
set_option maxRecDepth 8192 in
theorem out_eq (V : Valuation τ sig (Elt F)) : after ops V (main_v47 : DevRef τ sig) = out (V (main_arg0 : DevRef τ sig)) := by
  after_results_simp
  simp only [TRef.ofBuf_toBuf, args_eq, results_eq, amaxF_def]
  simp only [out, addAt, upd, oneHot, low, high, prod, mask, half, every, amax]
  rfl

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.Digit.lean ====
/-
  The place of the greatest of sixteen extended reals, least where there are several: what the kernel's digit and the
  reference's arg-max both are.
-/
module

public import proofs.«01_k».proof.Proof.Row
public import proofs.«01_k».proof.Proof.Ref

@[expose] public section

noncomputable section

namespace Cert.Proof.Value

open Idealize.ShloMosaic

/-- `d` is the least place of the greatest of `y`. -/
def IsMax (y : Fin 16 → EReal) (d : BitVec 32) : Prop :=
  ∃ i : Fin 16, d = BitVec.ofNat 32 i.val ∧ (∀ k, y k ≤ y i) ∧ ∀ k, y k = y i → i ≤ k

theorem IsMax.unique {y : Fin 16 → EReal} {d e : BitVec 32} (h : IsMax y d) (g : IsMax y e) : d = e := by
  obtain ⟨i, rfl, hi, li⟩ := h
  obtain ⟨j, rfl, hj, lj⟩ := g
  have e : y i = y j := le_antisymm (hj i) (hi j)
  rw [le_antisymm (li j e.symm) (lj i e)]

theorem IsMax.lt {y : Fin 16 → EReal} {d : BitVec 32} (h : IsMax y d) : d.toNat < 16 := by
  obtain ⟨i, rfl, -, -⟩ := h
  have := i.isLt
  rw [BitVec.toNat_ofNat]; omega

/-! ## The kernel's digit -/

/-- Where the combination takes one of two values, the whole is one of the sixteen. -/
theorem comb_mem {α : Type} (f : α → α → α) (hf : ∀ a b, f a b = a ∨ f a b = b) (x : Fin 16 → α) : ∃ k, Run.comb f x = x k := by
  have h {a b : α} (ha : ∃ k, a = x k) (hb : ∃ k, b = x k) : ∃ k, f a b = x k := by
    rcases hf a b with e | e <;> rw [e] <;> assumption
  unfold Run.comb Tile.tree
  exact h (h (h (h ⟨_, rfl⟩ ⟨_, rfl⟩) (h ⟨_, rfl⟩ ⟨_, rfl⟩)) (h (h ⟨_, rfl⟩ ⟨_, rfl⟩) (h ⟨_, rfl⟩ ⟨_, rfl⟩)))
    (h (h (h ⟨_, rfl⟩ ⟨_, rfl⟩) (h ⟨_, rfl⟩ ⟨_, rfl⟩)) (h (h ⟨_, rfl⟩ ⟨_, rfl⟩) (h ⟨_, rfl⟩ ⟨_, rfl⟩)))

/-- Where the combination is a bound of both values, the whole is a bound of the sixteen. -/
theorem comb_bound {α : Type} (f : α → α → α) (R : α → α → Prop) (ht : ∀ a b c, R a b → R b c → R a c) (hl : ∀ a b, R (f a b) a)
    (hr : ∀ a b, R (f a b) b) (x : Fin 16 → α) (k : Fin 16) : R (Run.comb f x) (x k) := by
  have l {a b c : α} (h : R a c) : R (f a b) c := ht _ _ _ (hl a b) h
  have r {a b c : α} (h : R b c) : R (f a b) c := ht _ _ _ (hr a b) h
  unfold Run.comb Tile.tree
  fin_cases k
  · exact l (l (l (hl _ _)))
  · exact l (l (l (hr _ _)))
  · exact l (l (r (hl _ _)))
  · exact l (l (r (hr _ _)))
  · exact l (r (l (hl _ _)))
  · exact l (r (l (hr _ _)))
  · exact l (r (r (hl _ _)))
  · exact l (r (r (hr _ _)))
  · exact r (l (l (hl _ _)))
  · exact r (l (l (hr _ _)))
  · exact r (l (r (hl _ _)))
  · exact r (l (r (hr _ _)))
  · exact r (r (l (hl _ _)))
  · exact r (r (l (hr _ _)))
  · exact r (r (r (hl _ _)))
  · exact r (r (r (hr _ _)))

theorem minsi_mem (a b : BitVec 32) : IntOp.minsi a b = a ∨ IntOp.minsi a b = b := by
  unfold IntOp.minsi; split <;> simp

theorem minsi_le_left (a b : BitVec 32) : (IntOp.minsi a b).toInt ≤ a.toInt := by
  unfold IntOp.minsi; split
  · exact le_rfl
  · next h => rw [BitVec.slt_iff_toInt_lt] at h; omega

theorem minsi_le_right (a b : BitVec 32) : (IntOp.minsi a b).toInt ≤ b.toInt := by
  unfold IntOp.minsi; split
  · next h => rw [BitVec.slt_iff_toInt_lt] at h; omega
  · exact le_rfl

theorem toInt_small {n : ℕ} (h : n < 17) : (BitVec.ofNat 32 n).toInt = n := by
  rw [BitVec.toInt_eq_toNat_of_lt (by rw [BitVec.toNat_ofNat]; omega), BitVec.toNat_ofNat]; omega

theorem digit_isMax (ρ : ℕ) (y : Fin 16 → EReal) :
    IsMax y (Run.digit (F := Ideal) ρ fun k => y ⟨(ρ + k.val) % 16, Nat.mod_lt _ (by decide)⟩) := by
  let tn : Fin 16 → Fin 16 := fun k => ⟨(ρ + k.val) % 16, Nat.mod_lt _ (by decide)⟩
  have hon (i : Fin 16) : ∃ k, tn k = i := by
    refine ⟨⟨(i.val + 16 - ρ % 16) % 16, Nat.mod_lt _ (by decide)⟩, Fin.ext ?_⟩
    have := i.isLt
    show (ρ + (i.val + 16 - ρ % 16) % 16) % 16 = i.val
    omega
  show IsMax y (Run.digit (F := Ideal) ρ fun k => y (tn k))
  unfold Run.digit
  set M : EReal := Run.comb (FloatOps.maximumf (F := Ideal) (φ := .f32)) fun k => y (tn k) with hM
  obtain ⟨k0, hk0⟩ : ∃ k, M = y (tn k) := comb_mem (fun a b : EReal => max a b) (fun a b => max_choice a b) _
  have hge (i : Fin 16) : y i ≤ M := by
    obtain ⟨k, rfl⟩ := hon i
    exact comb_bound (fun a b : EReal => max a b) (fun a b => b ≤ a) (fun _ _ _ h g => g.trans h) (fun _ _ => le_max_left _ _) (fun _ _ => le_max_right _ _) (fun k => y (tn k)) k
  set S : Fin 16 → BitVec 32 := fun k => Scalar.select (FloatOps.cmpf (F := Ideal) (φ := .f32) .oeq (y (tn k)) M) (BitVec.ofNat 32 ((ρ + k.val) % 16)) 16#32 with hS
  have hS1 (k : Fin 16) (h : y (tn k) = M) : S k = BitVec.ofNat 32 (tn k).val := by
    show Scalar.select (BitVec.ofBool (decide (y (tn k) = M))) _ _ = _
    rw [h]; simp [Scalar.select, tn]
  have hS0 (k : Fin 16) (h : y (tn k) ≠ M) : S k = BitVec.ofNat 32 16 := by
    show Scalar.select (BitVec.ofBool (decide (y (tn k) = M))) _ _ = _
    simp [Scalar.select, h]
  have hle (k : Fin 16) : (Run.comb IntOp.minsi S).toInt ≤ (S k).toInt :=
    comb_bound IntOp.minsi (fun a b => a.toInt ≤ b.toInt) (fun _ _ _ h g => h.trans g) minsi_le_left minsi_le_right S k
  obtain ⟨k1, hk1⟩ := comb_mem IntOp.minsi minsi_mem S
  have h0 := hle k0
  rw [hS1 k0 hk0.symm, toInt_small (by have := (tn k0).isLt; omega)] at h0
  by_cases h1 : y (tn k1) = M
  · refine ⟨tn k1, hk1.trans (hS1 k1 h1), fun k => (hge k).trans_eq h1.symm, fun i hi => ?_⟩
    obtain ⟨k, rfl⟩ := hon i
    have h := hle k
    rw [hk1, hS1 k1 h1, hS1 k (hi.trans h1), toInt_small (by have := (tn k1).isLt; omega), toInt_small (by have := (tn k).isLt; omega)] at h
    exact Fin.le_def.2 (by omega)
  · rw [hk1, hS0 k1 h1, toInt_small (by omega)] at h0
    have := (tn k0).isLt
    omega

/-! ## The reference's arg-max -/

/-- Pair `r` comes before pair `p`: of a greater value, or of the same value and a lesser place. -/
def Before (r p : EReal × BitVec 32) : Prop := p.1 < r.1 ∨ p.1 = r.1 ∧ r.2.toInt ≤ p.2.toInt

theorem Before.rfl' (r : EReal × BitVec 32) : Before r r := .inr ⟨rfl, le_rfl⟩

theorem Before.trans {a b c : EReal × BitVec 32} (h : Before a b) (g : Before b c) : Before a c := by
  rcases h with h | ⟨h, h'⟩ <;> rcases g with g | ⟨g, g'⟩
  · exact .inl (g.trans h)
  · exact .inl (g.trans_lt h)
  · exact .inl (g.trans_eq h)
  · exact .inr ⟨g.trans h, h'.trans g'⟩

/-- One step of the arg-max takes the pair that comes before. -/
theorem step_pick (a b : EReal × BitVec 32) :
    (Cert.ReferenceIdeal.reducer_argmax_f32_i32 (F := Ideal) a b = a ∨ Cert.ReferenceIdeal.reducer_argmax_f32_i32 (F := Ideal) a b = b)
      ∧ Before (Cert.ReferenceIdeal.reducer_argmax_f32_i32 (F := Ideal) a b) a ∧ Before (Cert.ReferenceIdeal.reducer_argmax_f32_i32 (F := Ideal) a b) b := by
  obtain ⟨a1, a2⟩ := a
  obtain ⟨b1, b2⟩ := b
  have e : Cert.ReferenceIdeal.reducer_argmax_f32_i32 (F := Ideal) (a1, a2) (b1, b2)
      = (if b1 < a1 then a1 else b1, if b1 < a1 ∨ a1 = b1 ∧ a2.toInt < b2.toInt then a2 else b2) := by
    show (Scalar.select (IntOp.ori (BitVec.ofBool (decide (b1 < a1))) (BitVec.ofBool (decide (a1 ≠ a1)))) a1 b1,
      Scalar.select (IntOp.ori (IntOp.ori (BitVec.ofBool (decide (b1 < a1))) (BitVec.ofBool (decide (a1 ≠ a1))))
        (IntOp.andi (BitVec.ofBool (decide (a1 = b1))) (BitVec.ofBool (a2.slt b2)))) a2 b2) = _
    have hs : a2.slt b2 = decide (a2.toInt < b2.toInt) := rfl
    rw [hs]
    by_cases h1 : b1 < a1 <;> by_cases h2 : a1 = b1 <;> by_cases h3 : a2.toInt < b2.toInt <;>
      simp [h1, h2, h3, Scalar.select, IntOp.ori, IntOp.andi]
  rw [e]
  rcases lt_trichotomy b1 a1 with h | h | h
  · rw [if_pos h, if_pos (.inl h)]
    exact ⟨.inl rfl, Before.rfl' _, .inl h⟩
  · subst h
    by_cases h3 : a2.toInt < b2.toInt
    · rw [if_neg (lt_irrefl _), if_pos (.inr ⟨rfl, h3⟩)]
      exact ⟨.inl rfl, Before.rfl' _, .inr ⟨rfl, h3.le⟩⟩
    · rw [if_neg (lt_irrefl _), if_neg (by rintro (h | ⟨-, h⟩); exacts [lt_irrefl _ h, h3 h])]
      exact ⟨.inr rfl, .inr ⟨rfl, by show b2.toInt ≤ a2.toInt; omega⟩, Before.rfl' _⟩
  · rw [if_neg h.not_gt, if_neg (by rintro (g | ⟨g, -⟩); exacts [h.not_gt g, h.ne g])]
    exact ⟨.inr rfl, .inl h, Before.rfl' _⟩

/-- A fold of steps that take the pair that comes before ends at a pair that comes before all. -/
theorem fold_pick (f : EReal × BitVec 32 → EReal × BitVec 32 → EReal × BitVec 32) (hf : ∀ a b, (f a b = a ∨ f a b = b) ∧ Before (f a b) a ∧ Before (f a b) b)
    (L : List (EReal × BitVec 32)) (a : EReal × BitVec 32) :
    (L.foldl f a = a ∨ L.foldl f a ∈ L) ∧ Before (L.foldl f a) a ∧ ∀ p ∈ L, Before (L.foldl f a) p := by
  induction L generalizing a with
  | nil => exact ⟨.inl rfl, Before.rfl' _, by simp⟩
  | cons b L ih =>
    obtain ⟨h1, h2, h3⟩ := ih (f a b)
    obtain ⟨g1, g2, g3⟩ := hf a b
    rw [List.foldl_cons]
    refine ⟨?_, h2.trans g2, fun p hp => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.1 hp with rfl | hp
      · exact h2.trans g3
      · exact h3 p hp

/-- A list of the sixteen values with their places, folded from minus infinity at place nought. -/
theorem fold_isMax (f : EReal × BitVec 32 → EReal × BitVec 32 → EReal × BitVec 32) (hf : ∀ a b, (f a b = a ∨ f a b = b) ∧ Before (f a b) a ∧ Before (f a b) b)
    (y : Fin 16 → EReal) (L : List (EReal × BitVec 32)) (hL : ∀ p, p ∈ L ↔ ∃ k : Fin 16, p = (y k, BitVec.ofNat 32 k.val)) :
    IsMax y (L.foldl f (⊥, 0#32)).2 := by
  obtain ⟨h1, h2, h3⟩ := fold_pick f hf L (⊥, 0#32)
  have hb (k : Fin 16) : Before (L.foldl f (⊥, 0#32)) (y k, BitVec.ofNat 32 k.val) := h3 _ ((hL _).2 ⟨k, rfl⟩)
  have key (i : Fin 16) (e : L.foldl f (⊥, 0#32) = (y i, BitVec.ofNat 32 i.val)) : IsMax y (L.foldl f (⊥, 0#32)).2 := by
    refine ⟨i, by rw [e], fun k => ?_, fun k hk => ?_⟩
    · rcases e ▸ hb k with h | ⟨h, -⟩
      exacts [h.le, h.le]
    · rcases e ▸ hb k with h | ⟨-, h⟩
      · exact absurd hk h.ne
      · change (BitVec.ofNat 32 i.val).toInt ≤ (BitVec.ofNat 32 k.val).toInt at h
        rw [toInt_small (by omega), toInt_small (by omega)] at h
        exact Fin.le_def.2 (by omega)
  rcases h1 with h1 | h1
  · refine key 0 (h1.trans (Prod.ext ?_ rfl))
    rcases h1 ▸ hb 0 with h | ⟨h, -⟩
    · exact absurd h not_lt_bot
    · exact h.symm
  · obtain ⟨i, e⟩ := (hL _).1 h1
    exact key i e

end Cert.Proof.Value

end
-- ==== Proof.Value.lean ====
/-
  The kernel's result and the reference's are the same array over the extended reals.
-/
module

public import proofs.«01_k».proof.Proof.Digit
public import proofs.«01_k».proof.Proof.Launch
public import Idealize.ShloMosaic.PureOps.Ideal.Laws
public import Idealize.ShloMosaic.Lib.ValueIdxCore
public import Idealize.ShloMosaic.Lib.Routing.OpsPair

@[expose] public section

noncomputable section

namespace Cert.Proof.Value

open Idealize.ShloMosaic Idealize.ShloMosaic.ValueIdx
open Cert.ReferenceIdeal Cert.ReferenceIdeal.Gen

/-! ## The digits -/

/-- The values and places that the arg-max along the last axis goes over. -/
theorem mem_fiber {a b : ℕ} (x : (⟨3, ![a, b, 16]⟩ : Shape).Idx → EReal) (y : (⟨3, ![a, b, 16]⟩ : Shape).Idx → BitVec 32)
    (hy : ∀ i, y i = BitVec.ofNat 32 (i 2).val) (h : (⟨3, ![a, b, 16]⟩ : Shape).ReducesTo [2] ⟨2, ![a, b]⟩) (j : (⟨2, ![a, b]⟩ : Shape).Idx) (p : EReal × BitVec 32) :
    p ∈ Host.argReduceFiber x y h j ↔ ∃ k : Fin 16, p = (x (ix3 (j 0) (j 1) k), BitVec.ofNat 32 k.val) := by
  have hd (i : (⟨3, ![a, b, 16]⟩ : Shape).Idx) : h.drop i = j ↔ i = ix3 (j 0) (j 1) (i 2) := by
    have h0 : (h.drop i 0).val = (i 0).val := rfl
    have h1 : (h.drop i 1).val = (i 1).val := rfl
    constructor
    · rintro rfl
      funext c
      match c with
      | ⟨0, _⟩ => exact Fin.ext h0.symm
      | ⟨1, _⟩ => exact Fin.ext h1.symm
      | ⟨2, _⟩ => rfl
    · intro e
      funext c
      match c with
      | ⟨0, _⟩ => exact Fin.ext (h0.trans (congrArg Fin.val (congrFun e 0)))
      | ⟨1, _⟩ => exact Fin.ext (h1.trans (congrArg Fin.val (congrFun e 1)))
  unfold Host.argReduceFiber
  simp only [List.mem_map, List.mem_filter, List.mem_finRange, true_and, decide_eq_true_eq]
  constructor
  · rintro ⟨n, hn, rfl⟩
    have e := (hd _).1 hn
    exact ⟨_, Prod.ext (congrArg x e) (hy _)⟩
  · rintro ⟨k, rfl⟩
    refine ⟨(⟨3, ![a, b, 16]⟩ : Shape).rowMajor (ix3 (j 0) (j 1) k), ?_, ?_⟩
    · rw [Equiv.symm_apply_apply]; exact (hd _).2 rfl
    · rw [Equiv.symm_apply_apply, hy]; rfl

theorem first_value (i : S_.Idx) : constant (F := Ideal) S_ .f32 0xFF800000#32 i = (⊥ : EReal) := by
  show Ideal.ofBits .f32 0xFF800000#32 = ⊥
  simp [Ideal.ofBits, Ideal.ieee]

theorem amax_isMax (x : S32x8192x16.Idx → EReal) (j : S32x8192.Idx) :
    IsMax (fun k => x (ix3 (j 0) (j 1) k)) (Ref.amax (F := Ideal) x j) := by
  have e : Ref.amax (F := Ideal) x j = (Host.argReduce (F := Ideal) reducer_argmax_f32_i32 x (iotaInDim S32x8192x16 32 2) (constant S_ .f32 0xFF800000#32) (constantI S_ 32 0#32)
      reducesTo_S32x8192x16_S32x8192_d2 h_S_ j).2 := (congrFun (Ref.amaxF_def (F := Ideal) _ _ _ _) j).symm
  rw [e, Ideal.argReduce_eq_reduce2, Host.reduce2_eq_foldl_fiber, first_value]
  exact fold_isMax _ step_pick _ _ (mem_fiber x _ (fun _ => rfl) _ j)

/-! ## The scatters at one start -/

/-- A fold that acts at no element of the list. -/
theorem foldl_none {ι α : Type} (f : α → ι → α) (P : ι → Prop) [DecidablePred P] (L : List ι) (hP : ∀ n ∈ L, ¬ P n) (a : α) :
    L.foldl (fun a n => if P n then f a n else a) a = a := by
  induction L with
  | nil => rfl
  | cons b L ih =>
    rw [List.foldl_cons, if_neg (hP b List.mem_cons_self)]
    exact ih fun n hn => hP n (List.mem_cons_of_mem _ hn)

/-- A fold that acts at one element of the list. -/
theorem foldl_one {ι α : Type} (f : α → ι → α) (P : ι → Prop) [DecidablePred P] (L : List ι) (hn : L.Nodup) (n0 : ι) (hP : ∀ n, P n → n = n0)
    (h0 : P n0) (hm : n0 ∈ L) (a : α) : L.foldl (fun a n => if P n then f a n else a) a = f a n0 := by
  induction L generalizing a with
  | nil => simp at hm
  | cons b L ih =>
    obtain ⟨hb, hn⟩ := List.nodup_cons.1 hn
    rw [List.foldl_cons]
    by_cases h : P b
    · obtain rfl := hP b h
      rw [if_pos h, foldl_none f P L fun n hn hp => hb (hP n hp ▸ hn)]
    · rw [if_neg h]
      rcases List.mem_cons.1 hm with rfl | hm
      exacts [absurd h0 h, ih hn hm a]

/-- Where the updates of a block that starts at column `k` go. -/
theorem lands (k : ℕ) (hk : k + 16 ≤ 128) (j : S32x8192x16.Idx) (i : S32x8192x128.Idx) :
    scatter_S32x8192x128_S1_S32x8192x16_012_n_2_0.resultIdx? j (broadcastInDim S1 ![] bcast_S_S1 (constantI S_ 32 (BitVec.ofNat 32 k))) = some i
      ↔ (j 0).val = (i 0).val ∧ (j 1).val = (i 1).val ∧ k + (j 2).val = (i 2).val := by
  set d := scatter_S32x8192x128_S1_S32x8192x16_012_n_2_0
  set idx := broadcastInDim S1 ![] bcast_S_S1 (constantI S_ 32 (BitVec.ofNat 32 k))
  have w0 : d.window j 0 = (j 0).val := rfl
  have w1 : d.window j 1 = (j 1).val := rfl
  have w2 : d.window j 2 = (j 2).val := rfl
  have s0 : d.start j idx 0 = 0 := rfl
  have s1 : d.start j idx 1 = 0 := rfl
  have s2 : d.start j idx 2 = k := by
    show (BitVec.ofNat 32 k).toInt = k
    rw [BitVec.toInt_eq_toNat_of_lt (by rw [BitVec.toNat_ofNat]; omega), BitVec.toNat_ofNat]; omega
  have j0 : (j 0).val < 32 := (j 0).isLt
  have j1 : (j 1).val < 8192 := (j 1).isLt
  have j2 : (j 2).val < 16 := (j 2).isLt
  have hin : ∀ a, 0 ≤ d.start j idx a + d.window j a ∧ d.start j idx a + d.window j a < S32x8192x128.size a := by
    intro a
    match a with
    | ⟨0, _⟩ => show 0 ≤ d.start j idx 0 + d.window j 0 ∧ d.start j idx 0 + d.window j 0 < (32 : ℕ); rw [s0, w0]; omega
    | ⟨1, _⟩ => show 0 ≤ d.start j idx 1 + d.window j 1 ∧ d.start j idx 1 + d.window j 1 < (8192 : ℕ); rw [s1, w1]; omega
    | ⟨2, _⟩ => show 0 ≤ d.start j idx 2 + d.window j 2 ∧ d.start j idx 2 + d.window j 2 < (128 : ℕ); rw [s2, w2]; omega
  unfold ScatterDims.resultIdx?
  rw [dif_pos hin]
  constructor
  · intro e
    have e := Option.some.inj e
    have e0 : (d.start j idx 0 + d.window j 0).toNat = (i 0).val := congrArg Fin.val (congrFun e 0)
    have e1 : (d.start j idx 1 + d.window j 1).toNat = (i 1).val := congrArg Fin.val (congrFun e 1)
    have e2 : (d.start j idx 2 + d.window j 2).toNat = (i 2).val := congrArg Fin.val (congrFun e 2)
    rw [s0, w0] at e0; rw [s1, w1] at e1; rw [s2, w2] at e2
    omega
  · rintro ⟨e0, e1, e2⟩
    refine congrArg some (funext fun a => Fin.ext ?_)
    match a with
    | ⟨0, _⟩ => show (d.start j idx 0 + d.window j 0).toNat = (i 0).val; rw [s0, w0]; omega
    | ⟨1, _⟩ => show (d.start j idx 1 + d.window j 1).toNat = (i 1).val; rw [s1, w1]; omega
    | ⟨2, _⟩ => show (d.start j idx 2 + d.window j 2).toNat = (i 2).val; rw [s2, w2]; omega

/-- The array after the addition to the block from column `k`, at an element in the block. -/
theorem addAt_in (k : ℕ) (hk : k + 16 ≤ 128) (x : S32x8192x128.Idx → EReal) (u : S32x8192x16.Idx → EReal) (i : S32x8192x128.Idx) (c : Fin 16)
    (hc : (i 2).val = k + c.val) : Ref.addAt (F := Ideal) (BitVec.ofNat 32 k) x u i = x i + u (ix3 (i 0) (i 1) c) := by
  unfold Ref.addAt
  rw [Routing.scatter_at]
  refine (foldl_one (fun (a : EReal) n => a + u (S32x8192x16.rowMajor.symm n)) _ (List.finRange S32x8192x16.numel) (List.nodup_finRange _)
    (S32x8192x16.rowMajor (ix3 (i 0) (i 1) c)) (fun n hn => ?_) ?_ (List.mem_finRange _) (x i)).trans ?_
  · obtain ⟨h0, h1, h2⟩ := (lands k hk _ i).1 hn
    rw [← Equiv.symm_apply_eq]
    funext a
    match a with
    | ⟨0, _⟩ => exact Fin.ext h0
    | ⟨1, _⟩ => exact Fin.ext h1
    | ⟨2, _⟩ => exact Fin.ext (Nat.add_left_cancel (h2.trans hc))
  · rw [Equiv.symm_apply_apply]; exact (lands k hk _ i).2 ⟨rfl, rfl, hc.symm⟩
  · rw [Equiv.symm_apply_apply]

/-- The array after the addition to the block from column `k`, at an element outside the block. -/
theorem addAt_out (k : ℕ) (hk : k + 16 ≤ 128) (x : S32x8192x128.Idx → EReal) (u : S32x8192x16.Idx → EReal) (i : S32x8192x128.Idx)
    (hc : ∀ c : Fin 16, (i 2).val ≠ k + c.val) : Ref.addAt (F := Ideal) (BitVec.ofNat 32 k) x u i = x i := by
  unfold Ref.addAt
  rw [Routing.scatter_at]
  exact foldl_none (fun (a : EReal) n => a + u (S32x8192x16.rowMajor.symm n)) _ (List.finRange S32x8192x16.numel)
    (fun n _ h => hc (S32x8192x16.rowMajor.symm n 2) ((lands k hk _ i).1 h).2.2.symm) (x i)

/-! ## A row of the reference -/

/-- A row of the array. -/
def row (x : S32x8192x128.Idx → EReal) (p : Fin 32) (q : Fin 8192) : ℕ → EReal := fun c => x (ix3 p q ⟨c % 128, Nat.mod_lt _ (by decide)⟩)

variable (x : S32x8192x128.Idx → EReal) (p : Fin 32) (q : Fin 8192)

theorem mark_apply (k : ℕ) (hk : k < 128) (h : S32x8192x128.Slices ![0, 0, k] S32x8192x1) :
    shapeCast S32x8192 (extractStridedSlice S32x8192x1 ![0, 0, k] x h) shapeCasts_S32x8192x1_S32x8192 (ix2 p q) = row x p q k := by
  have e : Shape.reshapeEquiv shapeCasts_S32x8192x1_S32x8192 (ix2 p q) = ix3 p q (0 : Fin 1) :=
    Shape.reshapeEquiv_eq_of_rowMajor _ (by
      rw [Shape.rowMajor_val_three, Shape.rowMajor_val_two]
      show (p.val * 8192 + q.val) * 1 + 0 = p.val * 8192 + q.val
      omega)
  unfold shapeCast
  rw [e]
  refine congrArg x (funext fun a => Fin.ext ?_)
  match a with
  | ⟨0, _⟩ => exact Nat.zero_add _
  | ⟨1, _⟩ => exact Nat.zero_add _
  | ⟨2, _⟩ => exact (Nat.mod_eq_of_lt hk).symm

theorem marks_apply (y z : S32x8192.Idx → EReal) (j : S32x8192.Idx) (f : ℕ → EReal) (hy : y j = f 0) (hz : z j = f 1) :
    andi (cmpf (F := Ideal) (φ := .f32) .oge y (Ref.half (F := Ideal))) (cmpf (F := Ideal) (φ := .f32) .oge z (Ref.half (F := Ideal))) j = Run.okRow (F := Ideal) f := by
  unfold Run.okRow
  rw [← hy, ← hz]
  rfl

theorem mask_apply : Ref.mask (F := Ideal) x (ix2 p q) = Run.okRow (F := Ideal) (row x p q) :=
  marks_apply _ _ (ix2 p q) (row x p q) (mark_apply x p q 0 (by decide) slices_S32x8192x128_S32x8192x1_0_0_0)
    (mark_apply x p q 1 (by decide) slices_S32x8192x128_S32x8192x1_0_0_1)

theorem amax_digit (y : S32x8192x16.Idx → EReal) (f : ℕ → EReal) (ρ k : ℕ) (hy : ∀ c : Fin 16, y (ix3 p q c) = f (k + c.val)) :
    Ref.amax (F := Ideal) y (ix2 p q) = Run.digAt (F := Ideal) f ρ k := by
  have h : IsMax (fun c : Fin 16 => f (k + c.val)) (Ref.amax (F := Ideal) y (ix2 p q)) := by
    have e : (fun c : Fin 16 => y (ix3 p q c)) = fun c => f (k + c.val) := funext hy
    rw [← e]
    exact amax_isMax y (ix2 p q)
  exact h.unique (digit_isMax ρ fun c => f (k + c.val))

/-- The reference's digit of a row is the kernel's, wherever the kernel starts. -/
theorem digit_apply (ρ k : ℕ) (hk : k + 16 ≤ 128) (h : S32x8192x128.Slices ![0, 0, k] S32x8192x16) :
    Ref.amax (F := Ideal) (extractStridedSlice S32x8192x16 ![0, 0, k] x h) (ix2 p q) = Run.digAt (F := Ideal) (row x p q) ρ k := by
  refine amax_digit p q _ (row x p q) ρ k fun c => ?_
  refine congrArg x (funext fun a => Fin.ext ?_)
  match a with
  | ⟨0, _⟩ => exact Nat.zero_add _
  | ⟨1, _⟩ => exact Nat.zero_add _
  | ⟨2, _⟩ => exact (Nat.mod_eq_of_lt (show k + c.val < 128 by omega)).symm

theorem prod_apply (ρ : ℕ) : Ref.prod (F := Ideal) x (ix2 p q) = Run.prodAt (F := Ideal) (row x p q) ρ := by
  unfold Run.prodAt
  rw [← digit_apply x p q ρ 16 (by decide) slices_S32x8192x128_S32x8192x16_0_0_16, ← digit_apply x p q ρ 32 (by decide) slices_S32x8192x128_S32x8192x16_0_0_32,
    ← digit_apply x p q ρ 48 (by decide) slices_S32x8192x128_S32x8192x16_0_0_48, ← digit_apply x p q ρ 64 (by decide) slices_S32x8192x128_S32x8192x16_0_0_64]
  rfl

/-- What is added to a block, at an element. -/
theorem upd_apply (m : S32x8192.Idx → BitVec 1) (v : S32x8192.Idx → BitVec 32) (c : Fin 16) :
    Ref.upd (F := Ideal) m v (ix3 p q c) = if m (ix2 p q) = 1 ∧ v (ix2 p q) = BitVec.ofNat 32 c.val then Run.two (F := Ideal) else (0 : EReal) := by
  have ev (α : Type) (w : S32x8192.Idx → α) : broadcastInDim S32x8192x16 ![0, 1, 2] bcast_S32x8192x1_S32x8192x16_0_1_2
      (broadcastInDim S32x8192x1 ![0, 1] bcast_S32x8192_S32x8192x1_0_1 w) (ix3 p q c) = w (ix2 p q) := by
    refine congrArg w (funext fun a => Fin.ext ?_)
    match a with
    | ⟨0, _⟩ => rfl
    | ⟨1, _⟩ => rfl
  have e : Ref.upd (F := Ideal) m v (ix3 p q c)
      = (((IntOp.cmpi .eq (v (ix2 p q)) (BitVec.ofNat 32 c.val)).toNat : ℝ) : EReal) * Run.two (F := Ideal) * (((m (ix2 p q)).toNat : ℝ) : EReal) := by
    rw [← ev _ v, ← ev _ m]; rfl
  rw [e]
  have hm : m (ix2 p q) = 0 ∨ m (ix2 p q) = 1 := by
    generalize m (ix2 p q) = b
    revert b; decide
  rcases hm with hm | hm <;> by_cases hv : v (ix2 p q) = BitVec.ofNat 32 c.val <;> simp [hm, hv, IntOp.cmpi]

/-! ## The two bytes' product in its digits -/

theorem prodAt_lt (f : ℕ → EReal) (ρ : ℕ) : (Run.prodAt (F := Ideal) f ρ).toNat < 256 := by
  unfold Run.prodAt Run.prodRow
  generalize IntOp.muli _ _ = b
  show (b &&& 255#32).toNat < 256
  rw [BitVec.toNat_and, show (255#32).toNat = 2 ^ 8 - 1 from rfl, Nat.and_two_pow_sub_one_eq_mod]
  omega

theorem low_toNat (b : BitVec 32) : (IntOp.andi b 15#32).toNat = b.toNat % 16 := by
  show (b &&& 15#32).toNat = _
  rw [BitVec.toNat_and, show (15#32).toNat = 2 ^ 4 - 1 from rfl, Nat.and_two_pow_sub_one_eq_mod]

theorem high_toNat (u : ArithUnit) (b : BitVec 32) (hb : b.toNat < 256) : (IntOp.shrsi u b 4#32).toNat = b.toNat / 16 := by
  have e : IntOp.shrsi u b 4#32 = b >>> 4 := by
    have hm : b.msb = false := by rw [BitVec.msb_eq_false_iff_two_mul_lt]; omega
    show (if (4#32).toNat < 32 then b.sshiftRight (4#32).toNat else _) = _
    rw [if_pos (by decide), BitVec.sshiftRight_eq_of_msb_false hm]; rfl
  rw [e, BitVec.toNat_ushiftRight, Nat.shiftRight_eq_div_pow]

/-! ## The reference's result, row by row -/

theorem word_eq_iff (b : BitVec 32) (n c : ℕ) (hb : b.toNat = n) (hc : c < 16) : b = BitVec.ofNat 32 c ↔ c = n := by
  constructor
  · rintro rfl
    rw [BitVec.toNat_ofNat] at hb; omega
  · rintro rfl
    apply BitVec.eq_of_toNat_eq
    rw [BitVec.toNat_ofNat, hb]; omega

theorem out_apply (ρ : ℕ) (c : Fin 128) : Ref.out (F := Ideal) x (ix3 p q c) = Run.rowVal (F := Ideal) (row x p q) ρ c.val := by
  have hP := prodAt_lt (row x p q) ρ
  have hl : (Ref.low (F := Ideal) x (ix2 p q)).toNat = (Run.prodAt (F := Ideal) (row x p q) ρ).toNat % 16 := by
    rw [← prod_apply]; exact low_toNat _
  have hh : (Ref.high (F := Ideal) x (ix2 p q)).toNat = (Run.prodAt (F := Ideal) (row x p q) ρ).toNat / 16 := by
    have h1 := low_toNat (IntOp.shrsi .host (Ref.prod (F := Ideal) x (ix2 p q)) 4#32)
    rw [prod_apply x p q ρ, high_toNat _ _ hP] at h1
    rw [← prod_apply x p q ρ] at h1 ⊢
    refine h1.trans ?_
    rw [prod_apply x p q ρ]; omega
  have hx : row x p q c.val = x (ix3 p q c) := congrArg (fun d => x (ix3 p q d)) (Fin.ext (Nat.mod_eq_of_lt c.isLt))
  have hm := mask_apply x p q
  have hc := c.isLt
  unfold Run.rowVal
  rw [low_toNat, high_toNat _ _ hP, hx, ← hm]
  generalize (Run.prodAt (F := Ideal) (row x p q) ρ).toNat = P at *
  unfold Ref.out
  generalize Ref.mask (F := Ideal) x = M at *
  generalize Ref.low (F := Ideal) x = lo at *
  generalize Ref.high (F := Ideal) x = hi at *
  by_cases h80 : 80 ≤ c.val ∧ c.val < 96
  · rw [addAt_out 96 (by omega) _ _ _ (fun d h => by change c.val = 96 + d.val at h; omega),
      addAt_in 80 (by omega) _ _ _ ⟨c.val - 80, by omega⟩ (by show c.val = 80 + (c.val - 80); omega)]
    show x (ix3 p q c) + Ref.upd (F := Ideal) M lo (ix3 p q _) = _
    rw [upd_apply]
    simp only [word_eq_iff _ _ _ hl (show c.val - 80 < 16 by omega)]
    by_cases h : M (ix2 p q) = 1 ∧ c.val - 80 = P % 16
    · rw [if_pos h, if_pos ⟨h.1, .inl (by omega)⟩]; rfl
    · rw [if_neg h, if_neg (by rintro ⟨a, b⟩; exact h ⟨a, by omega⟩)]; exact add_zero _
  · by_cases h96 : 96 ≤ c.val ∧ c.val < 112
    · rw [addAt_in 96 (by omega) _ _ _ ⟨c.val - 96, by omega⟩ (by show c.val = 96 + (c.val - 96); omega),
        addAt_out 80 (by omega) _ _ _ (fun d h => by change c.val = 80 + d.val at h; omega)]
      show x (ix3 p q c) + Ref.upd (F := Ideal) M hi (ix3 p q _) = _
      rw [upd_apply]
      simp only [word_eq_iff _ _ _ hh (show c.val - 96 < 16 by omega)]
      by_cases h : M (ix2 p q) = 1 ∧ c.val - 96 = P / 16
      · rw [if_pos h, if_pos ⟨h.1, .inr (by omega)⟩]; rfl
      · rw [if_neg h, if_neg (by rintro ⟨a, b⟩; exact h ⟨a, by omega⟩)]; exact add_zero _
    · rw [addAt_out 96 (by omega) _ _ _ (fun d h => by change c.val = 96 + d.val at h; omega),
        addAt_out 80 (by omega) _ _ _ (fun d h => by change c.val = 80 + d.val at h; omega), if_neg (by rintro ⟨-, b⟩; omega)]

/-! ## The kernel's result, row by row -/

theorem flat_apply (f : Cert.KernelIdeal.S33554432.Idx → EReal) (c : Fin 128) :
    shapeCast Cert.KernelIdeal.S32x8192x128 f Cert.KernelIdeal.Gen.shapeCasts_S33554432_S32x8192x128 (ix3 p q c) = f (Run.gw (128 * (8192 * p.val + q.val) + c.val)) := by
  refine congrArg f (Shape.reshapeEquiv_eq_of_rowMajor _ ?_)
  rw [Shape.rowMajor_val_one, Shape.rowMajor_val_three]
  have := p.isLt; have := q.isLt; have := c.isLt
  show (128 * (8192 * p.val + q.val) + c.val) % 33554432 = (p.val * 8192 + q.val) * 128 + c.val
  omega

theorem unflat_apply (c : Fin 128) (n : ℕ) (hn : n = 128 * (8192 * p.val + q.val) + c.val) :
    shapeCast Cert.KernelIdeal.S33554432 x Cert.KernelIdeal.Gen.shapeCasts_S32x8192x128_S33554432 (Run.gw n) = x (ix3 p q c) := by
  subst hn
  refine congrArg x (Shape.reshapeEquiv_eq_of_rowMajor _ ?_)
  rw [Shape.rowMajor_val_one, Shape.rowMajor_val_three]
  have := p.isLt; have := q.isLt; have := c.isLt
  show (p.val * 8192 + q.val) * 128 + c.val = (128 * (8192 * p.val + q.val) + c.val) % 33554432
  omega

theorem kOut_apply (c : Fin 128) : Run.kOut (F := Ideal) (shapeCast Cert.KernelIdeal.S33554432 x Cert.KernelIdeal.Gen.shapeCasts_S32x8192x128_S33554432)
    (Run.gw (128 * (8192 * p.val + q.val) + c.val)) = Run.rowVal (F := Ideal) (row x p q) (q.val % 16) c.val := by
  have hp := p.isLt; have hq := q.isLt; have hc := c.isLt
  have h0 : (Run.gw (128 * (8192 * p.val + q.val) + c.val) 0).val = 128 * (8192 * p.val + q.val) + c.val := Nat.mod_eq_of_lt (by omega)
  unfold Run.kOut Run.chunkOut
  rw [h0]
  have h1 : (Run.wd (128 * (8192 * p.val + q.val) + c.val) 0).val = 128 * (q.val % 128) + c.val := by
    show (128 * (8192 * p.val + q.val) + c.val) % 16384 = _
    omega
  rw [h1, show (128 * (q.val % 128) + c.val) / 128 = q.val % 128 by omega, show (128 * (q.val % 128) + c.val) % 128 = c.val by omega,
    show q.val % 128 % 16 = q.val % 16 by omega]
  congr 1
  funext d
  unfold Run.rowOf Run.chunk row
  refine unflat_apply x p q ⟨d % 128, Nat.mod_lt _ (by decide)⟩ _ ?_
  show 16384 * ((128 * (8192 * p.val + q.val) + c.val) / 16384) + (128 * (q.val % 128) + d % 128) % 16384 = 128 * (8192 * p.val + q.val) + d % 128
  omega

theorem value_eq : Ref.out (F := Ideal) x = shapeCast Cert.KernelIdeal.S32x8192x128
    (Run.kOut (F := Ideal) (shapeCast Cert.KernelIdeal.S33554432 x Cert.KernelIdeal.Gen.shapeCasts_S32x8192x128_S33554432))
    Cert.KernelIdeal.Gen.shapeCasts_S33554432_S32x8192x128 := by
  funext i
  rw [eq_ix3 i]
  exact (out_apply x (i 0) (i 1) _ (i 2)).trans ((flat_apply (i 0) (i 1) _ (i 2)).trans (kOut_apply x (i 0) (i 1) (i 2))).symm

end Cert.Proof.Value

end
-- ==== Proof.lean ====
/-
  The proof of `Cert.Claim`: the kernel's run (Proof/Launch.lean) read at the kernel's two forms, and the reference's
  (Proof/Ref.lean), and that the two results are equal (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).2, h.2⟩) (Run.run_main (F := Bits) m ρ)

theorem frame_kernelIdeal : Cert.quiescent_KernelIdeal := fun m ρ _ =>
  (θ_run Cert.KernelIdeal.defs _ _).mono (fun _ h => ⟨fun c => (h.1 c).2, h.2⟩) (Run.run_main (F := Ideal) m ρ)

theorem frame_reference : Cert.quiescent_ReferenceIdeal := fun m ρ _ =>
  (θ_run Cert.ReferenceIdeal.defs _ _).mono (fun r h => ⟨fun c => (h c Cert.ReferenceIdeal.main_arg0).trans (Ref.arg0_eq _),
    sem_eq_zero_of_no_sems (by decide) r.2⟩) (Ref.run_main (F := Ideal) m ρ)

theorem algebraic : Cert.algebraic_KernelIdeal_ReferenceIdeal := by
  intro m ρ m' ρ' _ hagree
  refine ⟨fun c => Run.RV m c, (θ_run Cert.KernelIdeal.defs _ _).mono (fun _ h c => h.1 c) (Run.run_main (F := Ideal) m ρ), ?_⟩
  refine (θ_run Cert.ReferenceIdeal.defs _ _).mono
    (fun _ h c => ⟨((h c Cert.ReferenceIdeal.main_v47).trans (Ref.out_eq _)).trans ?_, (h c Cert.ReferenceIdeal.main_arg0).trans (Ref.arg0_eq _)⟩)
    (Ref.run_main (F := Ideal) m' ρ')
  exact (congrArg Ref.out (hagree c)).trans (Value.value_eq _)

theorem claim : Cert.Claim := ⟨Cert.Kernel.Gen.facts, Cert.KernelIdeal.Gen.facts, Cert.ReferenceIdeal.Gen.facts,
  frame_kernel, frame_kernelIdeal, frame_reference, trivial, algebraic⟩

end Cert.Proof

end
